-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def preserves_Kernel_KernelIdeal : Prop :=
  True

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_InProj_InProjIdeal : Prop :=
  IdealRules.named_const.Statement Cert.InProjIdeal.κ "q_scale" .f32 0x3E0293EE#32 ((((Real.sqrt 128) * (Real.log 2))⁻¹ : ℝ) : EReal)

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v86_0)) (v1 : (c : Dev Cert.InProjIdeal.nD) → Buf (Elt Ideal) ((c.tc : Thread Cert.InProjIdeal.nD Cert.InProjIdeal.τ).loc Cert.InProjIdeal.main_v86_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v86_0) = v0 c
          ∧ r.2.mem ((c.tc : Thread Cert.InProjIdeal.nD Cert.InProjIdeal.τ).loc Cert.InProjIdeal.main_v86_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v258) = v0 c
          ∧ r.2.mem ((c.tc : Thread Cert.InProjRefIdeal.nD Cert.InProjRefIdeal.τ).loc Cert.InProjRefIdeal.main_v259) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v11)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v130) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hPre_finite_keys : Cert.Pre_finite_keys.Facts),
    quiescent_Kernel (hKernel := hKernel)
    ∧ quiescent_KernelIdeal (hKernelIdeal := hKernelIdeal)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ preserves_Kernel_KernelIdeal
    ∧ algebraic_KernelIdeal_ReferenceIdeal_pre_finite_keys (hKernelIdeal := hKernelIdeal) (hReferenceIdeal := hReferenceIdeal) (hPre_finite_keys := hPre_finite_keys)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
-- ==== Pre_finite_keys.lean ====
abbrev S4x4096x8x128 : Shape := ⟨4, ![4, 4096, 8, 128]⟩
abbrev S4x4096x8x64 : Shape := ⟨4, ![4, 4096, 8, 64]⟩
abbrev S4x4096x64 : Shape := ⟨3, ![4, 4096, 64]⟩
abbrev S4x256x8x128 : Shape := ⟨4, ![4, 256, 8, 128]⟩
abbrev S4x256x64 : Shape := ⟨3, ![4, 256, 64]⟩
abbrev S_ : Shape := ⟨0, ![]⟩

class Facts : Prop where
  bcast_S_S4x4096x8x128 : S_.BroadcastsInDim S4x4096x8x128 (![] : Fin 0 → Fin S4x4096x8x128.rank)
  bcast_S_S4x4096x8x64 : S_.BroadcastsInDim S4x4096x8x64 (![] : Fin 0 → Fin S4x4096x8x64.rank)
  bcast_S_S4x4096x64 : S_.BroadcastsInDim S4x4096x64 (![] : Fin 0 → Fin S4x4096x64.rank)
  bcast_S_S4x256x8x128 : S_.BroadcastsInDim S4x256x8x128 (![] : Fin 0 → Fin S4x256x8x128.rank)
  bcast_S_S4x256x64 : S_.BroadcastsInDim S4x256x64 (![] : Fin 0 → Fin S4x256x64.rank)

variable [Facts]

def fn {F : FTy → Type} [FloatOps F] (main_arg0 : FVec F S4x4096x8x128 .f32) (main_arg1 : FVec F S4x4096x8x64 .f32) (main_arg2 : FVec F S4x4096x8x128 .f32) (main_arg3 : FVec F S4x4096x64 .f32) (main_arg4 : FVec F S4x4096x8x128 .f32) (main_arg5 : FVec F S4x256x8x128 .f32) (main_arg6 : FVec F S4x256x64 .f32) (main_arg7 : FVec F S4x256x8x128 .f32) : IVec S4x4096x8x128 1 × IVec S4x4096x8x64 1 × IVec S4x4096x8x128 1 × IVec S4x4096x64 1 × IVec S4x256x8x128 1 × IVec S4x256x64 1 :=
  let main_v0 : FVec F S4x4096x8x128 .f32 := Host.absf main_arg0
  let main_cst : FVec F S_ .f32 := constant S_ .f32 0x7F800000#32
  let main_v1 : FVec F S4x4096x8x128 .f32 := broadcastInDim S4x4096x8x128 ![] bcast_S_S4x4096x8x128 main_cst
  let main_v2 : IVec S4x4096x8x128 1 := cmpf .olt main_v0 main_v1
  let main_v3 : FVec F S4x4096x8x64 .f32 := Host.absf main_arg1
  let main_cst_0 : FVec F S_ .f32 := constant S_ .f32 0x7F800000#32
  let main_v4 : FVec F S4x4096x8x64 .f32 := broadcastInDim S4x4096x8x64 ![] bcast_S_S4x4096x8x64 main_cst_0
  let main_v5 : IVec S4x4096x8x64 1 := cmpf .olt main_v3 main_v4
  let main_v6 : FVec F S4x4096x8x128 .f32 := Host.absf main_arg2
  let main_cst_1 : FVec F S_ .f32 := constant S_ .f32 0x7F800000#32
  let main_v7 : FVec F S4x4096x8x128 .f32 := broadcastInDim S4x4096x8x128 ![] bcast_S_S4x4096x8x128 main_cst_1
  let main_v8 : IVec S4x4096x8x128 1 := cmpf .olt main_v6 main_v7
  let main_v9 : FVec F S4x4096x64 .f32 := Host.absf main_arg3
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  let main_v12 : FVec F S4x256x8x128 .f32 := Host.absf main_arg5
  let main_cst_3 : FVec F S_ .f32 := constant S_ .f32 0x7F800000#32
  let main_v13 : FVec F S4x256x8x128 .f32 := broadcastInDim S4x256x8x128 ![] bcast_S_S4x256x8x128 main_cst_3
  let main_v14 : IVec S4x256x8x128 1 := cmpf .olt main_v12 main_v13
  let main_v15 : FVec F S4x256x64 .f32 := Host.absf main_arg6
  let main_cst_4 : FVec F S_ .f32 := constant S_ .f32 0x7F800000#32
  let main_v16 : FVec F S4x256x64 .f32 := broadcastInDim S4x256x64 ![] bcast_S_S4x256x64 main_cst_4
  let main_v17 : IVec S4x256x64 1 := cmpf .olt main_v15 main_v16
  (main_v2, main_v5, main_v8, main_v11, main_v14, main_v17)
-- ==== Kernel.lean ====
abbrev S4x4096x8x128 : Shape := ⟨4, ![4, 4096, 8, 128]⟩
abbrev S4x4096x8x64 : Shape := ⟨4, ![4, 4096, 8, 64]⟩
abbrev S4x4096x64 : Shape := ⟨3, ![4, 4096, 64]⟩
abbrev S4x256x8x128 : Shape := ⟨4, ![4, 256, 8, 128]⟩
abbrev S4x256x64 : Shape := ⟨3, ![4, 256, 64]⟩
abbrev S_ : Shape := ⟨0, ![]⟩
abbrev S4x4096x8x256 : Shape := ⟨4, ![4, 4096, 8, 256]⟩
abbrev S16384x2048 : Shape := ⟨2, ![16384, 2048]⟩
abbrev S4x4096x1x64 : Shape := ⟨4, ![4, 4096, 1, 64]⟩
abbrev S4x256x1x64 : Shape := ⟨4, ![4, 256, 1, 64]⟩
abbrev S4x256x8x64 : Shape := ⟨4, ![4, 256, 8, 64]⟩
abbrev S4x256x8x256 : Shape := ⟨4, ![4, 256, 8, 256]⟩
abbrev S1024x2048 : Shape := ⟨2, ![1024, 2048]⟩
abbrev S16384x1024 : Shape := ⟨2, ![16384, 1024]⟩
abbrev S1024x256 : Shape := ⟨2, ![1024, 256]⟩
abbrev S4096x256 : Shape := ⟨2, ![4096, 256]⟩
abbrev S256x256 : Shape := ⟨2, ![256, 256]⟩
abbrev S1024x128 : Shape := ⟨2, ![1024, 128]⟩
abbrev S1024x4352 : Shape := ⟨2, ![1024, 4352]⟩
abbrev S1024x1 : Shape := ⟨2, ![1024, 1]⟩
abbrev S1024x4096 : Shape := ⟨2, ![1024, 4096]⟩
abbrev S1024 : Shape := ⟨1, ![1024]⟩

abbrev nBuf : Space → Nat
  | .hbm => 49
  | .vmem => 16
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x8x64, .f32⟩
  | .hbm, ⟨2, _⟩ => ⟨S4x4096x8x128, .f32⟩
  | .hbm, ⟨3, _⟩ => ⟨S4x4096x64, .f32⟩
  | .hbm, ⟨4, _⟩ => ⟨S4x4096x8x128, .f32⟩
  | .hbm, ⟨5, _⟩ => ⟨S4x256x8x128, .f32⟩
  | .hbm, ⟨6, _⟩ => ⟨S4x256x64, .f32⟩
  | .hbm, ⟨7, _⟩ => ⟨S4x256x8x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x4096x8x128, .f32⟩
  | .hbm, ⟨16, _⟩ => ⟨S4x4096x8x128, .f32⟩
  | .hbm, ⟨17, _⟩ => ⟨S4x4096x8x64, .f32⟩
  | .hbm, ⟨18, _⟩ => ⟨S4x4096x8x64, .f32⟩
  | .hbm, ⟨19, _⟩ => ⟨S_, .f32⟩
  | .hbm, ⟨20, _⟩ => ⟨S4x4096x8x64, .f32⟩
  | .hbm, ⟨21, _⟩ => ⟨S4x4096x8x256, .f32⟩
  | .hbm, ⟨22, _⟩ => ⟨S4x4096x8x256, .bf16⟩
  | .hbm, ⟨23, _⟩ => ⟨S16384x2048, .bf16⟩
  | .hbm, ⟨24, _⟩ => ⟨S4x4096x1x64, .f32⟩
  | .hbm, ⟨25, _⟩ => ⟨S4x4096x8x64, .f32⟩
  | .hbm, ⟨26, _⟩ => ⟨S_, .f32⟩
  | .hbm, ⟨27, _⟩ => ⟨S4x4096x8x64, .f32⟩
  | .hbm, ⟨28, _⟩ => ⟨S4x4096x8x256, .f32⟩
  | .hbm, ⟨29, _⟩ => ⟨S4x4096x8x256, .bf16⟩
  | .hbm, ⟨30, _⟩ => ⟨S16384x2048, .bf16⟩
  | .hbm, ⟨31, _⟩ => ⟨S4x256x1x64, .f32⟩
  | .hbm, ⟨32, _⟩ => ⟨S4x256x8x64, .f32⟩
  | .hbm, ⟨33, _⟩ => ⟨S_, .f32⟩
  | .hbm, ⟨34, _⟩ => ⟨S4x256x8x64, .f32⟩
  | .hbm, ⟨35, _⟩ => ⟨S4x256x8x256, .f32⟩
  | .hbm, ⟨36, _⟩ => ⟨S4x256x8x256, .bf16⟩
  | .hbm, ⟨37, _⟩ => ⟨S1024x2048, .bf16⟩
  | .hbm, ⟨38, _⟩ => ⟨S_, .f32⟩
  | .hbm, ⟨39, _⟩ => ⟨S4x4096x8x128, .f32⟩
  | .hbm, ⟨40, _⟩ => ⟨S4x4096x8x256, .f32⟩
  | .hbm, ⟨41, _⟩ => ⟨S4x4096x8x256, .bf16⟩
  | .hbm, ⟨42, _⟩ => ⟨S16384x2048, .bf16⟩
  | .hbm, ⟨43, _⟩ => ⟨S_, .f32⟩
  | .hbm, ⟨44, _⟩ => ⟨S4x256x8x128, .f32⟩
  | .hbm, ⟨45, _⟩ => ⟨S4x256x8x256, .f32⟩
  | .hbm, ⟨46, _⟩ => ⟨S4x256x8x256, .bf16⟩
  | .hbm, ⟨47, _⟩ => ⟨S1024x2048, .bf16⟩
  | .hbm, ⟨48, _⟩ => ⟨S16384x1024, .bf16⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S256x256, .bf16⟩
  | .local _ .vmem, ⟨5, _⟩ => ⟨S256x256, .bf16⟩
  | .local _ .vmem, ⟨6, _⟩ => ⟨S4096x256, .bf16⟩
  | .local _ .vmem, ⟨7, _⟩ => ⟨S4096x256, .bf16⟩
  | .local _ .vmem, ⟨8, _⟩ => ⟨S256x256, .bf16⟩
  | .local _ .vmem, ⟨9, _⟩ => ⟨S256x256, .bf16⟩
  | .local _ .vmem, ⟨10, _⟩ => ⟨S1024x128, .bf16⟩
  | .local _ .vmem, ⟨11, _⟩ => ⟨S1024x128, .bf16⟩
  | .local _ .vmem, ⟨12, _⟩ => ⟨S1024x4352, .f32⟩
  | .local _ .vmem, ⟨13, _⟩ => ⟨S1024x1, .f32⟩
  | .local _ .vmem, ⟨14, _⟩ => ⟨S1024x4352, .f32⟩
  | .local _ .vmem, ⟨15, _⟩ => ⟨S1024x1, .f32⟩
  | _, _ => ⟨S4x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![129], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.muli v17 c4_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c127_i32_10 : BitVec 32 := 127#32
  let v30 : BitVec 32 := Scalar.minsi arg0 c127_i32_10
  let c4_i32_11 : BitVec 32 := 4#32
  let v31 : BitVec 32 := Scalar.divsi v30 c4_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c4_i32_11 c0_i32_14
  let v38 : BitVec 32 := Scalar.extui v37
  let c0_i32_15 : BitVec 32 := 0#32
  let v39 : BitVec 1 := Scalar.cmpi .slt c4_i32_11 c0_i32_15
  let v40 : BitVec 32 := Scalar.extui v39
  let v41 : BitVec 32 := Scalar.subi v38 v40
  let v42 : BitVec 1 := Scalar.cmpi .ne v36 v41
  let v43 : BitVec 32 := Scalar.remsi v30 c4_i32_11
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c8_i32 : BitVec 32 := 8#32
  let c0_i32_18 : BitVec 32 := 0#32
  let v48 : BitVec 1 := Scalar.cmpi .eq c8_i32 c0_i32_18
  let c1_i32_19 : BitVec 32 := 1#32
  let v49 : BitVec 32 := Scalar.select v48 c1_i32_19 c8_i32
  let v50 : BitVec 32 := Scalar.remsi v47 v49
  let c0_i32_20 : BitVec 32 := 0#32
  let v51 : BitVec 1 := Scalar.cmpi .ne v50 c0_i32_20
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let v55 : BitVec 1 := Scalar.andi v54 v51
  let v56 : BitVec 32 := Scalar.addi v50 v49
  let v57 : BitVec 32 := Scalar.select v55 v56 v50
  let c0_i32_23 : BitVec 32 := 0#32
  ![v29.toNat, v57.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c127_i32_4 : BitVec 32 := 127#32
  let v18 : BitVec 32 := Scalar.minsi arg0 c127_i32_4
  let c4_i32 : BitVec 32 := 4#32
  let v19 : BitVec 32 := Scalar.divsi v18 c4_i32
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c0_i32_7 : BitVec 32 := 0#32
  let v25 : BitVec 1 := Scalar.cmpi .sgt c4_i32 c0_i32_7
  let v26 : BitVec 32 := Scalar.extui v25
  let c0_i32_8 : BitVec 32 := 0#32
  let v27 : BitVec 1 := Scalar.cmpi .slt c4_i32 c0_i32_8
  let v28 : BitVec 32 := Scalar.extui v27
  let v29 : BitVec 32 := Scalar.subi v26 v28
  let v30 : BitVec 1 := Scalar.cmpi .ne v24 v29
  let v31 : BitVec 32 := Scalar.remsi v18 c4_i32
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let c8_i32 : BitVec 32 := 8#32
  let c0_i32_11 : BitVec 32 := 0#32
  let v36 : BitVec 1 := Scalar.cmpi .eq c8_i32 c0_i32_11
  let c1_i32_12 : BitVec 32 := 1#32
  let v37 : BitVec 32 := Scalar.select v36 c1_i32_12 c8_i32
  let v38 : BitVec 32 := Scalar.remsi v35 v37
  let c0_i32_13 : BitVec 32 := 0#32
  let v39 : BitVec 1 := Scalar.cmpi .ne v38 c0_i32_13
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let v43 : BitVec 1 := Scalar.andi v42 v39
  let v44 : BitVec 32 := Scalar.addi v38 v37
  let v45 : BitVec 32 := Scalar.select v43 v44 v38
  let c0_i32_16 : BitVec 32 := 0#32
  ![v17.toNat, v45.toNat]

def cc0_transform_2 (i : grid0.Coords) : Fin 2 → Nat :=
  let arg0 : BitVec 32 := BitVec.ofNat 32 (i 0).val
  let c127_i32 : BitVec 32 := 127#32
  let v0 : BitVec 32 := Scalar.minsi arg0 c127_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c127_i32_4 : BitVec 32 := 127#32
  let v18 : BitVec 32 := Scalar.minsi arg0 c127_i32_4
  let c4_i32 : BitVec 32 := 4#32
  let v19 : BitVec 32 := Scalar.divsi v18 c4_i32
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c0_i32_7 : BitVec 32 := 0#32
  let v25 : BitVec 1 := Scalar.cmpi .sgt c4_i32 c0_i32_7
  let v26 : BitVec 32 := Scalar.extui v25
  let c0_i32_8 : BitVec 32 := 0#32
  let v27 : BitVec 1 := Scalar.cmpi .slt c4_i32 c0_i32_8
  let v28 : BitVec 32 := Scalar.extui v27
  let v29 : BitVec 32 := Scalar.subi v26 v28
  let v30 : BitVec 1 := Scalar.cmpi .ne v24 v29
  let v31 : BitVec 32 := Scalar.remsi v18 c4_i32
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let c8_i32 : BitVec 32 := 8#32
  let c0_i32_11 : BitVec 32 := 0#32
  let v36 : BitVec 1 := Scalar.cmpi .eq c8_i32 c0_i32_11
  let c1_i32_12 : BitVec 32 := 1#32
  let v37 : BitVec 32 := Scalar.select v36 c1_i32_12 c8_i32
  let v38 : BitVec 32 := Scalar.remsi v35 v37
  let c0_i32_13 : BitVec 32 := 0#32
  let v39 : BitVec 1 := Scalar.cmpi .ne v38 c0_i32_13
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let v43 : BitVec 1 := Scalar.andi v42 v39
  let v44 : BitVec 32 := Scalar.addi v38 v37
  let v45 : BitVec 32 := Scalar.select v43 v44 v38
  let c0_i32_16 : BitVec 32 := 0#32
  ![v17.toNat, v45.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32 : BitVec 32 := 4#32
  let v21 : BitVec 32 := Scalar.divsi v20 c4_i32
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c0_i32_10 : BitVec 32 := 0#32
  let v27 : BitVec 1 := Scalar.cmpi .sgt c4_i32 c0_i32_10
  let v28 : BitVec 32 := Scalar.extui v27
  let c0_i32_11 : BitVec 32 := 0#32
  let v29 : BitVec 1 := Scalar.cmpi .slt c4_i32 c0_i32_11
  let v30 : BitVec 32 := Scalar.extui v29
  let v31 : BitVec 32 := Scalar.subi v28 v30
  let v32 : BitVec 1 := Scalar.cmpi .ne v26 v31
  let v33 : BitVec 32 := Scalar.remsi v20 c4_i32
  let c0_i32_12 : BitVec 32 := 0#32
  let v34 : BitVec 1 := Scalar.cmpi .ne v33 c0_i32_12
  let v35 : BitVec 1 := Scalar.andi v32 v34
  let c1_i32_13 : BitVec 32 := 1#32
  let v36 : BitVec 32 := Scalar.subi v21 c1_i32_13
  let v37 : BitVec 32 := Scalar.select v35 v36 v21
  let c8_i32 : BitVec 32 := 8#32
  let c0_i32_14 : BitVec 32 := 0#32
  let v38 : BitVec 1 := Scalar.cmpi .eq c8_i32 c0_i32_14
  let c1_i32_15 : BitVec 32 := 1#32
  let v39 : BitVec 32 := Scalar.select v38 c1_i32_15 c8_i32
  let v40 : BitVec 32 := Scalar.remsi v37 v39
  let c0_i32_16 : BitVec 32 := 0#32
  let v41 : BitVec 1 := Scalar.cmpi .ne v40 c0_i32_16
  let c0_i32_17 : BitVec 32 := 0#32
  let v42 : BitVec 1 := Scalar.cmpi .slt v40 c0_i32_17
  let c0_i32_18 : BitVec 32 := 0#32
  let v43 : BitVec 1 := Scalar.cmpi .slt v39 c0_i32_18
  let v44 : BitVec 1 := Scalar.xori v42 v43
  let v45 : BitVec 1 := Scalar.andi v44 v41
  let v46 : BitVec 32 := Scalar.addi v40 v39
  let v47 : BitVec 32 := Scalar.select v45 v46 v40
  let c0_i32_19 : BitVec 32 := 0#32
  ![v18.toNat, v47.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32 : BitVec 32 := 4#32
  let v21 : BitVec 32 := Scalar.divsi v20 c4_i32
  let c0_i32_8 : BitVec 32 := 0#32
  let v22 : BitVec 1 := Scalar.cmpi .sgt v20 c0_i32_8
  let v23 : BitVec 32 := Scalar.extui v22
  let c0_i32_9 : BitVec 32 := 0#32
  let v24 : BitVec 1 := Scalar.cmpi .slt v20 c0_i32_9
  let v25 : BitVec 32 := Scalar.extui v24
  let v26 : BitVec 32 := Scalar.subi v23 v25
  let c0_i32_10 : BitVec 32 := 0#32
  let v27 : BitVec 1 := Scalar.cmpi .sgt c4_i32 c0_i32_10
  let v28 : BitVec 32 := Scalar.extui v27
  let c0_i32_11 : BitVec 32 := 0#32
  let v29 : BitVec 1 := Scalar.cmpi .slt c4_i32 c0_i32_11
  let v30 : BitVec 32 := Scalar.extui v29
  let v31 : BitVec 32 := Scalar.subi v28 v30
  let v32 : BitVec 1 := Scalar.cmpi .ne v26 v31
  let v33 : BitVec 32 := Scalar.remsi v20 c4_i32
  let c0_i32_12 : BitVec 32 := 0#32
  let v34 : BitVec 1 := Scalar.cmpi .ne v33 c0_i32_12
  let v35 : BitVec 1 := Scalar.andi v32 v34
  let c1_i32_13 : BitVec 32 := 1#32
  let v36 : BitVec 32 := Scalar.subi v21 c1_i32_13
  let v37 : BitVec 32 := Scalar.select v35 v36 v21
  let c8_i32 : BitVec 32 := 8#32
  let c0_i32_14 : BitVec 32 := 0#32
  let v38 : BitVec 1 := Scalar.cmpi .eq c8_i32 c0_i32_14
  let c1_i32_15 : BitVec 32 := 1#32
  let v39 : BitVec 32 := Scalar.select v38 c1_i32_15 c8_i32
  let v40 : BitVec 32 := Scalar.remsi v37 v39
  let c0_i32_16 : BitVec 32 := 0#32
  let v41 : BitVec 1 := Scalar.cmpi .ne v40 c0_i32_16
  let c0_i32_17 : BitVec 32 := 0#32
  let v42 : BitVec 1 := Scalar.cmpi .slt v40 c0_i32_17
  let c0_i32_18 : BitVec 32 := 0#32
  let v43 : BitVec 1 := Scalar.cmpi .slt v39 c0_i32_18
  let v44 : BitVec 1 := Scalar.xori v42 v43
  let v45 : BitVec 1 := Scalar.andi v44 v41
  let v46 : BitVec 32 := Scalar.addi v40 v39
  let v47 : BitVec 32 := Scalar.select v45 v46 v40
  let c0_i32_19 : BitVec 32 := 0#32
  ![v18.toNat, v47.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32 : BitVec 32 := 4#32
  let v19 : BitVec 32 := Scalar.muli v18 c4_i32
  let c4_i32_6 : BitVec 32 := 4#32
  let c0_i32_7 : BitVec 32 := 0#32
  let v20 : BitVec 1 := Scalar.cmpi .eq c4_i32_6 c0_i32_7
  let c1_i32_8 : BitVec 32 := 1#32
  let v21 : BitVec 32 := Scalar.select v20 c1_i32_8 c4_i32_6
  let v22 : BitVec 32 := Scalar.remsi v1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c1_i32_12 : BitVec 32 := 1#32
  let v31 : BitVec 32 := Scalar.subi arg0 c1_i32_12
  let c0_i32_13 : BitVec 32 := 0#32
  let v32 : BitVec 32 := Scalar.maxsi v31 c0_i32_13
  let c4_i32_14 : BitVec 32 := 4#32
  let v33 : BitVec 32 := Scalar.divsi v32 c4_i32_14
  let c0_i32_15 : BitVec 32 := 0#32
  let v34 : BitVec 1 := Scalar.cmpi .sgt v32 c0_i32_15
  let v35 : BitVec 32 := Scalar.extui v34
  let c0_i32_16 : BitVec 32 := 0#32
  let v36 : BitVec 1 := Scalar.cmpi .slt v32 c0_i32_16
  let v37 : BitVec 32 := Scalar.extui v36
  let v38 : BitVec 32 := Scalar.subi v35 v37
  let c0_i32_17 : BitVec 32 := 0#32
  let v39 : BitVec 1 := Scalar.cmpi .sgt c4_i32_14 c0_i32_17
  let v40 : BitVec 32 := Scalar.extui v39
  let c0_i32_18 : BitVec 32 := 0#32
  let v41 : BitVec 1 := Scalar.cmpi .slt c4_i32_14 c0_i32_18
  let v42 : BitVec 32 := Scalar.extui v41
  let v43 : BitVec 32 := Scalar.subi v40 v42
  let v44 : BitVec 1 := Scalar.cmpi .ne v38 v43
  let v45 : BitVec 32 := Scalar.remsi v32 c4_i32_14
  let c0_i32_19 : BitVec 32 := 0#32
  let v46 : BitVec 1 := Scalar.cmpi .ne v45 c0_i32_19
  let v47 : BitVec 1 := Scalar.andi v44 v46
  let c1_i32_20 : BitVec 32 := 1#32
  let v48 : BitVec 32 := Scalar.subi v33 c1_i32_20
  let v49 : BitVec 32 := Scalar.select v47 v48 v33
  let c8_i32 : BitVec 32 := 8#32
  let c0_i32_21 : BitVec 32 := 0#32
  let v50 : BitVec 1 := Scalar.cmpi .eq c8_i32 c0_i32_21
  let c1_i32_22 : BitVec 32 := 1#32
  let v51 : BitVec 32 := Scalar.select v50 c1_i32_22 c8_i32
  let v52 : BitVec 32 := Scalar.remsi v49 v51
  let c0_i32_23 : BitVec 32 := 0#32
  let v53 : BitVec 1 := Scalar.cmpi .ne v52 c0_i32_23
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let v57 : BitVec 1 := Scalar.andi v56 v53
  let v58 : BitVec 32 := Scalar.addi v52 v51
  let v59 : BitVec 32 := Scalar.select v57 v58 v52
  let c0_i32_26 : BitVec 32 := 0#32
  ![v30.toNat, v59.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x4096x8x128 : Shape := ⟨4, ![4, 4096, 8, 128]⟩
abbrev S4x4096x8x64 : Shape := ⟨4, ![4, 4096, 8, 64]⟩
abbrev S4x4096x64 : Shape := ⟨3, ![4, 4096, 64]⟩
abbrev S4x256x8x128 : Shape := ⟨4, ![4, 256, 8, 128]⟩
abbrev S4x256x64 : Shape := ⟨3, ![4, 256, 64]⟩
abbrev S_ : Shape := ⟨0, ![]⟩
abbrev S4x8x4096x4096 : Shape := ⟨4, ![4, 8, 4096, 4096]⟩
abbrev S4x4096x4096x8 : Shape := ⟨4, ![4, 4096, 4096, 8]⟩
abbrev S4x8x4096x256 : Shape := ⟨4, ![4, 8, 4096, 256]⟩
abbrev S4x256x4096x8 : Shape := ⟨4, ![4, 256, 4096, 8]⟩
abbrev S4x8x4096x4352 : Shape := ⟨4, ![4, 8, 4096, 4352]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S16384x1024 : Shape := ⟨2, ![16384, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x8x64, .f32⟩
  | .hbm, ⟨2, _⟩ => ⟨S4x4096x8x128, .f32⟩
  | .hbm, ⟨3, _⟩ => ⟨S4x4096x64, .f32⟩
  | .hbm, ⟨4, _⟩ => ⟨S4x4096x8x128, .f32⟩
  | .hbm, ⟨5, _⟩ => ⟨S4x256x8x128, .f32⟩
  | .hbm, ⟨6, _⟩ => ⟨S4x256x64, .f32⟩
  | .hbm, ⟨7, _⟩ => ⟨S4x256x8x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x8x4096x4096, .f32⟩
  | .hbm, ⟨13, _⟩ => ⟨S4x4096x4096x8, .f32⟩
  | .hbm, ⟨14, _⟩ => ⟨S4x8x4096x4096, .f32⟩
  | .hbm, ⟨15, _⟩ => ⟨S4x8x4096x4096, .f32⟩
  | .hbm, ⟨16, _⟩ => ⟨S4x8x4096x256, .f32⟩
  | .hbm, ⟨17, _⟩ => ⟨S4x256x4096x8, .f32⟩
  | .hbm, ⟨18, _⟩ => ⟨S4x8x4096x256, .f32⟩
  | .hbm, ⟨19, _⟩ => ⟨S4x8x4096x256, .f32⟩
  | .hbm, ⟨20, _⟩ => ⟨S4x8x4096x4352, .f32⟩
  | .hbm, ⟨21, _⟩ => ⟨S4x8x4096x4352, .f32⟩
  | .hbm, ⟨22, _⟩ => ⟨S4x8x4096x4352, .f32⟩
  | .hbm, ⟨23, _⟩ => ⟨S_, .f32⟩
  | .hbm, ⟨24, _⟩ => ⟨S4x8x4096, .f32⟩
  | .hbm, ⟨25, _⟩ => ⟨S_, .f32⟩
  | .hbm, ⟨26, _⟩ => ⟨S4x8x4096, .f32⟩
  | .hbm, ⟨27, _⟩ => ⟨S4x8x4096, .f32⟩
  | .hbm, ⟨28, _⟩ => ⟨S4x8x4096x1, .f32⟩
  | .hbm, ⟨29, _⟩ => ⟨S4x8x4096x4352, .f32⟩
  | .hbm, ⟨30, _⟩ => ⟨S4x8x4096x4352, .f32⟩
  | .hbm, ⟨31, _⟩ => ⟨S4x8x4096x4352, .f32⟩
  | .hbm, ⟨32, _⟩ => ⟨S_, .f32⟩
  | .hbm, ⟨33, _⟩ => ⟨S4x8x4096, .f32⟩
  | .hbm, ⟨34, _⟩ => ⟨S4x8x4096x1, .f32⟩
  | .hbm, ⟨35, _⟩ => ⟨S4x8x4096x4352, .f32⟩
  | .hbm, ⟨36, _⟩ => ⟨S4x8x4096x4352, .f32⟩
  | .hbm, ⟨37, _⟩ => ⟨S4x8x4096x4096, .f32⟩
  | .hbm, ⟨38, _⟩ => ⟨S4x8x128x4096, .f32⟩
  | .hbm, ⟨39, _⟩ => ⟨S4x4096x8x128, .f32⟩
  | .hbm, ⟨40, _⟩ => ⟨S4x8x4096x256, .f32⟩
  | .hbm, ⟨41, _⟩ => ⟨S4x8x128x4096, .f32⟩
  | .hbm, ⟨42, _⟩ => ⟨S4x4096x8x128, .f32⟩
  | .hbm, ⟨43, _⟩ => ⟨S4x4096x8x128, .f32⟩
  | .hbm, ⟨44, _⟩ => ⟨S16384x1024, .f32⟩
  | .hbm, ⟨45, _⟩ => ⟨S16384x1024, .bf16⟩
  | _, _ => ⟨S4x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== InProj.lean ====
abbrev S16384x2048 : Shape := ⟨2, ![16384, 2048]⟩
abbrev S1x2048 : Shape := ⟨2, ![1, 2048]⟩
abbrev S8x1x2048 : Shape := ⟨3, ![8, 1, 2048]⟩
abbrev S2x13824x2048 : Shape := ⟨3, ![2, 13824, 2048]⟩
abbrev S2x13888x2048 : Shape := ⟨3, ![2, 13888, 2048]⟩
abbrev S32 : Shape := ⟨1, ![32]⟩
abbrev S_ : Shape := ⟨0, ![]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x4096x128 : Shape := ⟨3, ![1, 4096, 128]⟩
abbrev S3x4096x128 : Shape := ⟨3, ![3, 4096, 128]⟩
abbrev S16 : Shape := ⟨1, ![16]⟩
abbrev S1x16 : Shape := ⟨2, ![1, 16]⟩
abbrev S4096x16 : Shape := ⟨2, ![4096, 16]⟩
abbrev S4096x64 : Shape := ⟨2, ![4096, 64]⟩
abbrev S16384x13824 : Shape := ⟨2, ![16384, 13824]⟩
abbrev S16384x128 : Shape := ⟨2, ![16384, 128]⟩
abbrev S1024x2048 : Shape := ⟨2, ![1024, 2048]⟩
abbrev S1x1x2048 : Shape := ⟨3, ![1, 1, 2048]⟩
abbrev S1x1536x2048 : Shape := ⟨3, ![1, 1536, 2048]⟩
abbrev S1x64x2048 : Shape := ⟨3, ![1, 64, 2048]⟩
abbrev S3x1024x128 : Shape := ⟨3, ![3, 1024, 128]⟩
abbrev S1024x1536 : Shape := ⟨2, ![1024, 1536]⟩
abbrev S1024x128 : Shape := ⟨2, ![1024, 128]⟩
abbrev S1024 : Shape := ⟨1, ![1024]⟩
abbrev S1024x1 : Shape := ⟨2, ![1024, 1]⟩
abbrev S64x2048 : Shape := ⟨2, ![64, 2048]⟩
abbrev S1024x64 : Shape := ⟨2, ![1024, 64]⟩
abbrev S1x1024x128 : Shape := ⟨3, ![1, 1024, 128]⟩
abbrev S1536x2048 : Shape := ⟨2, ![1536, 2048]⟩
abbrev S1024x512 : Shape := ⟨2, ![1024, 512]⟩
abbrev S1024x1280 : Shape := ⟨2, ![1024, 1280]⟩

abbrev nBuf : Space → Nat
  | .hbm => 102
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S8x1x2048, .f32⟩
  | .hbm, ⟨3, _⟩ => ⟨S8x1x2048, .f32⟩
  | .hbm, ⟨4, _⟩ => ⟨S2x13824x2048, .bf16⟩
  | .hbm, ⟨5, _⟩ => ⟨S2x13888x2048, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S64, .f32⟩
  | .hbm, ⟨15, _⟩ => ⟨S64x1, .f32⟩
  | .hbm, ⟨16, _⟩ => ⟨S64x64, .f32⟩
  | .hbm, ⟨17, _⟩ => ⟨S4096, .f32⟩
  | .hbm, ⟨18, _⟩ => ⟨S64, .f32⟩
  | .hbm, ⟨19, _⟩ => ⟨S1x64, .f32⟩
  | .hbm, ⟨20, _⟩ => ⟨S64x64, .f32⟩
  | .hbm, ⟨21, _⟩ => ⟨S4096, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x1, .f32⟩
  | .hbm, ⟨28, _⟩ => ⟨S1x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S_, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S4096x128, .f32⟩
  | .hbm, ⟨39, _⟩ => ⟨S4096x32, .f32⟩
  | .hbm, ⟨40, _⟩ => ⟨S4096x32, .f32⟩
  | .hbm, ⟨41, _⟩ => ⟨S4096x32, .f32⟩
  | .hbm, ⟨42, _⟩ => ⟨S4096x32, .f32⟩
  | .hbm, ⟨43, _⟩ => ⟨S4096x128, .f32⟩
  | .hbm, ⟨44, _⟩ => ⟨S4096x32, .f32⟩
  | .hbm, ⟨45, _⟩ => ⟨S4096x32, .f32⟩
  | .hbm, ⟨46, _⟩ => ⟨S4096x128, .f32⟩
  | .hbm, ⟨47, _⟩ => ⟨S1x4096x128, .f32⟩
  | .hbm, ⟨48, _⟩ => ⟨S1x4096x128, .f32⟩
  | .hbm, ⟨49, _⟩ => ⟨S1x4096x128, .f32⟩
  | .hbm, ⟨50, _⟩ => ⟨S3x4096x128, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S64, .f32⟩
  | .hbm, ⟨60, _⟩ => ⟨S64x1, .f32⟩
  | .hbm, ⟨61, _⟩ => ⟨S64x64, .f32⟩
  | .hbm, ⟨62, _⟩ => ⟨S4096, .f32⟩
  | .hbm, ⟨63, _⟩ => ⟨S64, .f32⟩
  | .hbm, ⟨64, _⟩ => ⟨S1x64, .f32⟩
  | .hbm, ⟨65, _⟩ => ⟨S64x64, .f32⟩
  | .hbm, ⟨66, _⟩ => ⟨S4096, .f32⟩
  | .hbm, ⟨67, _⟩ => ⟨S4096x1, .f32⟩
  | .hbm, ⟨68, _⟩ => ⟨S1x16, .f32⟩
  | .hbm, ⟨69, _⟩ => ⟨S4096x16, .f32⟩
  | .hbm, ⟨70, _⟩ => ⟨S4096x16, .f32⟩
  | .hbm, ⟨71, _⟩ => ⟨S4096x16, .f32⟩
  | .hbm, ⟨72, _⟩ => ⟨S4096x1, .f32⟩
  | .hbm, ⟨73, _⟩ => ⟨S1x16, .f32⟩
  | .hbm, ⟨74, _⟩ => ⟨S4096x16, .f32⟩
  | .hbm, ⟨75, _⟩ => ⟨S4096x16, .f32⟩
  | .hbm, ⟨76, _⟩ => ⟨S4096x16, .f32⟩
  | .hbm, ⟨77, _⟩ => ⟨S_, .f32⟩
  | .hbm, ⟨78, _⟩ => ⟨S4096x16, .f32⟩
  | .hbm, ⟨79, _⟩ => ⟨S_, .f32⟩
  | .hbm, ⟨80, _⟩ => ⟨S4096x64, .f32⟩
  | .hbm, ⟨81, _⟩ => ⟨S_, .f32⟩
  | .hbm, ⟨82, _⟩ => ⟨S4096x64, .f32⟩
  | .hbm, ⟨83, _⟩ => ⟨S4096x16, .f32⟩
  | .hbm, ⟨84, _⟩ => ⟨S4096x16, .f32⟩
  | .hbm, ⟨85, _⟩ => ⟨S4096x16, .f32⟩
  | .hbm, ⟨86, _⟩ => ⟨S4096x16, .f32⟩
  | .hbm, ⟨87, _⟩ => ⟨S4096x128, .f32⟩
  | .hbm, ⟨88, _⟩ => ⟨S4096x16, .f32⟩
  | .hbm, ⟨89, _⟩ => ⟨S4096x16, .f32⟩
  | .hbm, ⟨90, _⟩ => ⟨S4096x16, .f32⟩
  | .hbm, ⟨91, _⟩ => ⟨S4096x16, .f32⟩
  | .hbm, ⟨92, _⟩ => ⟨S4096x128, .f32⟩
  | .hbm, ⟨93, _⟩ => ⟨S4096x16, .f32⟩
  | .hbm, ⟨94, _⟩ => ⟨S4096x16, .f32⟩
  | .hbm, ⟨95, _⟩ => ⟨S4096x128, .f32⟩
  | .hbm, ⟨96, _⟩ => ⟨S1x4096x128, .f32⟩
  | .hbm, ⟨97, _⟩ => ⟨S1x4096x128, .f32⟩
  | .hbm, ⟨98, _⟩ => ⟨S1x4096x128, .f32⟩
  | .hbm, ⟨99, _⟩ => ⟨S3x4096x128, .f32⟩
  | .hbm, ⟨100, _⟩ => ⟨S16384x13824, .bf16⟩
  | .hbm, ⟨101, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1536x2048, .bf16⟩
  | .local _ .vmem, ⟨8, _⟩ => ⟨S1x1536x2048, .bf16⟩
  | .local _ .vmem, ⟨9, _⟩ => ⟨S1x64x2048, .f32⟩
  | .local _ .vmem, ⟨10, _⟩ => ⟨S3x1024x128, .f32⟩
  | .local _ .vmem, ⟨11, _⟩ => ⟨S3x1024x128, .f32⟩
  | .local _ .vmem, ⟨12, _⟩ => ⟨S3x1024x128, .f32⟩
  | .local _ .vmem, ⟨13, _⟩ => ⟨S3x1024x128, .f32⟩
  | .local _ .vmem, ⟨14, _⟩ => ⟨S1024x1536, .bf16⟩
  | .local _ .vmem, ⟨15, _⟩ => ⟨S1024x1536, .bf16⟩
  | .local _ .vmem, ⟨16, _⟩ => ⟨S1024x128, .f32⟩
  | .local _ .vmem, ⟨17, _⟩ => ⟨S1024x128, .f32⟩
  | .local _ .vmem, ⟨18, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_2 : Ref sig .tc := ⟨.hbm, 53, rfl⟩
abbrev main_v44 : Ref sig .tc := ⟨.hbm, 54, rfl⟩
abbrev main_v45 : Ref sig .tc := ⟨.hbm, 55, rfl⟩
abbrev main_cst_3 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_4 : Ref sig .tc := ⟨.hbm, 77, rfl⟩
abbrev main_v66 : Ref sig .tc := ⟨.hbm, 78, rfl⟩
abbrev main_cst_5 : Ref sig .tc := ⟨.hbm, 79, rfl⟩
abbrev main_v67 : Ref sig .tc := ⟨.hbm, 80, rfl⟩
abbrev main_cst_6 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86_0 : Ref sig .tc := ⟨.hbm, 100, rfl⟩
abbrev main_v86_1 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 9], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let c2_i32 : BitVec 32 := 2#32
  let v7 : BitVec 1 := Scalar.cmpi .eq arg1 c2_i32
  let v13 : BitVec 1 := Scalar.ori v6 v7
  let c3_i32 : BitVec 32 := 3#32
  let v8 : BitVec 1 := Scalar.cmpi .eq arg1 c3_i32
  let v14 : BitVec 1 := Scalar.ori v13 v8
  let c4_i32 : BitVec 32 := 4#32
  let v9 : BitVec 1 := Scalar.cmpi .eq arg1 c4_i32
  let v15 : BitVec 1 := Scalar.ori v14 v9
  let c5_i32 : BitVec 32 := 5#32
  let v10 : BitVec 1 := Scalar.cmpi .eq arg1 c5_i32
  let v16 : BitVec 1 := Scalar.ori v15 v10
  let c6_i32 : BitVec 32 := 6#32
  let v11 : BitVec 1 := Scalar.cmpi .eq arg1 c6_i32
  let v17 : BitVec 1 := Scalar.ori v16 v11
  let c7_i32 : BitVec 32 := 7#32
  let v12 : BitVec 1 := Scalar.cmpi .eq arg1 c7_i32
  let v18 : BitVec 1 := Scalar.ori v17 v12
  let v19 : BitVec 32 := Scalar.extui v18
  let c0_i32_3 : BitVec 32 := 0#32
  let v20 : BitVec 1 := Scalar.cmpi .ne v19 c0_i32_3
  v20

def k0_cond4 (i : grid0.Coords) : BitVec 1 :=
  let arg1 : BitVec 32 := BitVec.ofNat 32 (i 1).val
  let c8_i32 : BitVec 32 := 8#32
  let v21 : BitVec 1 := Scalar.cmpi .eq arg1 c8_i32
  let v22 : BitVec 32 := Scalar.extui v21
  let c0_i32_4 : BitVec 32 := 0#32
  let v23 : BitVec 1 := Scalar.cmpi .ne v22 c0_i32_4
  v23

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, v0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c56_i32 : BitVec 32 := 56#32
  let c0_i32_0 : BitVec 32 := 0#32
  let c0_i32_1 : BitVec 32 := 0#32
  ![c0_i32.toNat, c56_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1536x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S3x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== InProjIdeal.lean ====
variable {F : FTy → Type} [FloatOps F] [Named F]
def κ : String → Option EReal := fun
  | "q_scale" => some ((((Real.sqrt 128) * (Real.log 2))⁻¹ : ℝ) : EReal)
  | _ => none
-- ==== InProjRefIdeal.lean ====
abbrev S16384x2048 : Shape := ⟨2, ![16384, 2048]⟩
abbrev S1x2048 : Shape := ⟨2, ![1, 2048]⟩
abbrev S8x1x2048 : Shape := ⟨3, ![8, 1, 2048]⟩
abbrev S2x13824x2048 : Shape := ⟨3, ![2, 13824, 2048]⟩
abbrev S2x13888x2048 : Shape := ⟨3, ![2, 13888, 2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S2048 : Shape := ⟨1, ![2048]⟩
abbrev S1x1x2048 : Shape := ⟨3, ![1, 1, 2048]⟩
abbrev S4x1x2048 : Shape := ⟨3, ![4, 1, 2048]⟩
abbrev S1x13824x2048 : Shape := ⟨3, ![1, 13824, 2048]⟩
abbrev S13824x2048 : Shape := ⟨2, ![13824, 2048]⟩
abbrev S4x4096x13824 : Shape := ⟨3, ![4, 4096, 13824]⟩
abbrev S1x64x2048 : Shape := ⟨3, ![1, 64, 2048]⟩
abbrev S64x2048 : Shape := ⟨2, ![64, 2048]⟩
abbrev S4x4096x64 : Shape := ⟨3, ![4, 4096, 64]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S4x4096x1024 : Shape := ⟨3, ![4, 4096, 1024]⟩
abbrev S4x4096x8x128 : Shape := ⟨4, ![4, 4096, 8, 128]⟩
abbrev S4x4096x8x64 : Shape := ⟨4, ![4, 4096, 8, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4x4096x8x32 : Shape := ⟨4, ![4, 4096, 8, 32]⟩
abbrev S1x4096x1x32 : Shape := ⟨4, ![1, 4096, 1, 32]⟩
abbrev S4x4096x256 : Shape := ⟨3, ![4, 4096, 256]⟩
abbrev S4x4096x2x128 : Shape := ⟨4, ![4, 4096, 2, 128]⟩
abbrev S4x4096x2x64 : Shape := ⟨4, ![4, 4096, 2, 64]⟩
abbrev S4x4096x2x32 : Shape := ⟨4, ![4, 4096, 2, 32]⟩
abbrev S4x4096x1x64 : Shape := ⟨4, ![4, 4096, 1, 64]⟩
abbrev S4x4096x1x32 : Shape := ⟨4, ![4, 4096, 1, 32]⟩
abbrev S16 : Shape := ⟨1, ![16]⟩
abbrev S1x16 : Shape := ⟨2, ![1, 16]⟩
abbrev S4096x16 : Shape := ⟨2, ![4096, 16]⟩
abbrev S4096x1x16 : Shape := ⟨3, ![4096, 1, 16]⟩
abbrev S4x4096x1x16 : Shape := ⟨4, ![4, 4096, 1, 16]⟩
abbrev S1x4096x1x16 : Shape := ⟨4, ![1, 4096, 1, 16]⟩
abbrev S4x4096x11264 : Shape := ⟨3, ![4, 4096, 11264]⟩
abbrev S4x4096x1280 : Shape := ⟨3, ![4, 4096, 1280]⟩
abbrev S4x4096x128 : Shape := ⟨3, ![4, 4096, 128]⟩
abbrev S16384x13824 : Shape := ⟨2, ![16384, 13824]⟩
abbrev S16384x128 : Shape := ⟨2, ![16384, 128]⟩

abbrev nBuf : Space → Nat
  | .hbm => 286
  | .vmem => 0
  | .smem => 0
  | _ => 0

abbrev hbmTy0_0 (i : Nat) : BufTy := match i % 128 with
  | 0 => ⟨S16384x2048, .f32⟩
  | 1 => ⟨S1x2048, .f32⟩
  | 2 => ⟨S8x1x2048, .f32⟩
  | 3 => ⟨S8x1x2048, .f32⟩
  | 4 => ⟨S2x13824x2048, .bf16⟩
  | 5 => ⟨S2x13888x2048, .f32⟩
  | 6 => ⟨S4x4096x2048, .f32⟩
  | 7 => ⟨S4x4096x2048, .f32⟩
  | 8 => ⟨S_, .f32⟩
  | 9 => ⟨S4x4096, .f32⟩
  | 10 => ⟨S4x4096x1, .f32⟩
  | 11 => ⟨S_, .f32⟩
  | 12 => ⟨S4x4096x1, .f32⟩
  | 13 => ⟨S4x4096x1, .f32⟩
  | 14 => ⟨S_, .f32⟩
  | 15 => ⟨S4x4096x1, .f32⟩
  | 16 => ⟨S4x4096x1, .f32⟩
  | 17 => ⟨S4x4096x1, .f32⟩
  | 18 => ⟨S4x4096x2048, .f32⟩
  | 19 => ⟨S4x4096x2048, .f32⟩
  | 20 => ⟨S2048, .f32⟩
  | 21 => ⟨S1x1x2048, .f32⟩
  | 22 => ⟨S4x4096x2048, .f32⟩
  | 23 => ⟨S4x4096x2048, .f32⟩
  | 24 => ⟨S4x1x2048, .f32⟩
  | 25 => ⟨S_, .f32⟩
  | 26 => ⟨S4x1x2048, .f32⟩
  | 27 => ⟨S4x1x2048, .f32⟩
  | 28 => ⟨S4x4096x2048, .f32⟩
  | 29 => ⟨S4x4096x2048, .f32⟩
  | 30 => ⟨S4x1x2048, .f32⟩
  | 31 => ⟨S4x4096x2048, .f32⟩
  | 32 => ⟨S4x4096x2048, .f32⟩
  | 33 => ⟨S1x13824x2048, .bf16⟩
  | 34 => ⟨S13824x2048, .bf16⟩
  | 35 => ⟨S13824x2048, .f32⟩
  | 36 => ⟨S4x4096x13824, .f32⟩
  | 37 => ⟨S1x64x2048, .f32⟩
  | 38 => ⟨S64x2048, .f32⟩
  | 39 => ⟨S4x4096x64, .f32⟩
  | 40 => ⟨S64, .f32⟩
  | 41 => ⟨S64x64, .f32⟩
  | 42 => ⟨S4096, .f32⟩
  | 43 => ⟨S64, .f32⟩
  | 44 => ⟨S1x64, .f32⟩
  | 45 => ⟨S64x64, .f32⟩
  | 46 => ⟨S4096, .f32⟩
  | 47 => ⟨S4x4096x1024, .f32⟩
  | 48 => ⟨S4x4096x8x128, .f32⟩
  | 49 => ⟨S4x4096x8x64, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S4096x1, .f32⟩
  | 59 => ⟨S1x32, .f32⟩
  | 60 => ⟨S4096x32, .f32⟩
  | 61 => ⟨S4096x32, .f32⟩
  | 62 => ⟨S4096x32, .f32⟩
  | 63 => ⟨S4096x32, .f32⟩
  | 64 => ⟨S4096x1x32, .f32⟩
  | 65 => ⟨S4096x32, .f32⟩
  | 66 => ⟨S4096x1x32, .f32⟩
  | 67 => ⟨S4x4096x8x32, .f32⟩
  | 68 => ⟨S4x4096x8x32, .f32⟩
  | 69 => ⟨S1x4096x1x32, .f32⟩
  | 70 => ⟨S4x4096x8x32, .f32⟩
  | 71 => ⟨S4x4096x8x32, .f32⟩
  | 72 => ⟨S1x4096x1x32, .f32⟩
  | 73 => ⟨S4x4096x8x32, .f32⟩
  | 74 => ⟨S4x4096x8x32, .f32⟩
  | 75 => ⟨S4x4096x8x32, .f32⟩
  | 76 => ⟨S1x4096x1x32, .f32⟩
  | 77 => ⟨S4x4096x8x32, .f32⟩
  | 78 => ⟨S4x4096x8x32, .f32⟩
  | 79 => ⟨S1x4096x1x32, .f32⟩
  | 80 => ⟨S4x4096x8x32, .f32⟩
  | 81 => ⟨S4x4096x8x32, .f32⟩
  | 82 => ⟨S4x4096x8x32, .f32⟩
  | 83 => ⟨S4x4096x8x64, .f32⟩
  | 84 => ⟨S4x4096x8x64, .f32⟩
  | 85 => ⟨S32, .f32⟩
  | 86 => ⟨S32, .f32⟩
  | 87 => ⟨S_, .f32⟩
  | 88 => ⟨S32, .f32⟩
  | 89 => ⟨S32, .f32⟩
  | 90 => ⟨S_, .f32⟩
  | 91 => ⟨S32, .f32⟩
  | 92 => ⟨S32, .f32⟩
  | 93 => ⟨S4096x1, .f32⟩
  | 94 => ⟨S1x32, .f32⟩
  | 95 => ⟨S4096x32, .f32⟩
  | 96 => ⟨S4096x32, .f32⟩
  | 97 => ⟨S4096x32, .f32⟩
  | 98 => ⟨S4096x32, .f32⟩
  | 99 => ⟨S4096x1x32, .f32⟩
  | 100 => ⟨S4096x32, .f32⟩
  | 101 => ⟨S4096x1x32, .f32⟩
  | 102 => ⟨S4x4096x8x32, .f32⟩
  | 103 => ⟨S4x4096x8x32, .f32⟩
  | 104 => ⟨S1x4096x1x32, .f32⟩
  | 105 => ⟨S4x4096x8x32, .f32⟩
  | 106 => ⟨S4x4096x8x32, .f32⟩
  | 107 => ⟨S1x4096x1x32, .f32⟩
  | 108 => ⟨S4x4096x8x32, .f32⟩
  | 109 => ⟨S4x4096x8x32, .f32⟩
  | 110 => ⟨S4x4096x8x32, .f32⟩
  | 111 => ⟨S1x4096x1x32, .f32⟩
  | 112 => ⟨S4x4096x8x32, .f32⟩
  | 113 => ⟨S4x4096x8x32, .f32⟩
  | 114 => ⟨S1x4096x1x32, .f32⟩
  | 115 => ⟨S4x4096x8x32, .f32⟩
  | 116 => ⟨S4x4096x8x32, .f32⟩
  | 117 => ⟨S4x4096x8x32, .f32⟩
  | 118 => ⟨S4x4096x8x64, .f32⟩
  | 119 => ⟨S4x4096x8x128, .f32⟩
  | 120 => ⟨S4x4096x1024, .f32⟩
  | 121 => ⟨S4x4096x256, .f32⟩
  | 122 => ⟨S4x4096x2x128, .f32⟩
  | 123 => ⟨S4x4096x2x64, .f32⟩
  | 124 => ⟨S32, .f32⟩
  | 125 => ⟨S32, .f32⟩
  | 126 => ⟨S_, .f32⟩
  | 127 => ⟨S32, .f32⟩
  | _ => ⟨S16384x2048, .f32⟩

abbrev hbmTy0_1 (i : Nat) : BufTy := match i % 128 with
  | 0 => ⟨S32, .f32⟩
  | 1 => ⟨S_, .f32⟩
  | 2 => ⟨S32, .f32⟩
  | 3 => ⟨S32, .f32⟩
  | 4 => ⟨S4096x1, .f32⟩
  | 5 => ⟨S1x32, .f32⟩
  | 6 => ⟨S4096x32, .f32⟩
  | 7 => ⟨S4096x32, .f32⟩
  | 8 => ⟨S4096x32, .f32⟩
  | 9 => ⟨S4096x32, .f32⟩
  | 10 => ⟨S4096x1x32, .f32⟩
  | 11 => ⟨S4096x32, .f32⟩
  | 12 => ⟨S4096x1x32, .f32⟩
  | 13 => ⟨S4x4096x2x32, .f32⟩
  | 14 => ⟨S4x4096x2x32, .f32⟩
  | 15 => ⟨S1x4096x1x32, .f32⟩
  | 16 => ⟨S4x4096x2x32, .f32⟩
  | 17 => ⟨S4x4096x2x32, .f32⟩
  | 18 => ⟨S1x4096x1x32, .f32⟩
  | 19 => ⟨S4x4096x2x32, .f32⟩
  | 20 => ⟨S4x4096x2x32, .f32⟩
  | 21 => ⟨S4x4096x2x32, .f32⟩
  | 22 => ⟨S1x4096x1x32, .f32⟩
  | 23 => ⟨S4x4096x2x32, .f32⟩
  | 24 => ⟨S4x4096x2x32, .f32⟩
  | 25 => ⟨S1x4096x1x32, .f32⟩
  | 26 => ⟨S4x4096x2x32, .f32⟩
  | 27 => ⟨S4x4096x2x32, .f32⟩
  | 28 => ⟨S4x4096x2x32, .f32⟩
  | 29 => ⟨S4x4096x2x64, .f32⟩
  | 30 => ⟨S4x4096x2x64, .f32⟩
  | 31 => ⟨S32, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S4096x1, .f32⟩
  | 40 => ⟨S1x32, .f32⟩
  | 41 => ⟨S4096x32, .f32⟩
  | 42 => ⟨S4096x32, .f32⟩
  | 43 => ⟨S4096x32, .f32⟩
  | 44 => ⟨S4096x32, .f32⟩
  | 45 => ⟨S4096x1x32, .f32⟩
  | 46 => ⟨S4096x32, .f32⟩
  | 47 => ⟨S4096x1x32, .f32⟩
  | 48 => ⟨S4x4096x2x32, .f32⟩
  | 49 => ⟨S4x4096x2x32, .f32⟩
  | 50 => ⟨S1x4096x1x32, .f32⟩
  | 51 => ⟨S4x4096x2x32, .f32⟩
  | 52 => ⟨S4x4096x2x32, .f32⟩
  | 53 => ⟨S1x4096x1x32, .f32⟩
  | 54 => ⟨S4x4096x2x32, .f32⟩
  | 55 => ⟨S4x4096x2x32, .f32⟩
  | 56 => ⟨S4x4096x2x32, .f32⟩
  | 57 => ⟨S1x4096x1x32, .f32⟩
  | 58 => ⟨S4x4096x2x32, .f32⟩
  | 59 => ⟨S4x4096x2x32, .f32⟩
  | 60 => ⟨S1x4096x1x32, .f32⟩
  | 61 => ⟨S4x4096x2x32, .f32⟩
  | 62 => ⟨S4x4096x2x32, .f32⟩
  | 63 => ⟨S4x4096x2x32, .f32⟩
  | 64 => ⟨S4x4096x2x64, .f32⟩
  | 65 => ⟨S4x4096x2x128, .f32⟩
  | 66 => ⟨S4x4096x256, .f32⟩
  | 67 => ⟨S4x4096x1x64, .f32⟩
  | 68 => ⟨S4x4096x1x32, .f32⟩
  | 69 => ⟨S16, .f32⟩
  | 70 => ⟨S16, .f32⟩
  | 71 => ⟨S_, .f32⟩
  | 72 => ⟨S16, .f32⟩
  | 73 => ⟨S16, .f32⟩
  | 74 => ⟨S_, .f32⟩
  | 75 => ⟨S16, .f32⟩
  | 76 => ⟨S16, .f32⟩
  | 77 => ⟨S4096x1, .f32⟩
  | 78 => ⟨S1x16, .f32⟩
  | 79 => ⟨S4096x16, .f32⟩
  | 80 => ⟨S4096x16, .f32⟩
  | 81 => ⟨S4096x16, .f32⟩
  | 82 => ⟨S4096x16, .f32⟩
  | 83 => ⟨S4096x1x16, .f32⟩
  | 84 => ⟨S4096x16, .f32⟩
  | 85 => ⟨S4096x1x16, .f32⟩
  | 86 => ⟨S4x4096x1x16, .f32⟩
  | 87 => ⟨S4x4096x1x16, .f32⟩
  | 88 => ⟨S1x4096x1x16, .f32⟩
  | 89 => ⟨S4x4096x1x16, .f32⟩
  | 90 => ⟨S4x4096x1x16, .f32⟩
  | 91 => ⟨S1x4096x1x16, .f32⟩
  | 92 => ⟨S4x4096x1x16, .f32⟩
  | 93 => ⟨S4x4096x1x16, .f32⟩
  | 94 => ⟨S4x4096x1x16, .f32⟩
  | 95 => ⟨S1x4096x1x16, .f32⟩
  | 96 => ⟨S4x4096x1x16, .f32⟩
  | 97 => ⟨S4x4096x1x16, .f32⟩
  | 98 => ⟨S1x4096x1x16, .f32⟩
  | 99 => ⟨S4x4096x1x16, .f32⟩
  | 100 => ⟨S4x4096x1x16, .f32⟩
  | 101 => ⟨S4x4096x1x16, .f32⟩
  | 102 => ⟨S4x4096x1x32, .f32⟩
  | 103 => ⟨S4x4096x1x32, .f32⟩
  | 104 => ⟨S16, .f32⟩
  | 105 => ⟨S16, .f32⟩
  | 106 => ⟨S_, .f32⟩
  | 107 => ⟨S16, .f32⟩
  | 108 => ⟨S16, .f32⟩
  | 109 => ⟨S_, .f32⟩
  | 110 => ⟨S16, .f32⟩
  | 111 => ⟨S16, .f32⟩
  | 112 => ⟨S4096x1, .f32⟩
  | 113 => ⟨S1x16, .f32⟩
  | 114 => ⟨S4096x16, .f32⟩
  | 115 => ⟨S4096x16, .f32⟩
  | 116 => ⟨S4096x16, .f32⟩
  | 117 => ⟨S4096x16, .f32⟩
  | 118 => ⟨S4096x1x16, .f32⟩
  | 119 => ⟨S4096x16, .f32⟩
  | 120 => ⟨S4096x1x16, .f32⟩
  | 121 => ⟨S4x4096x1x16, .f32⟩
  | 122 => ⟨S4x4096x1x16, .f32⟩
  | 123 => ⟨S1x4096x1x16, .f32⟩
  | 124 => ⟨S4x4096x1x16, .f32⟩
  | 125 => ⟨S4x4096x1x16, .f32⟩
  | 126 => ⟨S1x4096x1x16, .f32⟩
  | 127 => ⟨S4x4096x1x16, .f32⟩
  | _ => ⟨S16384x2048, .f32⟩

abbrev hbmTy0_2 (i : Nat) : BufTy := match i % 128 with
  | 0 => ⟨S4x4096x1x16, .f32⟩
  | 1 => ⟨S4x4096x1x16, .f32⟩
  | 2 => ⟨S1x4096x1x16, .f32⟩
  | 3 => ⟨S4x4096x1x16, .f32⟩
  | 4 => ⟨S4x4096x1x16, .f32⟩
  | 5 => ⟨S1x4096x1x16, .f32⟩
  | 6 => ⟨S4x4096x1x16, .f32⟩
  | 7 => ⟨S4x4096x1x16, .f32⟩
  | 8 => ⟨S4x4096x1x16, .f32⟩
  | 9 => ⟨S4x4096x1x32, .f32⟩
  | 10 => ⟨S4x4096x1x64, .f32⟩
  | 11 => ⟨S4x4096x64, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S4x4096x1024, .f32⟩
  | 20 => ⟨S4x4096x1024, .f32⟩
  | 21 => ⟨S4x4096x11264, .f32⟩
  | 22 => ⟨S4x4096x1280, .f32⟩
  | 23 => ⟨S4x4096x13824, .f32⟩
  | 24 => ⟨S_, .f32⟩
  | 25 => ⟨S4x4096x64, .f32⟩
  | 26 => ⟨S4x4096x128, .f32⟩
  | 27 => ⟨S16384x13824, .f32⟩
  | 28 => ⟨S16384x13824, .bf16⟩
  | 29 => ⟨S16384x128, .f32⟩
  | _ => ⟨S16384x2048, .f32⟩

abbrev hbmTy (i : Nat) : BufTy := match i / 128 with
  | 0 => hbmTy0_0 i
  | 1 => hbmTy0_1 i
  | 2 => hbmTy0_2 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_v43 : Ref sig .tc := ⟨.hbm, 54, rfl⟩
abbrev main_cst_4 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_cst_5 : Ref sig .tc := ⟨.hbm, 87, rfl⟩
abbrev main_v75 : Ref sig .tc := ⟨.hbm, 88, rfl⟩
abbrev main_v76 : Ref sig .tc := ⟨.hbm, 89, rfl⟩
abbrev main_cst_6 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_cst_7 : Ref sig .tc := ⟨.hbm, 126, rfl⟩
abbrev main_v112 : Ref sig .tc := ⟨.hbm, 127, rfl⟩
abbrev main_v113 : Ref sig .tc := ⟨.hbm, 128, rfl⟩
abbrev main_cst_8 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_cst_9 : Ref sig .tc := ⟨.hbm, 161, rfl⟩
abbrev main_v145 : Ref sig .tc := ⟨.hbm, 162, rfl⟩
abbrev main_v146 : Ref sig .tc := ⟨.hbm, 163, rfl⟩
abbrev main_cst_10 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_cst_11 : Ref sig .tc := ⟨.hbm, 199, rfl⟩
abbrev main_v181 : Ref sig .tc := ⟨.hbm, 200, rfl⟩
abbrev main_v182 : Ref sig .tc := ⟨.hbm, 201, rfl⟩
abbrev main_cst_12 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_cst_13 : Ref sig .tc := ⟨.hbm, 234, rfl⟩
abbrev main_v214 : Ref sig .tc := ⟨.hbm, 235, rfl⟩
abbrev main_v215 : Ref sig .tc := ⟨.hbm, 236, rfl⟩
abbrev main_cst_14 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_cst_15 : Ref sig .tc := ⟨.hbm, 268, rfl⟩
abbrev main_v246 : Ref sig .tc := ⟨.hbm, 269, rfl⟩
abbrev main_cst_16 : Ref sig .tc := ⟨.hbm, 270, rfl⟩
abbrev main_v247 : Ref sig .tc := ⟨.hbm, 271, rfl⟩
abbrev main_v248 : Ref sig .tc := ⟨.hbm, 272, rfl⟩
abbrev main_cst_17 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_cst_18 : Ref sig .tc := ⟨.hbm, 280, rfl⟩
abbrev main_v255 : Ref sig .tc := ⟨.hbm, 281, rfl⟩
abbrev main_v256 : Ref sig .tc := ⟨.hbm, 282, rfl⟩
abbrev main_v257 : Ref sig .tc := ⟨.hbm, 283, rfl⟩
abbrev main_v258 : Ref sig .tc := ⟨.hbm, 284, rfl⟩
abbrev main_v259 : Ref sig .tc := ⟨.hbm, 285, rfl⟩

abbrev nD : Nat := 1
abbrev τ : Topo := Topo.v7x

variable {F : FTy → Type} [FloatOps F]
-- ==== Merge.lean ====
abbrev S16384x2048 : Shape := ⟨2, ![16384, 2048]⟩
abbrev S8x1x2048 : Shape := ⟨3, ![8, 1, 2048]⟩
abbrev S16384x1024 : Shape := ⟨2, ![16384, 1024]⟩
abbrev S16384x13824 : Shape := ⟨2, ![16384, 13824]⟩
abbrev S1024 : Shape := ⟨1, ![1024]⟩
abbrev S8x128x128 : Shape := ⟨3, ![8, 128, 128]⟩
abbrev S8x128 : Shape := ⟨2, ![8, 128]⟩
abbrev S1024x2048 : Shape := ⟨2, ![1024, 2048]⟩
abbrev S2048x2048 : Shape := ⟨2, ![2048, 2048]⟩
abbrev S2048 : Shape := ⟨1, ![2048]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S1x2048 : Shape := ⟨2, ![1, 2048]⟩
abbrev S256x2048 : Shape := ⟨2, ![256, 2048]⟩
abbrev S1x1x2048 : Shape := ⟨3, ![1, 1, 2048]⟩
abbrev S256x1024 : Shape := ⟨2, ![256, 1024]⟩
abbrev S256 : Shape := ⟨1, ![256]⟩
abbrev S256x1 : Shape := ⟨2, ![256, 1]⟩
abbrev S128x128 : Shape := ⟨2, ![128, 128]⟩
abbrev S128x256 : Shape := ⟨2, ![128, 256]⟩
abbrev S1x128x128 : Shape := ⟨3, ![1, 128, 128]⟩
abbrev S256x128 : Shape := ⟨2, ![256, 128]⟩

abbrev nBuf : Space → Nat
  | .hbm => 26
  | .vmem => 35
  | .smem => 0
  | _ => 0

abbrev bufTy : (tb : Table) → Fin (tcTables nBuf tb) → BufTy
  | .hbm, ⟨0, _⟩ => ⟨S16384x2048, .f32⟩
  | .hbm, ⟨1, _⟩ => ⟨S8x1x2048, .f32⟩
  | .hbm, ⟨2, _⟩ => ⟨S16384x1024, .bf16⟩
  | .hbm, ⟨3, _⟩ => ⟨S16384x1024, .bf16⟩
  | .hbm, ⟨4, _⟩ => ⟨S16384x13824, .bf16⟩
  | .hbm, ⟨5, _⟩ => ⟨S1024, .f32⟩
  | .hbm, ⟨6, _⟩ => ⟨S1024, .f32⟩
  | .hbm, ⟨7, _⟩ => ⟨S8x128x128, .f32⟩
  | .hbm, ⟨8, _⟩ => ⟨S8x128, .f32⟩
  | .hbm, ⟨9, _⟩ => ⟨S1024x2048, .f32⟩
  | .hbm, ⟨10, _⟩ => ⟨S1024x2048, .f32⟩
  | .hbm, ⟨11, _⟩ => ⟨S1024x2048, .f32⟩
  | .hbm, ⟨12, _⟩ => ⟨S2048x2048, .f32⟩
  | .hbm, ⟨13, _⟩ => ⟨S2048, .f32⟩
  | .hbm, ⟨14, _⟩ => ⟨S128x8, .f32⟩
  | .hbm, ⟨15, _⟩ => ⟨S128x8x128, .f32⟩
  | .hbm, ⟨16, _⟩ => ⟨S128x1024, .f32⟩
  | .hbm, ⟨17, _⟩ => ⟨S1x1024, .f32⟩
  | .hbm, ⟨18, _⟩ => ⟨S1x1024, .f32⟩
  | .hbm, ⟨19, _⟩ => ⟨S8x128x128, .bf16⟩
  | .hbm, ⟨20, _⟩ => ⟨S1024x2048, .bf16⟩
  | .hbm, ⟨21, _⟩ => ⟨S1024x2048, .bf16⟩
  | .hbm, ⟨22, _⟩ => ⟨S1024x2048, .bf16⟩
  | .hbm, ⟨23, _⟩ => ⟨S2048x2048, .bf16⟩
  | .hbm, ⟨24, _⟩ => ⟨S1x2048, .f32⟩
  | .hbm, ⟨25, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S1x1024, .f32⟩
  | .local _ .vmem, ⟨25, _⟩ => ⟨S1x1024, .f32⟩
  | .local _ .vmem, ⟨26, _⟩ => ⟨S8x128x128, .bf16⟩
  | .local _ .vmem, ⟨27, _⟩ => ⟨S128x1024, .f32⟩
  | .local _ .vmem, ⟨28, _⟩ => ⟨S1024x2048, .bf16⟩
  | .local _ .vmem, ⟨29, _⟩ => ⟨S1024x2048, .bf16⟩
  | .local _ .vmem, ⟨30, _⟩ => ⟨S1024x2048, .bf16⟩
  | .local _ .vmem, ⟨31, _⟩ => ⟨S2048x2048, .bf16⟩
  | .local _ .vmem, ⟨32, _⟩ => ⟨S1x2048, .f32⟩
  | .local _ .vmem, ⟨33, _⟩ => ⟨S256x2048, .f32⟩
  | .local _ .vmem, ⟨34, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg21_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem20_0 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_9 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_10 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_11 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x2048 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x2048 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2048x2048 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x2048 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== MergeRefIdeal.lean ====
abbrev S16384x2048 : Shape := ⟨2, ![16384, 2048]⟩
abbrev S8x1x2048 : Shape := ⟨3, ![8, 1, 2048]⟩
abbrev S16384x1024 : Shape := ⟨2, ![16384, 1024]⟩
abbrev S16384x13824 : Shape := ⟨2, ![16384, 13824]⟩
abbrev S1024 : Shape := ⟨1, ![1024]⟩
abbrev S8x128x128 : Shape := ⟨3, ![8, 128, 128]⟩
abbrev S8x128 : Shape := ⟨2, ![8, 128]⟩
abbrev S1024x2048 : Shape := ⟨2, ![1024, 2048]⟩
abbrev S2048x2048 : Shape := ⟨2, ![2048, 2048]⟩
abbrev S2048 : Shape := ⟨1, ![2048]⟩
abbrev S4x4096x2048 : Shape := ⟨3, ![4, 4096, 2048]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x32x128x8x128 : Shape := ⟨5, ![4, 32, 128, 8, 128]⟩
abbrev S8x4x32x128x128 : Shape := ⟨5, ![8, 4, 32, 128, 128]⟩
abbrev S128x8 : Shape := ⟨2, ![128, 8]⟩
abbrev S1x1x128x8x1 : Shape := ⟨5, ![1, 1, 128, 8, 1]⟩
abbrev S4x1x2048 : Shape := ⟨3, ![4, 1, 2048]⟩
abbrev S1x1x2048 : Shape := ⟨3, ![1, 1, 2048]⟩

abbrev nBuf : Space → Nat
  | .hbm => 165
  | .vmem => 0
  | .smem => 0
  | _ => 0

abbrev hbmTy0_0 (i : Nat) : BufTy := match i % 128 with
  | 0 => ⟨S16384x2048, .f32⟩
  | 1 => ⟨S8x1x2048, .f32⟩
  | 2 => ⟨S16384x1024, .bf16⟩
  | 3 => ⟨S16384x1024, .bf16⟩
  | 4 => ⟨S16384x13824, .bf16⟩
  | 5 => ⟨S1024, .f32⟩
  | 6 => ⟨S1024, .f32⟩
  | 7 => ⟨S8x128x128, .f32⟩
  | 8 => ⟨S8x128, .f32⟩
  | 9 => ⟨S1024x2048, .f32⟩
  | 10 => ⟨S1024x2048, .f32⟩
  | 11 => ⟨S1024x2048, .f32⟩
  | 12 => ⟨S2048x2048, .f32⟩
  | 13 => ⟨S2048, .f32⟩
  | 14 => ⟨S4x4096x2048, .f32⟩
  | 15 => ⟨S16384x1024, .f32⟩
  | 16 => ⟨S4x4096x1024, .f32⟩
  | 17 => ⟨S16384x1024, .f32⟩
  | 18 => ⟨S4x4096x1024, .f32⟩
  | 19 => ⟨S16384x1024, .bf16⟩
  | 20 => ⟨S16384x1024, .f32⟩
  | 21 => ⟨S4x4096x1024, .f32⟩
  | 22 => ⟨S16384x1024, .bf16⟩
  | 23 => ⟨S16384x1024, .f32⟩
  | 24 => ⟨S4x4096x1024, .f32⟩
  | 25 => ⟨S16384x1024, .bf16⟩
  | 26 => ⟨S16384x1024, .f32⟩
  | 27 => ⟨S4x4096x1024, .f32⟩
  | 28 => ⟨S16384x1024, .bf16⟩
  | 29 => ⟨S16384x1024, .f32⟩
  | 30 => ⟨S4x4096x1024, .f32⟩
  | 31 => ⟨S16384x1024, .bf16⟩
  | 32 => ⟨S16384x1024, .f32⟩
  | 33 => ⟨S4x4096x1024, .f32⟩
  | 34 => ⟨S_, .f32⟩
  | 35 => ⟨S4x4096, .f32⟩
  | 36 => ⟨S4x4096x1, .f32⟩
  | 37 => ⟨S_, .f32⟩
  | 38 => ⟨S4x4096x1, .f32⟩
  | 39 => ⟨S4x4096x1, .f32⟩
  | 40 => ⟨S4x4096x1024, .f32⟩
  | 41 => ⟨S4x4096x1024, .f32⟩
  | 42 => ⟨S4x4096x1024, .f32⟩
  | 43 => ⟨S_, .f32⟩
  | 44 => ⟨S4x4096, .f32⟩
  | 45 => ⟨S4x4096x1, .f32⟩
  | 46 => ⟨S_, .f32⟩
  | 47 => ⟨S4x4096x1, .f32⟩
  | 48 => ⟨S4x4096x1, .f32⟩
  | 49 => ⟨S4x4096x1024, .f32⟩
  | 50 => ⟨S4x4096x1024, .f32⟩
  | 51 => ⟨S_, .f32⟩
  | 52 => ⟨S4x4096x1, .f32⟩
  | 53 => ⟨S4x4096x1, .f32⟩
  | 54 => ⟨S4x4096x1, .f32⟩
  | 55 => ⟨S4x4096x1024, .f32⟩
  | 56 => ⟨S4x4096x1024, .f32⟩
  | 57 => ⟨S1x1x1024, .f32⟩
  | 58 => ⟨S4x4096x1024, .f32⟩
  | 59 => ⟨S4x4096x1024, .f32⟩
  | 60 => ⟨S1x1x1024, .f32⟩
  | 61 => ⟨S4x4096x1024, .f32⟩
  | 62 => ⟨S4x4096x1024, .f32⟩
  | 63 => ⟨S4x32x128x8x128, .f32⟩
  | 64 => ⟨S8x4x32x128x128, .f32⟩
  | 65 => ⟨S4x32x128x8x128, .f32⟩
  | 66 => ⟨S128x8, .f32⟩
  | 67 => ⟨S1x1x128x8x1, .f32⟩
  | 68 => ⟨S4x32x128x8x128, .f32⟩
  | 69 => ⟨S4x32x128x8x128, .f32⟩
  | 70 => ⟨S4x4096x1024, .f32⟩
  | 71 => ⟨S4x4096x1024, .f32⟩
  | 72 => ⟨S16384x2048, .bf16⟩
  | 73 => ⟨S16384x2048, .f32⟩
  | 74 => ⟨S4x4096x2048, .f32⟩
  | 75 => ⟨S4x4096x2048, .f32⟩
  | 76 => ⟨S4x4096x2048, .f32⟩
  | 77 => ⟨S_, .f32⟩
  | 78 => ⟨S4x4096x2048, .f32⟩
  | 79 => ⟨S4x4096x2048, .f32⟩
  | 80 => ⟨S_, .f32⟩
  | 81 => ⟨S4x4096x2048, .f32⟩
  | 82 => ⟨S4x4096x2048, .f32⟩
  | 83 => ⟨S4x4096x1024, .f32⟩
  | 84 => ⟨S4x4096x1024, .f32⟩
  | 85 => ⟨S_, .f32⟩
  | 86 => ⟨S4x4096x1024, .f32⟩
  | 87 => ⟨S4x4096x1024, .f32⟩
  | 88 => ⟨S_, .f32⟩
  | 89 => ⟨S4x4096x1024, .f32⟩
  | 90 => ⟨S4x4096x1024, .f32⟩
  | 91 => ⟨S4x4096x1024, .f32⟩
  | 92 => ⟨S4x4096x1024, .f32⟩
  | 93 => ⟨S4x4096x2048, .f32⟩
  | 94 => ⟨S4x4096x2048, .f32⟩
  | 95 => ⟨S16384x2048, .bf16⟩
  | 96 => ⟨S16384x2048, .f32⟩
  | 97 => ⟨S4x4096x2048, .f32⟩
  | 98 => ⟨S4x4096x2048, .f32⟩
  | 99 => ⟨S4x4096x2048, .f32⟩
  | 100 => ⟨S_, .f32⟩
  | 101 => ⟨S4x4096x2048, .f32⟩
  | 102 => ⟨S4x4096x2048, .f32⟩
  | 103 => ⟨S_, .f32⟩
  | 104 => ⟨S4x4096x2048, .f32⟩
  | 105 => ⟨S4x4096x2048, .f32⟩
  | 106 => ⟨S4x4096x1024, .f32⟩
  | 107 => ⟨S4x4096x1024, .f32⟩
  | 108 => ⟨S_, .f32⟩
  | 109 => ⟨S4x4096x1024, .f32⟩
  | 110 => ⟨S4x4096x1024, .f32⟩
  | 111 => ⟨S_, .f32⟩
  | 112 => ⟨S4x4096x1024, .f32⟩
  | 113 => ⟨S4x4096x1024, .f32⟩
  | 114 => ⟨S4x4096x1024, .f32⟩
  | 115 => ⟨S4x4096x1024, .f32⟩
  | 116 => ⟨S4x4096x2048, .f32⟩
  | 117 => ⟨S4x4096x2048, .f32⟩
  | 118 => ⟨S4x4096x2048, .f32⟩
  | 119 => ⟨S16384x2048, .bf16⟩
  | 120 => ⟨S16384x2048, .f32⟩
  | 121 => ⟨S4x4096x2048, .f32⟩
  | 122 => ⟨S4x4096x2048, .f32⟩
  | 123 => ⟨S4x4096x2048, .f32⟩
  | 124 => ⟨S_, .f32⟩
  | 125 => ⟨S4x4096x2048, .f32⟩
  | 126 => ⟨S4x4096x2048, .f32⟩
  | 127 => ⟨S_, .f32⟩
  | _ => ⟨S16384x2048, .f32⟩

abbrev hbmTy0_1 (i : Nat) : BufTy := match i % 128 with
  | 0 => ⟨S4x4096x2048, .f32⟩
  | 1 => ⟨S4x4096x2048, .f32⟩
  | 2 => ⟨S4x4096x1024, .f32⟩
  | 3 => ⟨S4x4096x1024, .f32⟩
  | 4 => ⟨S_, .f32⟩
  | 5 => ⟨S4x4096x1024, .f32⟩
  | 6 => ⟨S4x4096x1024, .f32⟩
  | 7 => ⟨S_, .f32⟩
  | 8 => ⟨S4x4096x1024, .f32⟩
  | 9 => ⟨S4x4096x1024, .f32⟩
  | 10 => ⟨S4x4096x1024, .f32⟩
  | 11 => ⟨S4x4096x1024, .f32⟩
  | 12 => ⟨S4x4096x2048, .f32⟩
  | 13 => ⟨S4x4096x2048, .f32⟩
  | 14 => ⟨S4x4096x2048, .f32⟩
  | 15 => ⟨S4x1x2048, .f32⟩
  | 16 => ⟨S4x4096x2048, .f32⟩
  | 17 => ⟨S4x4096x2048, .f32⟩
  | 18 => ⟨S4x4096x2048, .f32⟩
  | 19 => ⟨S4x4096x2048, .f32⟩
  | 20 => ⟨S4x4096x2048, .f32⟩
  | 21 => ⟨S_, .f32⟩
  | 22 => ⟨S4x4096, .f32⟩
  | 23 => ⟨S4x4096x1, .f32⟩
  | 24 => ⟨S_, .f32⟩
  | 25 => ⟨S4x4096x1, .f32⟩
  | 26 => ⟨S4x4096x1, .f32⟩
  | 27 => ⟨S_, .f32⟩
  | 28 => ⟨S4x4096x1, .f32⟩
  | 29 => ⟨S4x4096x1, .f32⟩
  | 30 => ⟨S4x4096x1, .f32⟩
  | 31 => ⟨S4x4096x2048, .f32⟩
  | 32 => ⟨S4x4096x2048, .f32⟩
  | 33 => ⟨S1x1x2048, .f32⟩
  | 34 => ⟨S4x4096x2048, .f32⟩
  | 35 => ⟨S4x4096x2048, .f32⟩
  | 36 => ⟨S16384x2048, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_4 : Ref sig .tc := ⟨.hbm, 77, rfl⟩
abbrev main_v58 : Ref sig .tc := ⟨.hbm, 78, rfl⟩
abbrev main_v59 : Ref sig .tc := ⟨.hbm, 79, rfl⟩
abbrev main_cst_5 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_6 : Ref sig .tc := ⟨.hbm, 85, rfl⟩
abbrev main_v64 : Ref sig .tc := ⟨.hbm, 86, rfl⟩
abbrev main_v65 : Ref sig .tc := ⟨.hbm, 87, rfl⟩
abbrev main_cst_7 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_8 : Ref sig .tc := ⟨.hbm, 100, rfl⟩
abbrev main_v77 : Ref sig .tc := ⟨.hbm, 101, rfl⟩
abbrev main_v78 : Ref sig .tc := ⟨.hbm, 102, rfl⟩
abbrev main_cst_9 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_10 : Ref sig .tc := ⟨.hbm, 108, rfl⟩
abbrev main_v83 : Ref sig .tc := ⟨.hbm, 109, rfl⟩
abbrev main_v84 : Ref sig .tc := ⟨.hbm, 110, rfl⟩
abbrev main_cst_11 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_12 : Ref sig .tc := ⟨.hbm, 124, rfl⟩
abbrev main_v97 : Ref sig .tc := ⟨.hbm, 125, rfl⟩
abbrev main_v98 : Ref sig .tc := ⟨.hbm, 126, rfl⟩
abbrev main_cst_13 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_14 : Ref sig .tc := ⟨.hbm, 132, rfl⟩
abbrev main_v103 : Ref sig .tc := ⟨.hbm, 133, rfl⟩
abbrev main_v104 : Ref sig .tc := ⟨.hbm, 134, rfl⟩
abbrev main_cst_15 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_cst_16 : Ref sig .tc := ⟨.hbm, 149, rfl⟩
abbrev main_v118 : Ref sig .tc := ⟨.hbm, 150, rfl⟩
abbrev main_v119 : Ref sig .tc := ⟨.hbm, 151, rfl⟩
abbrev main_cst_17 : Ref sig .tc := ⟨.hbm, 152, rfl⟩
abbrev main_v120 : Ref sig .tc := ⟨.hbm, 153, rfl⟩
abbrev main_v121 : Ref sig .tc := ⟨.hbm, 154, rfl⟩
abbrev main_cst_18 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩

abbrev nD : Nat := 1
abbrev τ : Topo := Topo.v7x

variable {F : FTy → Type} [FloatOps F]
-- ==== Proof.AttnCases.lean ====
/- What one grid point of the latent attention kernel leaves in its buffers.

   The kernel is software-pipelined over its grid: a point writes the scores of its own block, with their row maxima, into
   one of two scratch pairs, and turns the scores which the point before left in the other pair into its output block.
   Each theorem below reads one of the generated run's named contents as one of three functions: `scores`, the row
   maxima (the payload `k0_pay10`) and `block`. -/
module

public import proofs.«01_k».proof.Proof.Gen.KernelIdeal.Value

@[expose] public section

noncomputable section

namespace Cert.Proof.Attn

open Cert.KernelIdeal Cert.KernelIdeal.Gen Idealize.ShloMosaic Idealize.ShloMosaic.TcCoe Idealize.SL.Sem

variable {F : FTy → Type} [FloatOps F]

/-- Zero offsets, however they are spelt. -/
theorem off_zero : (![0, 0] : Fin 2 → Nat) = fun _ => 0 := funext fun a => by match a with | ⟨0, _⟩ => rfl | ⟨1, _⟩ => rfl

/-- The score buffer after a point: the latent keys' scores in the first 4096 columns, the context keys' in the last 256. -/
def scores (q : Vec F S1024x256 .bf16) (kl : Vec F S4096x256 .bf16) (kx : Vec F S256x256 .bf16) : Vec F S1024x4352 .f32 :=
  View.canon [⟨Rect.unit (s := S1024x4352) ![0, 4096] S1024x256.size inb_S1024x4352_S1024x256_0_4096, k0_pay9 q kx⟩,
    ⟨Rect.unit (s := S1024x4352) ![0, 0] S1024x4096.size inb_S1024x4352_S1024x4096_0_0, k0_pay8 q kl⟩]

/-- The output block from a score buffer, its row maxima, and the latent and context values. -/
def block (s : Vec F S1024x4352 .f32) (mx : Vec F S1024x1 .f32) (vl : Vec F S4096x256 .bf16) (vx : Vec F S256x256 .bf16) :
    Vec F S1024x128 .bf16 :=
  k0_pay3 (k0_pay11 mx (View.ld s (Rect.unit (s := S1024x4352) ![0, 0] S1024x4096.size inb_S1024x4352_S1024x4096_0_0)))
    (k0_pay12 mx (View.ld s (Rect.unit (s := S1024x4352) ![0, 4096] S1024x256.size inb_S1024x4352_S1024x256_0_4096))) vl vx

/-- Case A: the score buffer it fills. -/
theorem sout0_A_0_eq (c : Dev nD) (i : grid0.Coords) (a1 : Memref sig .tc .vmem S1024x256 .bf16) (h1 : a1.IsWhole) (a2 : Memref sig .tc .vmem S4096x256 .bf16) (h2 : a2.IsWhole) (a3 : Memref sig .tc .vmem S256x256 .bf16) (h3 : a3.IsWhole) (a4 : Memref sig .tc .vmem S4096x256 .bf16) (h4 : a4.IsWhole) (a5 : Memref sig .tc .vmem S256x256 .bf16) (h5 : a5.IsWhole) (a6 : Memref sig .tc .vmem S1024x128 .bf16) (h6 : a6.IsWhole) (a7 : Memref sig .tc .vmem S1024x4352 .f32) (h7 : a7.IsWhole) (a8 : Memref sig .tc .vmem S1024x1 .f32) (h8 : a8.IsWhole) (a9 : Memref sig .tc .vmem S1024x4352 .f32) (h9 : a9.IsWhole) (a10 : Memref sig .tc .vmem S1024x1 .f32) (h10 : a10.IsWhole)
    (hc0 : cond0_0 i) (hc1 : cond0_1 i) (hc2 : ¬cond0_2 i)
    (x0 : Vec F S1024x256 .bf16) (x1 : Vec F S4096x256 .bf16) (x2 : Vec F S256x256 .bf16) (x3 : Vec F S4096x256 .bf16) (x4 : Vec F S256x256 .bf16) :
    sout0_A_0 c i a1 h1 a2 h2 a3 h3 a4 h4 a5 h5 a6 h6 a7 h7 a8 h8 a9 h9 a10 h10 hc0 hc1 hc2 x0 x1 x2 x3 x4 = scores x0 x1 x2 := by
  unfold sout0_A_0
  rw [View.read_writes_eq_canon _ _ _ (scover0_A_0 c i a1 h1 a2 h2 a3 h3 a4 h4 a5 h5 a6 h6 a7 h7 a8 h8 a9 h9 a10 h10 hc0 hc1 hc2 x0 x1 x2 x3 x4)]
  unfold kernelRun0_A
  dsimp only
  sl_unfold_words
  simp only [View.readAt_eq_ld, h1.read_unread, h2.read_unread, h3.read_unread, View.ld_unit_zero (S := S1024x256) off_zero, View.ld_unit_zero (S := S4096x256) off_zero, View.ld_unit_zero (S := S256x256) off_zero]
  rfl

/-- Case A: the row maxima it leaves. -/
theorem sout0_A_1_eq (c : Dev nD) (i : grid0.Coords) (a1 : Memref sig .tc .vmem S1024x256 .bf16) (h1 : a1.IsWhole) (a2 : Memref sig .tc .vmem S4096x256 .bf16) (h2 : a2.IsWhole) (a3 : Memref sig .tc .vmem S256x256 .bf16) (h3 : a3.IsWhole) (a4 : Memref sig .tc .vmem S4096x256 .bf16) (h4 : a4.IsWhole) (a5 : Memref sig .tc .vmem S256x256 .bf16) (h5 : a5.IsWhole) (a6 : Memref sig .tc .vmem S1024x128 .bf16) (h6 : a6.IsWhole) (a7 : Memref sig .tc .vmem S1024x4352 .f32) (h7 : a7.IsWhole) (a8 : Memref sig .tc .vmem S1024x1 .f32) (h8 : a8.IsWhole) (a9 : Memref sig .tc .vmem S1024x4352 .f32) (h9 : a9.IsWhole) (a10 : Memref sig .tc .vmem S1024x1 .f32) (h10 : a10.IsWhole)
    (hc0 : cond0_0 i) (hc1 : cond0_1 i) (hc2 : ¬cond0_2 i)
    (x0 : Vec F S1024x256 .bf16) (x1 : Vec F S4096x256 .bf16) (x2 : Vec F S256x256 .bf16) (x3 : Vec F S4096x256 .bf16) (x4 : Vec F S256x256 .bf16) :
    sout0_A_1 c i a1 h1 a2 h2 a3 h3 a4 h4 a5 h5 a6 h6 a7 h7 a8 h8 a9 h9 a10 h10 hc0 hc1 hc2 x0 x1 x2 x3 x4 = k0_pay10 x0 x1 x2 := by
  unfold sout0_A_1
  rw [View.read_writes_eq_canon _ _ _ (scover0_A_1 c i a1 h1 a2 h2 a3 h3 a4 h4 a5 h5 a6 h6 a7 h7 a8 h8 a9 h9 a10 h10 hc0 hc1 hc2 x0 x1 x2 x3 x4)]
  unfold kernelRun0_A
  dsimp only
  sl_unfold_words
  rw [View.canon_unit_zero off_zero]
  simp only [View.readAt_eq_ld, h1.read_unread, h2.read_unread, h3.read_unread, View.ld_unit_zero (S := S1024x256) off_zero, View.ld_unit_zero (S := S4096x256) off_zero, View.ld_unit_zero (S := S256x256) off_zero]

/-- Case B: the score buffer it fills. -/
theorem sout0_B_2_eq (c : Dev nD) (i : grid0.Coords) (a1 : Memref sig .tc .vmem S1024x256 .bf16) (h1 : a1.IsWhole) (a2 : Memref sig .tc .vmem S4096x256 .bf16) (h2 : a2.IsWhole) (a3 : Memref sig .tc .vmem S256x256 .bf16) (h3 : a3.IsWhole) (a4 : Memref sig .tc .vmem S4096x256 .bf16) (h4 : a4.IsWhole) (a5 : Memref sig .tc .vmem S256x256 .bf16) (h5 : a5.IsWhole) (a6 : Memref sig .tc .vmem S1024x128 .bf16) (h6 : a6.IsWhole) (a7 : Memref sig .tc .vmem S1024x4352 .f32) (h7 : a7.IsWhole) (a8 : Memref sig .tc .vmem S1024x1 .f32) (h8 : a8.IsWhole) (a9 : Memref sig .tc .vmem S1024x4352 .f32) (h9 : a9.IsWhole) (a10 : Memref sig .tc .vmem S1024x1 .f32) (h10 : a10.IsWhole)
    (hc0 : ¬cond0_0 i) (hc1 : ¬cond0_1 i) (hc2 : cond0_2 i)
    (x0 : Vec F S1024x256 .bf16) (x1 : Vec F S4096x256 .bf16) (x2 : Vec F S256x256 .bf16) (x3 : Vec F S4096x256 .bf16) (x4 : Vec F S256x256 .bf16) (xs0 : Vec F S1024x4352 .f32) (xs1 : Vec F S1024x1 .f32) :
    sout0_B_2 c i a1 h1 a2 h2 a3 h3 a4 h4 a5 h5 a6 h6 a7 h7 a8 h8 a9 h9 a10 h10 hc0 hc1 hc2 x0 x1 x2 x3 x4 xs0 xs1 = scores x0 x1 x2 := by
  unfold sout0_B_2
  rw [View.read_writes_eq_canon _ _ _ (scover0_B_2 c i a1 h1 a2 h2 a3 h3 a4 h4 a5 h5 a6 h6 a7 h7 a8 h8 a9 h9 a10 h10 hc0 hc1 hc2 x0 x1 x2 x3 x4 xs0 xs1)]
  unfold kernelRun0_B
  dsimp only
  sl_unfold_words
  simp only [View.readAt_eq_ld, h1.read_unread, h2.read_unread, h3.read_unread, View.ld_unit_zero (S := S1024x256) off_zero, View.ld_unit_zero (S := S4096x256) off_zero, View.ld_unit_zero (S := S256x256) off_zero]
  rfl

/-- Case B: the row maxima it leaves. -/
theorem sout0_B_3_eq (c : Dev nD) (i : grid0.Coords) (a1 : Memref sig .tc .vmem S1024x256 .bf16) (h1 : a1.IsWhole) (a2 : Memref sig .tc .vmem S4096x256 .bf16) (h2 : a2.IsWhole) (a3 : Memref sig .tc .vmem S256x256 .bf16) (h3 : a3.IsWhole) (a4 : Memref sig .tc .vmem S4096x256 .bf16) (h4 : a4.IsWhole) (a5 : Memref sig .tc .vmem S256x256 .bf16) (h5 : a5.IsWhole) (a6 : Memref sig .tc .vmem S1024x128 .bf16) (h6 : a6.IsWhole) (a7 : Memref sig .tc .vmem S1024x4352 .f32) (h7 : a7.IsWhole) (a8 : Memref sig .tc .vmem S1024x1 .f32) (h8 : a8.IsWhole) (a9 : Memref sig .tc .vmem S1024x4352 .f32) (h9 : a9.IsWhole) (a10 : Memref sig .tc .vmem S1024x1 .f32) (h10 : a10.IsWhole)
    (hc0 : ¬cond0_0 i) (hc1 : ¬cond0_1 i) (hc2 : cond0_2 i)
    (x0 : Vec F S1024x256 .bf16) (x1 : Vec F S4096x256 .bf16) (x2 : Vec F S256x256 .bf16) (x3 : Vec F S4096x256 .bf16) (x4 : Vec F S256x256 .bf16) (xs0 : Vec F S1024x4352 .f32) (xs1 : Vec F S1024x1 .f32) :
    sout0_B_3 c i a1 h1 a2 h2 a3 h3 a4 h4 a5 h5 a6 h6 a7 h7 a8 h8 a9 h9 a10 h10 hc0 hc1 hc2 x0 x1 x2 x3 x4 xs0 xs1 = k0_pay10 x0 x1 x2 := by
  unfold sout0_B_3
  rw [View.read_writes_eq_canon _ _ _ (scover0_B_3 c i a1 h1 a2 h2 a3 h3 a4 h4 a5 h5 a6 h6 a7 h7 a8 h8 a9 h9 a10 h10 hc0 hc1 hc2 x0 x1 x2 x3 x4 xs0 xs1)]
  unfold kernelRun0_B
  dsimp only
  sl_unfold_words
  rw [View.canon_unit_zero off_zero]
  simp only [View.readAt_eq_ld, h1.read_unread, h2.read_unread, h3.read_unread, View.ld_unit_zero (S := S1024x256) off_zero, View.ld_unit_zero (S := S4096x256) off_zero, View.ld_unit_zero (S := S256x256) off_zero]
  rfl

/-- Case B: the output block is that of the scores left before. -/
theorem out0_B_5_eq (c : Dev nD) (i : grid0.Coords) (a1 : Memref sig .tc .vmem S1024x256 .bf16) (h1 : a1.IsWhole) (a2 : Memref sig .tc .vmem S4096x256 .bf16) (h2 : a2.IsWhole) (a3 : Memref sig .tc .vmem S256x256 .bf16) (h3 : a3.IsWhole) (a4 : Memref sig .tc .vmem S4096x256 .bf16) (h4 : a4.IsWhole) (a5 : Memref sig .tc .vmem S256x256 .bf16) (h5 : a5.IsWhole) (a6 : Memref sig .tc .vmem S1024x128 .bf16) (h6 : a6.IsWhole) (a7 : Memref sig .tc .vmem S1024x4352 .f32) (h7 : a7.IsWhole) (a8 : Memref sig .tc .vmem S1024x1 .f32) (h8 : a8.IsWhole) (a9 : Memref sig .tc .vmem S1024x4352 .f32) (h9 : a9.IsWhole) (a10 : Memref sig .tc .vmem S1024x1 .f32) (h10 : a10.IsWhole)
    (hc0 : ¬cond0_0 i) (hc1 : ¬cond0_1 i) (hc2 : cond0_2 i)
    (x0 : Vec F S1024x256 .bf16) (x1 : Vec F S4096x256 .bf16) (x2 : Vec F S256x256 .bf16) (x3 : Vec F S4096x256 .bf16) (x4 : Vec F S256x256 .bf16) (xs0 : Vec F S1024x4352 .f32) (xs1 : Vec F S1024x1 .f32) :
    out0_B_5 c i a1 h1 a2 h2 a3 h3 a4 h4 a5 h5 a6 h6 a7 h7 a8 h8 a9 h9 a10 h10 hc0 hc1 hc2 x0 x1 x2 x3 x4 xs0 xs1 = block xs0 xs1 x3 x4 := by
  unfold out0_B_5
  rw [View.read_writes_eq_canon _ _ _ (cover0_B_5 c i a1 h1 a2 h2 a3 h3 a4 h4 a5 h5 a6 h6 a7 h7 a8 h8 a9 h9 a10 h10 hc0 hc1 hc2 x0 x1 x2 x3 x4 xs0 xs1)]
  unfold kernelRun0_B
  dsimp only
  sl_unfold_words
  rw [View.canon_unit_zero off_zero]
  simp only [View.readAt_eq_ld, h4.read_unread, h5.read_unread, h7.read_unread, h8.read_unread, View.ld_unit_zero (S := S1024x1) off_zero, View.ld_unit_zero (S := S4096x256) off_zero, View.ld_unit_zero (S := S256x256) off_zero]
  rfl

/-- Case C: the score buffer it fills. -/
theorem sout0_C_0_eq (c : Dev nD) (i : grid0.Coords) (a1 : Memref sig .tc .vmem S1024x256 .bf16) (h1 : a1.IsWhole) (a2 : Memref sig .tc .vmem S4096x256 .bf16) (h2 : a2.IsWhole) (a3 : Memref sig .tc .vmem S256x256 .bf16) (h3 : a3.IsWhole) (a4 : Memref sig .tc .vmem S4096x256 .bf16) (h4 : a4.IsWhole) (a5 : Memref sig .tc .vmem S256x256 .bf16) (h5 : a5.IsWhole) (a6 : Memref sig .tc .vmem S1024x128 .bf16) (h6 : a6.IsWhole) (a7 : Memref sig .tc .vmem S1024x4352 .f32) (h7 : a7.IsWhole) (a8 : Memref sig .tc .vmem S1024x1 .f32) (h8 : a8.IsWhole) (a9 : Memref sig .tc .vmem S1024x4352 .f32) (h9 : a9.IsWhole) (a10 : Memref sig .tc .vmem S1024x1 .f32) (h10 : a10.IsWhole)
    (hc0 : ¬cond0_0 i) (hc1 : cond0_1 i) (hc2 : ¬cond0_2 i)
    (x0 : Vec F S1024x256 .bf16) (x1 : Vec F S4096x256 .bf16) (x2 : Vec F S256x256 .bf16) (x3 : Vec F S4096x256 .bf16) (x4 : Vec F S256x256 .bf16) (xs0 : Vec F S1024x4352 .f32) (xs1 : Vec F S1024x1 .f32) :
    sout0_C_0 c i a1 h1 a2 h2 a3 h3 a4 h4 a5 h5 a6 h6 a7 h7 a8 h8 a9 h9 a10 h10 hc0 hc1 hc2 x0 x1 x2 x3 x4 xs0 xs1 = scores x0 x1 x2 := by
  unfold sout0_C_0
  rw [View.read_writes_eq_canon _ _ _ (scover0_C_0 c i a1 h1 a2 h2 a3 h3 a4 h4 a5 h5 a6 h6 a7 h7 a8 h8 a9 h9 a10 h10 hc0 hc1 hc2 x0 x1 x2 x3 x4 xs0 xs1)]
  unfold kernelRun0_C
  dsimp only
  sl_unfold_words
  simp only [View.readAt_eq_ld, h1.read_unread, h2.read_unread, h3.read_unread, View.ld_unit_zero (S := S1024x256) off_zero, View.ld_unit_zero (S := S4096x256) off_zero, View.ld_unit_zero (S := S256x256) off_zero]
  rfl

/-- Case C: the row maxima it leaves. -/
theorem sout0_C_1_eq (c : Dev nD) (i : grid0.Coords) (a1 : Memref sig .tc .vmem S1024x256 .bf16) (h1 : a1.IsWhole) (a2 : Memref sig .tc .vmem S4096x256 .bf16) (h2 : a2.IsWhole) (a3 : Memref sig .tc .vmem S256x256 .bf16) (h3 : a3.IsWhole) (a4 : Memref sig .tc .vmem S4096x256 .bf16) (h4 : a4.IsWhole) (a5 : Memref sig .tc .vmem S256x256 .bf16) (h5 : a5.IsWhole) (a6 : Memref sig .tc .vmem S1024x128 .bf16) (h6 : a6.IsWhole) (a7 : Memref sig .tc .vmem S1024x4352 .f32) (h7 : a7.IsWhole) (a8 : Memref sig .tc .vmem S1024x1 .f32) (h8 : a8.IsWhole) (a9 : Memref sig .tc .vmem S1024x4352 .f32) (h9 : a9.IsWhole) (a10 : Memref sig .tc .vmem S1024x1 .f32) (h10 : a10.IsWhole)
    (hc0 : ¬cond0_0 i) (hc1 : cond0_1 i) (hc2 : ¬cond0_2 i)
    (x0 : Vec F S1024x256 .bf16) (x1 : Vec F S4096x256 .bf16) (x2 : Vec F S256x256 .bf16) (x3 : Vec F S4096x256 .bf16) (x4 : Vec F S256x256 .bf16) (xs0 : Vec F S1024x4352 .f32) (xs1 : Vec F S1024x1 .f32) :
    sout0_C_1 c i a1 h1 a2 h2 a3 h3 a4 h4 a5 h5 a6 h6 a7 h7 a8 h8 a9 h9 a10 h10 hc0 hc1 hc2 x0 x1 x2 x3 x4 xs0 xs1 = k0_pay10 x0 x1 x2 := by
  unfold sout0_C_1
  rw [View.read_writes_eq_canon _ _ _ (scover0_C_1 c i a1 h1 a2 h2 a3 h3 a4 h4 a5 h5 a6 h6 a7 h7 a8 h8 a9 h9 a10 h10 hc0 hc1 hc2 x0 x1 x2 x3 x4 xs0 xs1)]
  unfold kernelRun0_C
  dsimp only
  sl_unfold_words
  rw [View.canon_unit_zero off_zero]
  simp only [View.readAt_eq_ld, h1.read_unread, h2.read_unread, h3.read_unread, View.ld_unit_zero (S := S1024x256) off_zero, View.ld_unit_zero (S := S4096x256) off_zero, View.ld_unit_zero (S := S256x256) off_zero]

/-- Case C: the output block is that of the scores left before. -/
theorem out0_C_5_eq (c : Dev nD) (i : grid0.Coords) (a1 : Memref sig .tc .vmem S1024x256 .bf16) (h1 : a1.IsWhole) (a2 : Memref sig .tc .vmem S4096x256 .bf16) (h2 : a2.IsWhole) (a3 : Memref sig .tc .vmem S256x256 .bf16) (h3 : a3.IsWhole) (a4 : Memref sig .tc .vmem S4096x256 .bf16) (h4 : a4.IsWhole) (a5 : Memref sig .tc .vmem S256x256 .bf16) (h5 : a5.IsWhole) (a6 : Memref sig .tc .vmem S1024x128 .bf16) (h6 : a6.IsWhole) (a7 : Memref sig .tc .vmem S1024x4352 .f32) (h7 : a7.IsWhole) (a8 : Memref sig .tc .vmem S1024x1 .f32) (h8 : a8.IsWhole) (a9 : Memref sig .tc .vmem S1024x4352 .f32) (h9 : a9.IsWhole) (a10 : Memref sig .tc .vmem S1024x1 .f32) (h10 : a10.IsWhole)
    (hc0 : ¬cond0_0 i) (hc1 : cond0_1 i) (hc2 : ¬cond0_2 i)
    (x0 : Vec F S1024x256 .bf16) (x1 : Vec F S4096x256 .bf16) (x2 : Vec F S256x256 .bf16) (x3 : Vec F S4096x256 .bf16) (x4 : Vec F S256x256 .bf16) (xs0 : Vec F S1024x4352 .f32) (xs1 : Vec F S1024x1 .f32) :
    out0_C_5 c i a1 h1 a2 h2 a3 h3 a4 h4 a5 h5 a6 h6 a7 h7 a8 h8 a9 h9 a10 h10 hc0 hc1 hc2 x0 x1 x2 x3 x4 xs0 xs1 = block xs0 xs1 x3 x4 := by
  unfold out0_C_5
  rw [View.read_writes_eq_canon _ _ _ (cover0_C_5 c i a1 h1 a2 h2 a3 h3 a4 h4 a5 h5 a6 h6 a7 h7 a8 h8 a9 h9 a10 h10 hc0 hc1 hc2 x0 x1 x2 x3 x4 xs0 xs1)]
  unfold kernelRun0_C
  dsimp only
  sl_unfold_words
  rw [View.canon_unit_zero off_zero]
  simp only [View.readAt_eq_ld, h4.read_unread, h5.read_unread, h9.read_unread, h10.read_unread, View.ld_unit_zero (S := S1024x1) off_zero, View.ld_unit_zero (S := S4096x256) off_zero, View.ld_unit_zero (S := S256x256) off_zero]
  rfl

end Cert.Proof.Attn

end
-- ==== Proof.AttnBlock.lean ====
/- One output block of the latent attention over the ideal values, element by element.

   Row `r` of a query block has the scores Σ_l q(r,l)·k(j,l) against every key `j`; the block's element (r, d) is the
   quotient of two sums over the keys, both weighted by 2 to the power (score − row maximum): the numerator takes the
   values' column `d`, the denominator column `128 + d` (`row`, `block_apply`). -/
module

public import proofs.«01_k».proof.Proof.AttnCases
public import Idealize.ShloMosaic.Lib.MatmulPlain
public import Idealize.ShloMosaic.Lib.Pipeline.ValueKit

@[expose] public section

noncomputable section

namespace Cert.Proof.Attn

open Cert.KernelIdeal Cert.KernelIdeal.Gen Idealize.ShloMosaic Idealize.ShloMosaic.TcCoe Idealize.SL.Sem

/-- The largest of a row's scores, over the latent and the context keys. -/
def top (s : Fin 4096 → EReal) (x : Fin 256 → EReal) : EReal := max (Finset.univ.sup s) (Finset.univ.sup x)

/-- A row's weighted sum: each key's `2^(score − maximum)` times that key's entry of `v`. -/
def weighted (s : Fin 4096 → EReal) (x : Fin 256 → EReal) (v : Fin 4096 → EReal) (w : Fin 256 → EReal) : EReal :=
  (∑ j, Ideal.exp2 (s j - top s x) * v j) + ∑ j, Ideal.exp2 (x j - top s x) * w j

/-- The quotient of two weighted sums. -/
def row (s : Fin 4096 → EReal) (x : Fin 256 → EReal) (v : Fin 4096 → EReal) (w : Fin 256 → EReal)
    (v' : Fin 4096 → EReal) (w' : Fin 256 → EReal) : EReal := Ideal.div (weighted s x v w) (weighted s x v' w')

theorem pay8_apply (q : Vec Ideal S1024x256 .bf16) (k : Vec Ideal S4096x256 .bf16) (r : Fin 1024) (j : Fin 4096) :
    k0_pay8 q k (ix2 r j) = ∑ l : Fin 256, q (ix2 r l) * k (ix2 j l) := by
  unfold k0_pay8 k0_pay6 k0_pay5
  pointwise

theorem pay9_apply (q : Vec Ideal S1024x256 .bf16) (k : Vec Ideal S256x256 .bf16) (r : Fin 1024) (j : Fin 256) :
    k0_pay9 q k (ix2 r j) = ∑ l : Fin 256, q (ix2 r l) * k (ix2 j l) := by
  unfold k0_pay9 k0_pay7 k0_pay5
  pointwise

/-- The f32 pattern of minus infinity. -/
theorem ofBits_bot : Ideal.ofBits .f32 0xFF800000#32 = ⊥ := by simp [Ideal.ofBits, Ideal.ieee]

/-- A row maximum of a matrix, as the supremum of the row. -/
theorem rowMax_apply {M N : Nat} (v : FVec Ideal ⟨2, ![M, N]⟩ .f32) (h : Shape.Reduces ⟨2, ![M, N]⟩ [1] ⟨1, ![M]⟩)
    (hφ : FKind.Formats .f32) (hacc : (0xFF800000#32 : BitVec 32) = FKind.maximumf.neutral .f32 hφ) (r : Fin M) :
    multiReduction .maximumf [1] ⟨1, ![M]⟩ v 0xFF800000#32 h hφ hacc (ix1 r) = Finset.univ.sup fun j : Fin N => v (ix2 r j) := by
  refine (Ideal.multiReduction_maximumf_single _ _ _ _ _ _).trans ?_
  rw [show FloatOps.ofBits (F := Ideal) .f32 0xFF800000#32 = (⊥ : EReal) from ofBits_bot]
  refine Finset.fold_congr (g := fun j : Fin N => v (ix2 r j)) fun j _ => congrArg v ?_
  funext a
  match a with
  | ⟨0, _⟩ => rfl
  | ⟨1, _⟩ => rfl

theorem rowMax_latent (v : FVec Ideal S1024x4096 .f32) (r : Fin 1024) :
    multiReduction .maximumf [1] S1024 v 0xFF800000#32 reduces_S1024x4096_S1024 (.inl rfl) rfl (ix1 r)
      = Finset.univ.sup fun j : Fin 4096 => v (ix2 r j) := rowMax_apply v _ _ _ r

theorem rowMax_context (v : FVec Ideal S1024x256 .f32) (r : Fin 1024) :
    multiReduction .maximumf [1] S1024 v 0xFF800000#32 reduces_S1024x256_S1024 (.inl rfl) rfl (ix1 r)
      = Finset.univ.sup fun j : Fin 256 => v (ix2 r j) := rowMax_apply v _ _ _ r

theorem maximum_apply {s : Shape} (v w : FVec Ideal s .f32) (i : s.Idx) : maximumf v w i = max (v i) (w i) := rfl

/-- A column of row values read back as the vector it was cast from. -/
theorem column_apply (v : FVec Ideal S1024 .f32) (r : Fin 1024) (z : Fin 1) :
    shapeCast S1024x1 v shapeCasts_S1024_S1024x1 (ix2 r z) = v (ix1 r) :=
  shapeCast_apply _ _ _ _ (by
    rw [show S1024x1.rowMajor (ix2 r z) = _ from rfl, Shape.rowMajor_val_one, Shape.rowMajor_val_two]
    show r.val = r.val * 1 + z.val
    omega)

/-- The row maxima, read. -/
theorem pay10_apply (q : Vec Ideal S1024x256 .bf16) (kl : Vec Ideal S4096x256 .bf16) (kx : Vec Ideal S256x256 .bf16)
    (r : Fin 1024) (z : Fin 1) :
    k0_pay10 q kl kx (ix2 r z) = top (fun j => ∑ l : Fin 256, q (ix2 r l) * kl (ix2 j l))
      (fun j => ∑ l : Fin 256, q (ix2 r l) * kx (ix2 j l)) := by
  have e1 : ∀ j : Fin 4096, k0_pay6 q kl (ix2 r j) = ∑ l : Fin 256, q (ix2 r l) * kl (ix2 j l) := fun j => by
    rw [← pay8_apply]; unfold k0_pay8; rw [shapeCast_self]
  have e2 : ∀ j : Fin 256, k0_pay7 q kx (ix2 r j) = ∑ l : Fin 256, q (ix2 r l) * kx (ix2 j l) := fun j => by
    rw [← pay9_apply]; unfold k0_pay9; rw [shapeCast_self]
  unfold k0_pay10 top
  simp only [shapeCast_self]
  rw [maximum_apply, column_apply, column_apply, rowMax_latent, rowMax_context]
  simp only [e1, e2]

/-- The left part of a score buffer holds the latent keys' scores. -/
theorem scores_left (q : Vec Ideal S1024x256 .bf16) (kl : Vec Ideal S4096x256 .bf16) (kx : Vec Ideal S256x256 .bf16)
    (r : Fin 1024) (j : Fin 4096) (hj : j.val < 4352) :
    scores q kl kx (ix2 r ⟨j.val, hj⟩) = ∑ l : Fin 256, q (ix2 r l) * kl (ix2 j l) := by
  have e : (ix2 r ⟨j.val, hj⟩ : S1024x4352.Idx)
      = (Rect.unit (s := S1024x4352) ![0, 0] S1024x4096.size inb_S1024x4352_S1024x4096_0_0).emb (ix2 r j) := by
    funext a; apply Fin.ext
    match a with
    | ⟨0, _⟩ => show r.val = 0 + 1 * r.val; omega
    | ⟨1, _⟩ => show j.val = 0 + 1 * j.val; omega
  unfold scores
  rw [View.canon_cons_of_not_mem]
  · rw [e, View.canon_cons_emb]
    exact pay8_apply q kl r j
  · show _ ∉ (Rect.unit (s := S1024x4352) ![0, 4096] S1024x256.size inb_S1024x4352_S1024x256_0_4096).set
    rw [Rect.mem_set_unit]
    intro h
    have h1 : 4096 ≤ j.val := (h 1).1
    have := j.isLt
    omega

/-- The right part holds the context keys' scores. -/
theorem scores_right (q : Vec Ideal S1024x256 .bf16) (kl : Vec Ideal S4096x256 .bf16) (kx : Vec Ideal S256x256 .bf16)
    (r : Fin 1024) (j : Fin 256) (hj : 4096 + j.val < 4352) :
    scores q kl kx (ix2 r ⟨4096 + j.val, hj⟩) = ∑ l : Fin 256, q (ix2 r l) * kx (ix2 j l) := by
  have e : (ix2 r ⟨4096 + j.val, hj⟩ : S1024x4352.Idx)
      = (Rect.unit (s := S1024x4352) ![0, 4096] S1024x256.size inb_S1024x4352_S1024x256_0_4096).emb (ix2 r j) := by
    funext a; apply Fin.ext
    match a with
    | ⟨0, _⟩ => show r.val = 0 + 1 * r.val; omega
    | ⟨1, _⟩ => show 4096 + j.val = 4096 + 1 * j.val; omega
  unfold scores
  rw [e, View.canon_cons_emb]
  exact pay9_apply q kx r j

/-- An output block, from any score buffer and any row maxima. -/
theorem block_read (s : Vec Ideal S1024x4352 .f32) (mx : Vec Ideal S1024x1 .f32) (vl : Vec Ideal S4096x256 .bf16)
    (vx : Vec Ideal S256x256 .bf16) (r : Fin 1024) (d : Fin 128) : block s mx vl vx (ix2 r d)
      = Ideal.div
        ((∑ j : Fin 4096, Ideal.exp2 (s (ix2 r ⟨j.val, by omega⟩) - mx (ix2 r 0)) * vl (ix2 j ⟨d.val, by omega⟩))
          + ∑ j : Fin 256, Ideal.exp2 (s (ix2 r ⟨4096 + j.val, by omega⟩) - mx (ix2 r 0)) * vx (ix2 j ⟨d.val, by omega⟩))
        ((∑ j : Fin 4096, Ideal.exp2 (s (ix2 r ⟨j.val, by omega⟩) - mx (ix2 r 0)) * vl (ix2 j ⟨128 + d.val, by omega⟩))
          + ∑ j : Fin 256, Ideal.exp2 (s (ix2 r ⟨4096 + j.val, by omega⟩) - mx (ix2 r 0)) * vx (ix2 j ⟨128 + d.val, by omega⟩)) := by
  unfold block k0_pay3 k0_pay11 k0_pay12
  pointwise
  rfl

/-- An output block of a point, from the block the point before scored and this point's values. -/
theorem block_apply (q : Vec Ideal S1024x256 .bf16) (kl : Vec Ideal S4096x256 .bf16) (kx : Vec Ideal S256x256 .bf16)
    (vl : Vec Ideal S4096x256 .bf16) (vx : Vec Ideal S256x256 .bf16) (r : Fin 1024) (d : Fin 128) :
    block (scores q kl kx) (k0_pay10 q kl kx) vl vx (ix2 r d)
      = row (fun j => ∑ l : Fin 256, q (ix2 r l) * kl (ix2 j l)) (fun j => ∑ l : Fin 256, q (ix2 r l) * kx (ix2 j l))
        (fun j => vl (ix2 j ⟨d.val, by omega⟩)) (fun j => vx (ix2 j ⟨d.val, by omega⟩))
        (fun j => vl (ix2 j ⟨128 + d.val, by omega⟩)) (fun j => vx (ix2 j ⟨128 + d.val, by omega⟩)) := by
  rw [block_read]
  simp only [scores_left, scores_right, pay10_apply]
  rfl

end Cert.Proof.Attn

end
-- ==== Proof.AttnArray.lean ====
/- The latent attention's result array over the ideal values, as one function of the five arrays the kernel is given.

   Point `t ≥ 1` of the grid writes the block of its predecessor `u = t - 1`: batch `u / 32`, head `u / 4 % 8`, query block
   `u % 4`. So every element of the result is one `row` of its batch and head (`result`, `final`). -/
module

public import proofs.«01_k».proof.Proof.AttnBlock

@[expose] public section

noncomputable section

namespace Cert.Proof.Attn

open Cert.KernelIdeal Cert.KernelIdeal.Gen Cert.KernelIdeal.Value Idealize.ShloMosaic Idealize.ShloMosaic.TcCoe Idealize.SL.Sem

section Cases

variable {F : FTy → Type} [FloatOps F] (m : (ℓ : Loc nD τ sig) → Buf (Elt F) ℓ)

/-- The point before `t`. -/
abbrev before (t : Fin cfg0.N) : Fin cfg0.N := ⟨t.val - 1, Nat.lt_of_le_of_lt (Nat.sub_le _ _) t.isLt⟩

/-- An even point leaves its scores and row maxima in the first scratch pair. -/
theorem even_scores (c : Dev nD) (t : Fin cfg0.N) (h : t.val % 2 = 0) :
    (outsAt0 m c t.val t.isLt).2.1 = scores (iblk m c 0 t) (iblk m c 1 t) (iblk m c 2 t)
      ∧ (outsAt0 m c t.val t.isLt).2.2.1 = k0_pay10 (iblk m c 0 t) (iblk m c 1 t) (iblk m c 2 t) := by
  by_cases h0 : t.val % 129 = 0
  · rw [outsAt0_A m c t h0 h (by omega)]
    dsimp only
    exact ⟨sout0_A_0_eq .., sout0_A_1_eq ..⟩
  · rw [outsAt0_C m c t h0 h (by omega)]
    dsimp only
    exact ⟨sout0_C_0_eq .., sout0_C_1_eq ..⟩

/-- An odd point leaves its scores and row maxima in the second scratch pair. -/
theorem odd_scores (c : Dev nD) (t : Fin cfg0.N) (h : t.val % 2 = 1) :
    (outsAt0 m c t.val t.isLt).2.2.2.1 = scores (iblk m c 0 t) (iblk m c 1 t) (iblk m c 2 t)
      ∧ (outsAt0 m c t.val t.isLt).2.2.2.2 = k0_pay10 (iblk m c 0 t) (iblk m c 1 t) (iblk m c 2 t) := by
  have hN : t.val < 129 := lt_of_lt_of_eq t.isLt (show cfg0.N = 129 from N_0)
  rw [outsAt0_B m c t (by omega) (by omega) h]
  dsimp only
  exact ⟨sout0_B_2_eq .., sout0_B_3_eq ..⟩

/-- A point after the first writes the block of the scores its predecessor left, with its own values. -/
theorem written (c : Dev nD) (t : Fin cfg0.N) (h : 1 ≤ t.val) : (outsAt0 m c t.val t.isLt).1
    = block (scores (iblk m c 0 (before t)) (iblk m c 1 (before t)) (iblk m c 2 (before t)))
        (k0_pay10 (iblk m c 0 (before t)) (iblk m c 1 (before t)) (iblk m c 2 (before t))) (iblk m c 3 t) (iblk m c 4 t) := by
  have hN : t.val < 129 := lt_of_lt_of_eq t.isLt (show cfg0.N = 129 from N_0)
  by_cases h1 : t.val % 2 = 0
  · obtain ⟨e0, e1⟩ := odd_scores m c (before t) (by show (t.val - 1) % 2 = 1; omega)
    rw [outsAt0_C m c t (by omega) h1 (by omega), ← e0, ← e1]
    dsimp only
    exact out0_C_5_eq ..
  · obtain ⟨e0, e1⟩ := even_scores m c (before t) (by show (t.val - 1) % 2 = 0; omega)
    rw [outsAt0_B m c t (by omega) h1 (by omega), ← e0, ← e1]
    dsimp only
    exact out0_B_5_eq ..

end Cases

/-! ## Which block each window holds -/

theorem index_q : ∀ t : Fin cfg0.N, t.val < 128 →
    win0_0.index t (0 : Fin 2) = t.val / 32 * 4 + t.val % 4 ∧ win0_0.index t (1 : Fin 2) = t.val / 4 % 8 :=
  (by decide +kernel : ∀ t : Fin grid0.N, _)
theorem index_kl : ∀ t : Fin cfg0.N, t.val < 128 →
    win0_1.index t (0 : Fin 2) = t.val / 32 ∧ win0_1.index t (1 : Fin 2) = t.val / 4 % 8 :=
  (by decide +kernel : ∀ t : Fin grid0.N, _)
theorem index_kx : ∀ t : Fin cfg0.N, t.val < 128 →
    win0_2.index t (0 : Fin 2) = t.val / 32 ∧ win0_2.index t (1 : Fin 2) = t.val / 4 % 8 :=
  (by decide +kernel : ∀ t : Fin grid0.N, _)
theorem index_vl : ∀ t : Fin cfg0.N,
    win0_3.index t (0 : Fin 2) = (t.val - 1) / 32 ∧ win0_3.index t (1 : Fin 2) = (t.val - 1) / 4 % 8 :=
  (by decide +kernel : ∀ t : Fin grid0.N, _)
theorem index_vx : ∀ t : Fin cfg0.N,
    win0_4.index t (0 : Fin 2) = (t.val - 1) / 32 ∧ win0_4.index t (1 : Fin 2) = (t.val - 1) / 4 % 8 :=
  (by decide +kernel : ∀ t : Fin grid0.N, _)
theorem index_o : ∀ t : Fin cfg0.N, win0_5.index t (0 : Fin 2) = (t.val - 1) / 32 * 4 + (t.val - 1) % 4
    ∧ win0_5.index t (1 : Fin 2) = (t.val - 1) / 4 % 8 :=
  (by decide +kernel : ∀ t : Fin grid0.N, _)

/-- The first point writes nothing back. -/
theorem flush_pos : ∀ t : Fin cfg0.N, (cfg0.win 5).flush t = true → 1 ≤ t.val :=
  (by decide +kernel : ∀ t : Fin grid0.N, win0_5.flush t = true → 1 ≤ t.val)

/-! ## The result array -/

/-- Lane `l` of head `h` in a row of 2048. -/
def lane (h : Nat) (l : Nat) : Fin 2048 := ⟨(h * 256 + l) % 2048, Nat.mod_lt _ (by decide)⟩
/-- Row `j` of batch `b` among the latent rows. -/
def latent (b : Nat) (j : Nat) : Fin 16384 := ⟨(b * 4096 + j) % 16384, Nat.mod_lt _ (by decide)⟩
/-- Row `j` of batch `b` among the context rows. -/
def context (b : Nat) (j : Nat) : Fin 1024 := ⟨(b * 256 + j) % 1024, Nat.mod_lt _ (by decide)⟩

/-- One element of the attention: query row `r` of batch `b`, head `h`, value column `d`. -/
def cell (Q : Vec Ideal S16384x2048 .bf16) (K : Vec Ideal S16384x2048 .bf16) (Kx : Vec Ideal S1024x2048 .bf16)
    (Vl : Vec Ideal S16384x2048 .bf16) (Vx : Vec Ideal S1024x2048 .bf16) (b : Nat) (r : Fin 16384) (h d : Nat) : EReal :=
  row (fun j => ∑ l : Fin 256, Q (ix2 r (lane h l)) * K (ix2 (latent b j) (lane h l)))
    (fun j => ∑ l : Fin 256, Q (ix2 r (lane h l)) * Kx (ix2 (context b j) (lane h l)))
    (fun j => Vl (ix2 (latent b j) (lane h d))) (fun j => Vx (ix2 (context b j) (lane h d)))
    (fun j => Vl (ix2 (latent b j) (lane h (128 + d)))) (fun j => Vx (ix2 (context b j) (lane h (128 + d))))

/-- The whole result array. -/
def result (Q : Vec Ideal S16384x2048 .bf16) (K : Vec Ideal S16384x2048 .bf16) (Kx : Vec Ideal S1024x2048 .bf16)
    (Vl : Vec Ideal S16384x2048 .bf16) (Vx : Vec Ideal S1024x2048 .bf16) : Vec Ideal S16384x1024 .bf16 :=
  fun i => cell Q K Kx Vl Vx ((i 0).val / 4096) (i 0) ((i 1).val / 128) ((i 1).val % 128)

variable (m : (ℓ : Loc nD τ sig) → Buf (Elt Ideal) ℓ)

theorem iblk_q (c : Dev nD) (t : Fin cfg0.N) (ht : t.val < 128) (r : Fin 1024) (l : Fin 256) (R : Fin 16384)
    (hR : R.val = (t.val / 32 * 4 + t.val % 4) * 1024 + r.val) :
    iblk m c 0 t (ix2 r l) = V m c main_v11 (ix2 R (lane (t.val / 4 % 8) l)) := by
  obtain ⟨e0, e1⟩ := index_q t ht
  unfold iblk; rw [View.read_apply]
  show V m c main_v11 _ = _
  congr 1; funext a; apply Fin.ext
  match a with
  | ⟨0, _⟩ => show win0_0.index t (0 : Fin 2) * 1024 + 1 * r.val = R.val; omega
  | ⟨1, _⟩ => show win0_0.index t (1 : Fin 2) * 256 + 1 * l.val = (t.val / 4 % 8 * 256 + l.val) % 2048; omega

theorem iblk_kl (c : Dev nD) (t : Fin cfg0.N) (ht : t.val < 128) (j : Fin 4096) (l : Fin 256) :
    iblk m c 1 t (ix2 j l) = V m c main_v17 (ix2 (latent (t.val / 32) j) (lane (t.val / 4 % 8) l)) := by
  obtain ⟨e0, e1⟩ := index_kl t ht
  unfold iblk; rw [View.read_apply]
  show V m c main_v17 _ = _
  congr 1; funext a; apply Fin.ext
  match a with
  | ⟨0, _⟩ => show win0_1.index t (0 : Fin 2) * 4096 + 1 * j.val = (t.val / 32 * 4096 + j.val) % 16384; omega
  | ⟨1, _⟩ => show win0_1.index t (1 : Fin 2) * 256 + 1 * l.val = (t.val / 4 % 8 * 256 + l.val) % 2048; omega

theorem iblk_kx (c : Dev nD) (t : Fin cfg0.N) (ht : t.val < 128) (j : Fin 256) (l : Fin 256) :
    iblk m c 2 t (ix2 j l) = V m c main_v23 (ix2 (context (t.val / 32) j) (lane (t.val / 4 % 8) l)) := by
  obtain ⟨e0, e1⟩ := index_kx t ht
  unfold iblk; rw [View.read_apply]
  show V m c main_v23 _ = _
  congr 1; funext a; apply Fin.ext
  match a with
  | ⟨0, _⟩ => show win0_2.index t (0 : Fin 2) * 256 + 1 * j.val = (t.val / 32 * 256 + j.val) % 1024; omega
  | ⟨1, _⟩ => show win0_2.index t (1 : Fin 2) * 256 + 1 * l.val = (t.val / 4 % 8 * 256 + l.val) % 2048; omega

theorem iblk_vl (c : Dev nD) (t : Fin cfg0.N) (j : Fin 4096) (l : Fin 256) :
    iblk m c 3 t (ix2 j l) = V m c main_v27 (ix2 (latent ((t.val - 1) / 32) j) (lane ((t.val - 1) / 4 % 8) l)) := by
  have hN : t.val < 129 := lt_of_lt_of_eq t.isLt (show cfg0.N = 129 from N_0)
  obtain ⟨e0, e1⟩ := index_vl t
  unfold iblk; rw [View.read_apply]
  show V m c main_v27 _ = _
  congr 1; funext a; apply Fin.ext
  match a with
  | ⟨0, _⟩ => show win0_3.index t (0 : Fin 2) * 4096 + 1 * j.val = ((t.val - 1) / 32 * 4096 + j.val) % 16384; omega
  | ⟨1, _⟩ => show win0_3.index t (1 : Fin 2) * 256 + 1 * l.val = ((t.val - 1) / 4 % 8 * 256 + l.val) % 2048; omega

theorem iblk_vx (c : Dev nD) (t : Fin cfg0.N) (j : Fin 256) (l : Fin 256) :
    iblk m c 4 t (ix2 j l) = V m c main_v31 (ix2 (context ((t.val - 1) / 32) j) (lane ((t.val - 1) / 4 % 8) l)) := by
  have hN : t.val < 129 := lt_of_lt_of_eq t.isLt (show cfg0.N = 129 from N_0)
  obtain ⟨e0, e1⟩ := index_vx t
  unfold iblk; rw [View.read_apply]
  show V m c main_v31 _ = _
  congr 1; funext a; apply Fin.ext
  match a with
  | ⟨0, _⟩ => show win0_4.index t (0 : Fin 2) * 256 + 1 * j.val = ((t.val - 1) / 32 * 256 + j.val) % 1024; omega
  | ⟨1, _⟩ => show win0_4.index t (1 : Fin 2) * 256 + 1 * l.val = ((t.val - 1) / 4 % 8 * 256 + l.val) % 2048; omega

/-- What point `t` writes back, element by element. -/
theorem written_apply (c : Dev nD) (t : Fin cfg0.N) (h : 1 ≤ t.val) (r : Fin 1024) (d : Fin 128) (R : Fin 16384)
    (hR : R.val = ((t.val - 1) / 32 * 4 + (t.val - 1) % 4) * 1024 + r.val) :
    (outsAt0 m c t.val t.isLt).1 (ix2 r d)
      = cell (V m c main_v11) (V m c main_v17) (V m c main_v23) (V m c main_v27) (V m c main_v31)
        ((t.val - 1) / 32) R ((t.val - 1) / 4 % 8) d := by
  have hN : t.val < 129 := lt_of_lt_of_eq t.isLt (show cfg0.N = 129 from N_0)
  have hu : (before t).val < 128 := by show t.val - 1 < 128; omega
  rw [written m c t h, block_apply]
  simp only [iblk_q m c (before t) hu _ _ R hR, iblk_kl m c (before t) hu, iblk_kx m c (before t) hu, iblk_vl m c t,
    iblk_vx m c t]
  rfl

/-- The result array after the run. -/
theorem final (c : Dev nD) : (dats m 0 c).arrAt 5 cfg0.N
    = result (V m c main_v11) (V m c main_v17) (V m c main_v23) (V m c main_v27) (V m c main_v31) := by
  refine (dats m 0 c).arrAt_eq_of_covers 5 _ (by decide +kernel) fun t hf y => ?_
  have hp := flush_pos t hf
  have hN : t.val < 129 := lt_of_lt_of_eq t.isLt (show cfg0.N = 129 from N_0)
  obtain ⟨e0, e1⟩ := index_o t
  have hy0 : (y 0).val < 1024 := (y 0).isLt
  have hy1 : (y 1).val < 128 := (y 1).isLt
  have w0 : ((((cfg0.win 5).blk t).view.emb y) 0).val = ((t.val - 1) / 32 * 4 + (t.val - 1) % 4) * 1024 + (y 0).val := by
    show win0_5.index t (0 : Fin 2) * 1024 + 1 * (y 0).val = _; omega
  have w1 : ((((cfg0.win 5).blk t).view.emb y) 1).val = (t.val - 1) / 4 % 8 * 128 + (y 1).val := by
    show win0_5.index t (1 : Fin 2) * 128 + 1 * (y 1).val = _; omega
  show (dats m 0 c).after 5 t ((cfg0.win 5).xinj (grid0.coords t) y) = _
  rw [after0_5]
  have ey : ((cfg0.win 5).xinj (grid0.coords t) y) = ix2 (n0 := 1024) (n1 := 128) ⟨(y 0).val, hy0⟩ ⟨(y 1).val, hy1⟩ := by
    funext a; match a with | ⟨0, _⟩ => rfl | ⟨1, _⟩ => rfl
  rw [ey, written_apply m c t hp ⟨(y 0).val, hy0⟩ ⟨(y 1).val, hy1⟩ ((((cfg0.win 5).blk t).view.emb y) 0) w0]
  unfold result
  rw [show ((((cfg0.win 5).blk t).view.emb y) 0).val / 4096 = (t.val - 1) / 32 by rw [w0]; omega,
    show ((((cfg0.win 5).blk t).view.emb y) 1).val / 128 = (t.val - 1) / 4 % 8 by rw [w1]; omega,
    show ((((cfg0.win 5).blk t).view.emb y) 1).val % 128 = (y 1).val by rw [w1]; omega]

end Cert.Proof.Attn

end
-- ==== Proof.AttnHost.lean ====
/- What the kernel's call is handed over the ideal values, element by element: queries and keys with their two parts side by side
   and zeros behind, values with ones behind (`q_at`, `k_at`, `kx_at`, `vl_at`, `vx_at`). -/
module

public import proofs.«01_k».proof.Proof.AttnArray
public import Idealize.ShloMosaic.Lib.StableHlo.Run
public import Idealize.ShloMosaic.Lib.Pointwise

@[expose] public section

noncomputable section

namespace Cert.Proof.Attn

open Cert.KernelIdeal Cert.KernelIdeal.Gen Idealize.ShloMosaic Idealize.ShloMosaic.TcCoe Idealize.SL.Sem Idealize.ShloMosaic.StableHlo

/-- The factor the queries are scaled by: one over the root of the score width times the logarithm of two. -/
def factor : EReal :=
  Ideal.div (Ideal.ofBits .f32 0x3F800000#32) (Ideal.sqrt (Ideal.ofBits .f32 0x43400000#32) * Ideal.log (Ideal.ofBits .f32 0x40000000#32))

theorem one_bits : Ideal.ofBits .f32 0x3F800000#32 = 1 := by
  simp [Ideal.ofBits, Ideal.ieee]
  rw [← EReal.coe_mul]
  norm_num

/-- The lane of a joined row of 256 that comes from parts of 128, 64 and 64 (zeros) lanes. -/
def joined (x : Fin 128 → EReal) (y : Fin 64 → EReal) (l : Fin 256) : EReal :=
  if h : l.val < 128 then x ⟨l.val, h⟩ else if h' : l.val - 128 < 64 then y ⟨l.val - 128, h'⟩ else 0

/-- A sum of products of two joined rows is the sums over their parts. -/
theorem sum_joined (x x' : Fin 128 → EReal) (y y' : Fin 64 → EReal) :
    (∑ l : Fin 256, joined x y l * joined x' y' l) = (∑ l : Fin 128, x l * x' l) + ∑ l : Fin 64, y l * y' l := by
  rw [show (∑ l : Fin 256, joined x y l * joined x' y' l) = _ from Fin.sum_univ_add (a := 192) (b := 64) _,
    show (∑ l : Fin 192, joined x y (Fin.castAdd 64 l) * joined x' y' (Fin.castAdd 64 l)) = _ from Fin.sum_univ_add (a := 128) (b := 64) _]
  have e1 : ∀ (x : Fin 128 → EReal) (y : Fin 64 → EReal) (l : Fin 128), joined x y (Fin.castAdd 64 (Fin.castAdd 64 l)) = x l :=
    fun x y l => dif_pos l.isLt
  have e2 : ∀ (x : Fin 128 → EReal) (y : Fin 64 → EReal) (l : Fin 64), joined x y (Fin.castAdd 64 (Fin.natAdd 128 l)) = y l :=
    fun x y l => by
      have h1 : ¬ (Fin.castAdd 64 (Fin.natAdd 128 l)).val < 128 := by show ¬ 128 + l.val < 128; omega
      have h2 : (Fin.castAdd 64 (Fin.natAdd 128 l)).val - 128 < 64 := by show 128 + l.val - 128 < 64; omega
      unfold joined
      rw [dif_neg h1, dif_pos h2]
      exact congrArg y (Fin.ext (by show 128 + l.val - 128 = l.val; omega))
  have e3 : ∀ (x : Fin 128 → EReal) (y : Fin 64 → EReal) (l : Fin 64), joined x y (Fin.natAdd 192 l) = 0 :=
    fun x y l => by
      have h1 : ¬ (Fin.natAdd 192 l).val < 128 := by show ¬ 192 + l.val < 128; omega
      have h2 : ¬ (Fin.natAdd 192 l).val - 128 < 64 := by show ¬ 192 + l.val - 128 < 64; omega
      unfold joined
      rw [dif_neg h1, dif_neg h2]
  simp only [e1, e2, e3, mul_zero, Finset.sum_const_zero, add_zero]

variable (m : (ℓ : Loc nD τ sig) → Buf (Elt Ideal) ℓ)

/-! The program's arguments on a core. -/

abbrev arg0 (c : Dev nD) : FVec Ideal S4x4096x8x128 .f32 := m ((c : Thread nD τ).loc main_arg0)
abbrev arg1 (c : Dev nD) : FVec Ideal S4x4096x8x64 .f32 := m ((c : Thread nD τ).loc main_arg1)
abbrev arg2 (c : Dev nD) : FVec Ideal S4x4096x8x128 .f32 := m ((c : Thread nD τ).loc main_arg2)
abbrev arg3 (c : Dev nD) : FVec Ideal S4x4096x64 .f32 := m ((c : Thread nD τ).loc main_arg3)
abbrev arg4 (c : Dev nD) : FVec Ideal S4x4096x8x128 .f32 := m ((c : Thread nD τ).loc main_arg4)
abbrev arg5 (c : Dev nD) : FVec Ideal S4x256x8x128 .f32 := m ((c : Thread nD τ).loc main_arg5)
abbrev arg6 (c : Dev nD) : FVec Ideal S4x256x64 .f32 := m ((c : Thread nD τ).loc main_arg6)
abbrev arg7 (c : Dev nD) : FVec Ideal S4x256x8x128 .f32 := m ((c : Thread nD τ).loc main_arg7)

theorem q_at (c : Dev nD) (b : Fin 4) (q : Fin 4096) (h : Fin 8) (l : Fin 256) (r : Fin 16384) (j : Fin 2048)
    (hr : r.val = b.val * 4096 + q.val) (hj : j.val = h.val * 256 + l.val) : (V m c main_v11 : FVec Ideal S16384x2048 .bf16) (ix2 r j)
      = joined (fun l => arg0 m c (ix4 b q h l) * factor)
          (fun l => arg1 m c (ix4 b q h l) * factor) l := by
  have e : (V m c main_v11 : FVec Ideal S16384x2048 .bf16) = shapeCast S16384x2048 (truncf .bf16 (concatenate S4x4096x8x256 3
      [⟨S4x4096x8x128, mulf (arg0 m c) (broadcastInDim S4x4096x8x128 ![] bcast_S_S4x4096x8x128 (Host.divf (constant S_ .f32 0x3F800000#32) (mulf (Host.sqrt (constant S_ .f32 0x43400000#32)) (Host.log (constant S_ .f32 0x40000000#32)))))⟩,
       ⟨S4x4096x8x64, mulf (arg1 m c) (broadcastInDim S4x4096x8x64 ![] bcast_S_S4x4096x8x64 (Host.divf (constant S_ .f32 0x3F800000#32) (mulf (Host.sqrt (constant S_ .f32 0x43400000#32)) (Host.log (constant S_ .f32 0x40000000#32)))))⟩,
       ⟨S4x4096x8x64, broadcastInDim S4x4096x8x64 ![] bcast_S_S4x4096x8x64 (constant S_ .f32 0x00000000#32)⟩]
      concatenates_S4x4096x8x128_S4x4096x8x64_S4x4096x8x64_S4x4096x8x256_d3) bitsLt_bf16_f32) shapeCasts_S4x4096x8x256_S16384x2048 := by
    show after hostOps0 _ _ = _
    after_results
    rfl
  rw [e]
  refine (shapeCast_apply _ _ _ (ix4 b q h l) ?_).trans ?_
  · rw [Shape.rowMajor_val_two, Shape.rowMajor_val_four]
    show ((b.val * 4096 + q.val) * 8 + h.val) * 256 + l.val = r.val * 2048 + j.val
    omega
  · unfold joined factor
    pointwise

theorem k_at (c : Dev nD) (b : Fin 4) (q : Fin 4096) (h : Fin 8) (l : Fin 256) (r : Fin 16384) (j : Fin 2048)
    (hr : r.val = b.val * 4096 + q.val) (hj : j.val = h.val * 256 + l.val) : (V m c main_v17 : FVec Ideal S16384x2048 .bf16) (ix2 r j)
      = joined (fun l => arg2 m c (ix4 b q h l))
          (fun l => arg3 m c (ix3 b q l)) l := by
  have e : (V m c main_v17 : FVec Ideal S16384x2048 .bf16) = shapeCast S16384x2048 (truncf .bf16 (concatenate S4x4096x8x256 3
      [⟨S4x4096x8x128, arg2 m c⟩,
       ⟨S4x4096x8x64, broadcastInDim S4x4096x8x64 ![0, 1, 2, 3] bcast_S4x4096x1x64_S4x4096x8x64_0_1_2_3 (broadcastInDim S4x4096x1x64 ![0, 1, 3] bcast_S4x4096x64_S4x4096x1x64_0_1_3 (arg3 m c))⟩,
       ⟨S4x4096x8x64, broadcastInDim S4x4096x8x64 ![] bcast_S_S4x4096x8x64 (constant S_ .f32 0x00000000#32)⟩]
      concatenates_S4x4096x8x128_S4x4096x8x64_S4x4096x8x64_S4x4096x8x256_d3) bitsLt_bf16_f32) shapeCasts_S4x4096x8x256_S16384x2048 := by
    show after hostOps0 _ _ = _
    after_results
    rfl
  rw [e]
  refine (shapeCast_apply _ _ _ (ix4 b q h l) ?_).trans ?_
  · rw [Shape.rowMajor_val_two, Shape.rowMajor_val_four]
    show ((b.val * 4096 + q.val) * 8 + h.val) * 256 + l.val = r.val * 2048 + j.val
    omega
  · unfold joined
    pointwise

theorem kx_at (c : Dev nD) (b : Fin 4) (q : Fin 256) (h : Fin 8) (l : Fin 256) (r : Fin 1024) (j : Fin 2048)
    (hr : r.val = b.val * 256 + q.val) (hj : j.val = h.val * 256 + l.val) : (V m c main_v23 : FVec Ideal S1024x2048 .bf16) (ix2 r j)
      = joined (fun l => arg5 m c (ix4 b q h l))
          (fun l => arg6 m c (ix3 b q l)) l := by
  have e : (V m c main_v23 : FVec Ideal S1024x2048 .bf16) = shapeCast S1024x2048 (truncf .bf16 (concatenate S4x256x8x256 3
      [⟨S4x256x8x128, arg5 m c⟩,
       ⟨S4x256x8x64, broadcastInDim S4x256x8x64 ![0, 1, 2, 3] bcast_S4x256x1x64_S4x256x8x64_0_1_2_3 (broadcastInDim S4x256x1x64 ![0, 1, 3] bcast_S4x256x64_S4x256x1x64_0_1_3 (arg6 m c))⟩,
       ⟨S4x256x8x64, broadcastInDim S4x256x8x64 ![] bcast_S_S4x256x8x64 (constant S_ .f32 0x00000000#32)⟩]
      concatenates_S4x256x8x128_S4x256x8x64_S4x256x8x64_S4x256x8x256_d3) bitsLt_bf16_f32) shapeCasts_S4x256x8x256_S1024x2048 := by
    show after hostOps0 _ _ = _
    after_results
    rfl
  rw [e]
  refine (shapeCast_apply _ _ _ (ix4 b q h l) ?_).trans ?_
  · rw [Shape.rowMajor_val_two, Shape.rowMajor_val_four]
    show ((b.val * 256 + q.val) * 8 + h.val) * 256 + l.val = r.val * 2048 + j.val
    omega
  · unfold joined
    pointwise

/-- A joined row of 128 values and 128 ones. -/
def extended (x : Fin 128 → EReal) (l : Fin 256) : EReal := if h : l.val < 128 then x ⟨l.val, h⟩ else 1

theorem vl_at (c : Dev nD) (b : Fin 4) (q : Fin 4096) (h : Fin 8) (l : Fin 256) (r : Fin 16384) (j : Fin 2048)
    (hr : r.val = b.val * 4096 + q.val) (hj : j.val = h.val * 256 + l.val) : (V m c main_v27 : FVec Ideal S16384x2048 .bf16) (ix2 r j)
      = extended (fun l => arg4 m c (ix4 b q h l)) l := by
  have e : (V m c main_v27 : FVec Ideal S16384x2048 .bf16) = shapeCast S16384x2048 (truncf .bf16 (concatenate S4x4096x8x256 3
      [⟨S4x4096x8x128, arg4 m c⟩,
       ⟨S4x4096x8x128, broadcastInDim S4x4096x8x128 ![] bcast_S_S4x4096x8x128 (constant S_ .f32 0x3F800000#32)⟩]
      concatenates_S4x4096x8x128_S4x4096x8x128_S4x4096x8x256_d3) bitsLt_bf16_f32) shapeCasts_S4x4096x8x256_S16384x2048 := by
    show after hostOps0 _ _ = _
    after_results
    rfl
  rw [e]
  refine (shapeCast_apply _ _ _ (ix4 b q h l) ?_).trans ?_
  · rw [Shape.rowMajor_val_two, Shape.rowMajor_val_four]
    show ((b.val * 4096 + q.val) * 8 + h.val) * 256 + l.val = r.val * 2048 + j.val
    omega
  · unfold extended
    pointwise

theorem vx_at (c : Dev nD) (b : Fin 4) (q : Fin 256) (h : Fin 8) (l : Fin 256) (r : Fin 1024) (j : Fin 2048)
    (hr : r.val = b.val * 256 + q.val) (hj : j.val = h.val * 256 + l.val) : (V m c main_v31 : FVec Ideal S1024x2048 .bf16) (ix2 r j)
      = extended (fun l => arg7 m c (ix4 b q h l)) l := by
  have e : (V m c main_v31 : FVec Ideal S1024x2048 .bf16) = shapeCast S1024x2048 (truncf .bf16 (concatenate S4x256x8x256 3
      [⟨S4x256x8x128, arg7 m c⟩,
       ⟨S4x256x8x128, broadcastInDim S4x256x8x128 ![] bcast_S_S4x256x8x128 (constant S_ .f32 0x3F800000#32)⟩]
      concatenates_S4x256x8x128_S4x256x8x128_S4x256x8x256_d3) bitsLt_bf16_f32) shapeCasts_S4x256x8x256_S1024x2048 := by
    show after hostOps0 _ _ = _
    after_results
    rfl
  rw [e]
  refine (shapeCast_apply _ _ _ (ix4 b q h l) ?_).trans ?_
  · rw [Shape.rowMajor_val_two, Shape.rowMajor_val_four]
    show ((b.val * 256 + q.val) * 8 + h.val) * 256 + l.val = r.val * 2048 + j.val
    omega
  · unfold extended
    pointwise

end Cert.Proof.Attn

end
-- ==== Proof.AttnMath.lean ====
/- The softmax of a row over the extended reals: with real scores, a power of two of scores scaled by `1 / (√w · ln 2)` and
   shared out after the sum is an exponential of scores scaled by `1 / √w` shared out before it (`row_eq`). -/
module

public import proofs.«01_k».proof.Proof.AttnBlock

@[expose] public section

noncomputable section

namespace Cert.Proof.Attn

open Idealize.ShloMosaic Idealize.SL.Sem

/-- A sum of reals, taken in the extended reals. -/
theorem coe_sum {n : Nat} (f : Fin n → ℝ) : (∑ i, ((f i : ℝ) : EReal)) = ((∑ i, f i : ℝ) : EReal) := by
  induction n with
  | zero => simp
  | succ n ih => rw [Fin.sum_univ_succ, Fin.sum_univ_succ, ih, EReal.coe_add]

/-- A nonnegative real factor goes into a sum. -/
theorem mul_sum_nonneg {n : Nat} (a : ℝ) (ha : 0 ≤ a) (f : Fin n → EReal) :
    (∑ i, f i) * (a : EReal) = ∑ i, f i * (a : EReal) := by
  induction n with
  | zero => simp
  | succ n ih =>
    rw [Fin.sum_univ_succ, Fin.sum_univ_succ, ← ih,
      EReal.right_distrib_of_nonneg_of_ne_top (EReal.coe_nonneg.mpr ha) (EReal.coe_ne_top a)]

theorem exp_coe (r : ℝ) : Ideal.exp (r : EReal) = ((Real.exp r : ℝ) : EReal) := rfl

theorem exp2_coe (r : ℝ) : Ideal.exp2 (r : EReal) = ((Real.exp (r * Real.log 2) : ℝ) : EReal) := by
  show ((Real.rpow 2 r : ℝ) : EReal) = _
  rw [show Real.rpow 2 r = (2 : ℝ) ^ r from rfl, Real.rpow_def_of_pos (by norm_num), mul_comm]

theorem div_coe_pos (x : EReal) (l : ℝ) (hl : 0 < l) : Ideal.div x (l : EReal) = x * ((l⁻¹ : ℝ) : EReal) := by
  unfold Ideal.div
  rw [if_neg (by exact_mod_cast hl.ne'), EReal.coe_inv]

/-- The largest of finitely many scores that are one positive multiple of reals sits at the largest real. -/
theorem sup_scaled {n : Nat} (s : ℝ) (hs : 0 ≤ s) (ρ : Fin n → ℝ) (k : Fin n) (hk : ∀ j, ρ j ≤ ρ k) :
    (Finset.univ.sup fun j => ((s * ρ j : ℝ) : EReal)) = ((s * ρ k : ℝ) : EReal) :=
  le_antisymm (Finset.sup_le fun j _ => EReal.coe_le_coe (mul_le_mul_of_nonneg_left (hk j) hs))
    (Finset.le_sup (f := fun j => ((s * ρ j : ℝ) : EReal)) (Finset.mem_univ k))

/-- The kernel's row is the reference's: real scores `ρ` (latent keys, then context keys), the kernel's scaled by `c` and raised
    from two, the reference's scaled by `s = c · ln 2`; any values `v`, `w`. -/
theorem row_eq (c : ℝ) (hc : 0 ≤ c) (ρ : Fin 4352 → ℝ) (v : Fin 4096 → EReal) (w : Fin 256 → EReal) :
    row (fun j => ((c * ρ ⟨j.val, by omega⟩ : ℝ) : EReal)) (fun j => ((c * ρ ⟨4096 + j.val, by omega⟩ : ℝ) : EReal)) v w
        (fun _ => 1) (fun _ => 1)
      = (∑ j : Fin 4096, v j * Ideal.div
            (Ideal.exp (((c * Real.log 2 * ρ ⟨j.val, by omega⟩ : ℝ) : EReal)
              - Finset.univ.sup fun k => ((c * Real.log 2 * ρ k : ℝ) : EReal)))
            (∑ k, Ideal.exp (((c * Real.log 2 * ρ k : ℝ) : EReal) - Finset.univ.sup fun k => ((c * Real.log 2 * ρ k : ℝ) : EReal))))
        + ∑ j : Fin 256, w j * Ideal.div
            (Ideal.exp (((c * Real.log 2 * ρ ⟨4096 + j.val, by omega⟩ : ℝ) : EReal)
              - Finset.univ.sup fun k => ((c * Real.log 2 * ρ k : ℝ) : EReal)))
            (∑ k, Ideal.exp (((c * Real.log 2 * ρ k : ℝ) : EReal) - Finset.univ.sup fun k => ((c * Real.log 2 * ρ k : ℝ) : EReal))) := by
  obtain ⟨k, -, hk⟩ := Finset.exists_max_image Finset.univ ρ ⟨0, Finset.mem_univ _⟩
  have hk' : ∀ j, ρ j ≤ ρ k := fun j => hk j (Finset.mem_univ j)
  have hlog : 0 ≤ Real.log 2 := Real.log_nonneg (by norm_num)
  have htop : top (fun j : Fin 4096 => ((c * ρ ⟨j.val, by omega⟩ : ℝ) : EReal))
      (fun j : Fin 256 => ((c * ρ ⟨4096 + j.val, by omega⟩ : ℝ) : EReal)) = ((c * ρ k : ℝ) : EReal) := by
    unfold top
    apply le_antisymm
    · exact max_le (Finset.sup_le fun j _ => EReal.coe_le_coe (mul_le_mul_of_nonneg_left (hk' _) hc))
        (Finset.sup_le fun j _ => EReal.coe_le_coe (mul_le_mul_of_nonneg_left (hk' _) hc))
    · by_cases h : k.val < 4096
      · exact le_max_of_le_left (Finset.le_sup (f := fun j : Fin 4096 => ((c * ρ ⟨j.val, by omega⟩ : ℝ) : EReal))
          (Finset.mem_univ ⟨k.val, h⟩))
      · refine le_max_of_le_right (le_trans (le_of_eq ?_) (Finset.le_sup
          (f := fun j : Fin 256 => ((c * ρ ⟨4096 + j.val, by omega⟩ : ℝ) : EReal)) (Finset.mem_univ ⟨k.val - 4096, by omega⟩)))
        have e : (⟨4096 + (k.val - 4096), by omega⟩ : Fin 4352) = k := Fin.ext (by show 4096 + (k.val - 4096) = k.val; omega)
        show _ = ((c * ρ ⟨4096 + (k.val - 4096), _⟩ : ℝ) : EReal)
        rw [e]
  let e : Fin 4352 → ℝ := fun j => Real.exp (c * Real.log 2 * ρ j - c * Real.log 2 * ρ k)
  let L : ℝ := ∑ j, e j
  have hL : 0 < L := Finset.sum_pos (fun j _ => Real.exp_pos _) ⟨0, Finset.mem_univ _⟩
  have hr : ∀ j, Ideal.exp (((c * Real.log 2 * ρ j : ℝ) : EReal)
      - Finset.univ.sup fun k => ((c * Real.log 2 * ρ k : ℝ) : EReal)) = ((e j : ℝ) : EReal) := fun j => by
    rw [sup_scaled (c * Real.log 2) (mul_nonneg hc hlog) ρ k hk', ← EReal.coe_sub, exp_coe]
  have h2 : ∀ j, Ideal.exp2 (((c * ρ j : ℝ) : EReal) - ((c * ρ k : ℝ) : EReal)) = ((e j : ℝ) : EReal) := fun j => by
    rw [← EReal.coe_sub, exp2_coe, show (c * ρ j - c * ρ k) * Real.log 2 = c * Real.log 2 * ρ j - c * Real.log 2 * ρ k by ring]
  have hden : weighted (fun j : Fin 4096 => ((c * ρ ⟨j.val, by omega⟩ : ℝ) : EReal))
      (fun j : Fin 256 => ((c * ρ ⟨4096 + j.val, by omega⟩ : ℝ) : EReal)) (fun _ => 1) (fun _ => 1) = ((L : ℝ) : EReal) := by
    unfold weighted
    rw [htop]
    simp only [h2, mul_one]
    rw [coe_sum, coe_sum, ← EReal.coe_add]
    exact congrArg (fun x : ℝ => (x : EReal)) (Fin.sum_univ_add (a := 4096) (b := 256) e).symm
  simp only [hr]
  unfold row
  rw [hden, coe_sum]
  unfold weighted
  rw [htop]
  simp only [h2]
  rw [div_coe_pos _ L hL, EReal.right_distrib_of_nonneg_of_ne_top
    (EReal.coe_nonneg.mpr (inv_nonneg.mpr hL.le)) (EReal.coe_ne_top _),
    mul_sum_nonneg _ (inv_nonneg.mpr hL.le), mul_sum_nonneg _ (inv_nonneg.mpr hL.le)]
  refine congrArg₂ (· + ·) (Finset.sum_congr rfl fun j _ => ?_) (Finset.sum_congr rfl fun j _ => ?_)
  · rw [div_coe_pos _ _ hL, mul_comm _ (v j), mul_assoc]
  · rw [div_coe_pos _ _ hL, mul_comm _ (w j), mul_assoc]

end Cert.Proof.Attn

end
-- ==== Proof.AttnRef.lean ====
/- The reference attention over the ideal values, element by element: the scores of a query row against the latent and the
   context keys side by side, their softmax, and the weighted sum of the values (`ref_apply`). -/
module

public import proofs.«01_k».proof.Proof.Gen.ReferenceIdeal.Read
public import Idealize.ShloMosaic.Lib.Pointwise

@[expose] public section

noncomputable section

namespace Cert.Proof.AttnRef

open Cert.ReferenceIdeal Cert.ReferenceIdeal.Gen Cert.ReferenceIdeal.Read Idealize.ShloMosaic Idealize.ShloMosaic.TcCoe Idealize.SL.Sem

/-- The softmax scale: one over the root of the score width. -/
def scale : EReal := Ideal.div 1 (Ideal.sqrt (Ideal.ofBits .f32 0x43400000#32))

/-- The f32 pattern of minus infinity. -/
theorem ofBits_bot : Ideal.ofBits .f32 0xFF800000#32 = ⊥ := by simp [Ideal.ofBits, Ideal.ieee]

variable (x0 : FVec Ideal S4x4096x8x128 .f32) (x1 : FVec Ideal S4x4096x8x64 .f32) (x2 : FVec Ideal S4x4096x8x128 .f32)
  (x3 : FVec Ideal S4x4096x64 .f32) (x4 : FVec Ideal S4x4096x8x128 .f32) (x5 : FVec Ideal S4x256x8x128 .f32)
  (x6 : FVec Ideal S4x256x64 .f32) (x7 : FVec Ideal S4x256x8x128 .f32)

/-- A latent score before the scale. -/
theorem v5_at (b : Fin 4) (h : Fin 8) (q j : Fin 4096) : val_main_v5 (F := Ideal) x0 x1 x2 x3 (ix4 b h q j)
    = (∑ l : Fin 128, x0 (ix4 b q h l) * x2 (ix4 b j h l)) + ∑ l : Fin 64, x3 (ix3 b j l) * x1 (ix4 b q h l) := by
  unfold val_main_v5 val_main_v4 val_main_v3 val_main_v2
  pointwise

/-- A context score before the scale. -/
theorem v9_at (b : Fin 4) (h : Fin 8) (q : Fin 4096) (j : Fin 256) : val_main_v9 (F := Ideal) x0 x1 x5 x6 (ix4 b h q j)
    = (∑ l : Fin 128, x0 (ix4 b q h l) * x5 (ix4 b j h l)) + ∑ l : Fin 64, x6 (ix3 b j l) * x1 (ix4 b q h l) := by
  unfold val_main_v9 val_main_v8 val_main_v7 val_main_v6
  pointwise

/-- A scaled score, latent keys first. -/
def score (b : Fin 4) (h : Fin 8) (q : Fin 4096) (k : Fin 4352) : EReal :=
  (if hk : k.val < 4096 then (∑ l : Fin 128, x0 (ix4 b q h l) * x2 (ix4 b ⟨k.val, hk⟩ h l))
      + ∑ l : Fin 64, x3 (ix3 b ⟨k.val, hk⟩ l) * x1 (ix4 b q h l)
    else (∑ l : Fin 128, x0 (ix4 b q h l) * x5 (ix4 b ⟨k.val - 4096, by omega⟩ h l))
      + ∑ l : Fin 64, x6 (ix3 b ⟨k.val - 4096, by omega⟩ l) * x1 (ix4 b q h l)) * scale

theorem v12_at (b : Fin 4) (h : Fin 8) (q : Fin 4096) (k : Fin 4352) :
    val_main_v12 (F := Ideal) x0 x1 x2 x3 x5 x6 (ix4 b h q k) = score x0 x1 x2 x3 x5 x6 b h q k := by
  unfold val_main_v12 val_main_v11 val_main_v10 val_main_v1 val_main_v0 val_main_cst val_main_cst_0
    score scale
  pointwise [v5_at, v9_at]

/-- A row's largest score. -/
def top (b : Fin 4) (h : Fin 8) (q : Fin 4096) : EReal := Finset.univ.sup (score x0 x1 x2 x3 x5 x6 b h q)

theorem rowMax_at (v : FVec Ideal S4x8x4096x4352 .f32) (b : Fin 4) (h : Fin 8) (q : Fin 4096) :
    Host.reduce FloatOps.maximumf v (constant S_ .f32 0xFF800000#32) reducesTo_S4x8x4096x4352_S4x8x4096_d3 h_S_ (ix3 b h q)
      = Finset.univ.sup fun k : Fin 4352 => v (ix4 b h q k) := by
  pointwise
  rw [ofBits_bot]
  rfl

theorem v13_at (b : Fin 4) (h : Fin 8) (q : Fin 4096) :
    val_main_v13 (F := Ideal) x0 x1 x2 x3 x5 x6 (ix3 b h q) = top x0 x1 x2 x3 x5 x6 b h q := by
  unfold val_main_v13 val_main_cst_1 top
  rw [rowMax_at]
  exact Finset.sup_congr rfl fun k _ => v12_at x0 x1 x2 x3 x5 x6 b h q k

theorem max_bot_left (x : EReal) : FloatOps.maximumf (F := Ideal) (φ := .f32) (FloatOps.ofBits .f32 0xFF800000#32) x = x := by
  rw [show FloatOps.ofBits (F := Ideal) .f32 0xFF800000#32 = (⊥ : EReal) from ofBits_bot]
  exact max_eq_right bot_le

theorem v15_at (b : Fin 4) (h : Fin 8) (q : Fin 4096) :
    val_main_v15 (F := Ideal) x0 x1 x2 x3 x5 x6 (ix3 b h q) = top x0 x1 x2 x3 x5 x6 b h q := by
  rw [val_main_v15_apply, val_main_v14_apply, v13_at]
  exact max_bot_left _

theorem v19_at (b : Fin 4) (h : Fin 8) (q : Fin 4096) (k : Fin 4352) :
    val_main_v19 (F := Ideal) x0 x1 x2 x3 x5 x6 (ix4 b h q k)
      = Ideal.exp (score x0 x1 x2 x3 x5 x6 b h q k - top x0 x1 x2 x3 x5 x6 b h q) := by
  unfold val_main_v19 val_main_v18 val_main_v17 val_main_v16
  pointwise [v12_at, v15_at]

theorem v20_at (b : Fin 4) (h : Fin 8) (q : Fin 4096) :
    val_main_v20 (F := Ideal) x0 x1 x2 x3 x5 x6 (ix3 b h q)
      = ∑ k : Fin 4352, Ideal.exp (score x0 x1 x2 x3 x5 x6 b h q k - top x0 x1 x2 x3 x5 x6 b h q) := by
  unfold val_main_v20 val_main_cst_3
  pointwise [v19_at]

/-- A key's softmax weight. -/
def weight (b : Fin 4) (h : Fin 8) (q : Fin 4096) (k : Fin 4352) : EReal :=
  Ideal.div (Ideal.exp (score x0 x1 x2 x3 x5 x6 b h q k - top x0 x1 x2 x3 x5 x6 b h q))
    (∑ k : Fin 4352, Ideal.exp (score x0 x1 x2 x3 x5 x6 b h q k - top x0 x1 x2 x3 x5 x6 b h q))

theorem v23_at (b : Fin 4) (h : Fin 8) (q : Fin 4096) (k : Fin 4352) :
    val_main_v23 (F := Ideal) x0 x1 x2 x3 x5 x6 (ix4 b h q k) = weight x0 x1 x2 x3 x5 x6 b h q k := by
  unfold val_main_v23 val_main_v22 val_main_v21 weight
  pointwise [v19_at, v20_at]

theorem v30_at (b : Fin 4) (q : Fin 4096) (h : Fin 8) (d : Fin 128) :
    val_main_v30 (F := Ideal) x0 x1 x2 x3 x4 x5 x6 x7 (ix4 b q h d)
      = (∑ j : Fin 4096, x4 (ix4 b j h d) * weight x0 x1 x2 x3 x5 x6 b h q ⟨j.val, by omega⟩)
        + ∑ j : Fin 256, x7 (ix4 b j h d) * weight x0 x1 x2 x3 x5 x6 b h q ⟨4096 + j.val, by omega⟩ := by
  unfold val_main_v30 val_main_v29 val_main_v28 val_main_v27 val_main_v26 val_main_v25 val_main_v24
  pointwise [v23_at]

/-- The reference's result at row `q` of batch `b` and lane `d` of head `h`. -/
theorem ref_apply (i : S16384x1024.Idx) (b : Fin 4) (q : Fin 4096) (h : Fin 8) (d : Fin 128)
    (e0 : (i 0).val = b.val * 4096 + q.val) (e1 : (i 1).val = h.val * 128 + d.val) :
    val_main_v32 (F := Ideal) x0 x1 x2 x3 x4 x5 x6 x7 i
      = (∑ j : Fin 4096, x4 (ix4 b j h d) * weight x0 x1 x2 x3 x5 x6 b h q ⟨j.val, by omega⟩)
        + ∑ j : Fin 256, x7 (ix4 b j h d) * weight x0 x1 x2 x3 x5 x6 b h q ⟨4096 + j.val, by omega⟩ := by
  rw [← v30_at]
  unfold val_main_v32
  show val_main_v31 (F := Ideal) x0 x1 x2 x3 x4 x5 x6 x7 i = _
  unfold val_main_v31
  refine shapeCast_apply _ _ _ _ ?_
  rw [Shape.rowMajor_val_two, Shape.rowMajor_val_four]
  show ((b.val * 4096 + q.val) * 8 + h.val) * 128 + d.val = (i 0).val * 1024 + (i 1).val
  omega

end Cert.Proof.AttnRef

end
-- ==== Proof.AttnEq.lean ====
/- The kernel's attention is the reference's over the ideal values, for real queries and keys (`attn_eq`). -/
module

public import proofs.«01_k».proof.Proof.AttnHost
public import proofs.«01_k».proof.Proof.AttnMath
public import proofs.«01_k».proof.Proof.AttnRef

@[expose] public section

noncomputable section

namespace Cert.Proof.Attn

open Cert.KernelIdeal Cert.KernelIdeal.Gen Idealize.ShloMosaic Idealize.ShloMosaic.TcCoe Idealize.SL.Sem Idealize.ShloMosaic.StableHlo

theorem two_bits : Ideal.ofBits .f32 0x40000000#32 = ((2 : ℝ) : EReal) := by
  simp [Ideal.ofBits, Ideal.ieee]
  rw [← EReal.coe_mul]
  norm_num

theorem width_bits : Ideal.ofBits .f32 0x43400000#32 = ((192 : ℝ) : EReal) := by
  simp [Ideal.ofBits, Ideal.ieee]
  rw [← EReal.coe_mul]
  norm_num

theorem infinity_bits : Ideal.ofBits .f32 0x7F800000#32 = ⊤ := by simp [Ideal.ofBits, Ideal.ieee]

theorem sqrt_coe (r : ℝ) (h : 0 ≤ r) : Ideal.sqrt (r : EReal) = ((Real.sqrt r : ℝ) : EReal) := if_neg (not_lt.mpr h)

theorem log_coe (r : ℝ) (h : 0 < r) : Ideal.log (r : EReal) = ((Real.log r : ℝ) : EReal) := if_neg (not_le.mpr h)

/-- A value whose magnitude compares below infinity is a real. -/
theorem real_of_lt (x : EReal)
    (h : FloatOps.cmpf (F := Ideal) (φ := .f32) .olt (FloatOps.hostAbsf x) (FloatOps.ofBits .f32 0x7F800000#32) = 1#1) :
    ∃ r : ℝ, x = r := by
  have h' : Ideal.cmp .olt (max x (-x)) (Ideal.ofBits .f32 0x7F800000#32) = 1#1 := h
  rw [infinity_bits] at h'
  induction x using EReal.rec with
  | bot => simp [Ideal.cmp] at h'
  | coe r => exact ⟨r, rfl⟩
  | top => simp [Ideal.cmp] at h'

/-- The factor, as a real. -/
def factorR : ℝ := (Real.sqrt 192 * Real.log 2)⁻¹

theorem log_two_pos : 0 < Real.log 2 := Real.log_pos (by norm_num)

theorem sqrt_width_pos : 0 < Real.sqrt 192 := Real.sqrt_pos.mpr (by norm_num)

theorem factorR_nonneg : 0 ≤ factorR := inv_nonneg.mpr (mul_pos sqrt_width_pos log_two_pos).le

theorem factor_eq : factor = ((factorR : ℝ) : EReal) := by
  unfold factor factorR
  rw [one_bits, width_bits, two_bits, sqrt_coe _ (by norm_num), log_coe _ (by norm_num), ← EReal.coe_mul,
    div_coe_pos _ _ (mul_pos sqrt_width_pos log_two_pos), one_mul]

theorem scale_eq : AttnRef.scale = ((factorR * Real.log 2 : ℝ) : EReal) := by
  unfold AttnRef.scale factorR
  rw [width_bits, sqrt_coe _ (by norm_num), div_coe_pos _ _ sqrt_width_pos, one_mul, mul_inv, mul_assoc,
    inv_mul_cancel₀ log_two_pos.ne', mul_one]

/-- The kernel's score over real parts: its queries carry the factor. -/
theorem kernel_score {a b : Nat} (c : ℝ) (f g : Fin a → ℝ) (f' g' : Fin b → ℝ) :
    (∑ l, (f l : EReal) * (c : EReal) * (g l : EReal)) + (∑ l, (f' l : EReal) * (c : EReal) * (g' l : EReal))
      = ((c * ((∑ l, f l * g l) + ∑ l, g' l * f' l) : ℝ) : EReal) := by
  simp only [← EReal.coe_mul]
  rw [coe_sum, coe_sum, ← EReal.coe_add, mul_add, Finset.mul_sum, Finset.mul_sum]
  refine congrArg (fun x : ℝ => (x : EReal)) (congrArg₂ (· + ·) (Finset.sum_congr rfl fun l _ => ?_) (Finset.sum_congr rfl fun l _ => ?_)) <;> ring

/-- The reference's score over real parts: the scale comes last. -/
theorem reference_score {a b : Nat} (c : ℝ) (f g : Fin a → ℝ) (f' g' : Fin b → ℝ) :
    ((∑ l, (f l : EReal) * (g l : EReal)) + (∑ l, (g' l : EReal) * (f' l : EReal))) * (c : EReal)
      = ((c * ((∑ l, f l * g l) + ∑ l, g' l * f' l) : ℝ) : EReal) := by
  simp only [← EReal.coe_mul]
  rw [coe_sum, coe_sum, ← EReal.coe_add, ← EReal.coe_mul, mul_comm]

variable (m : (ℓ : Loc nD τ sig) → Buf (Elt Ideal) ℓ)

/-- The scores of a query row, as reals, latent keys first. -/
def scoreR (qn : S4x4096x8x128.Idx → ℝ) (qr : S4x4096x8x64.Idx → ℝ) (kn : S4x4096x8x128.Idx → ℝ) (kr : S4x4096x64.Idx → ℝ)
    (knc : S4x256x8x128.Idx → ℝ) (krc : S4x256x64.Idx → ℝ) (b : Fin 4) (h : Fin 8) (q : Fin 4096) (k : Fin 4352) : ℝ :=
  if hk : k.val < 4096 then (∑ l : Fin 128, qn (ix4 b q h l) * kn (ix4 b ⟨k.val, hk⟩ h l))
      + ∑ l : Fin 64, kr (ix3 b ⟨k.val, hk⟩ l) * qr (ix4 b q h l)
    else (∑ l : Fin 128, qn (ix4 b q h l) * knc (ix4 b ⟨k.val - 4096, by omega⟩ h l))
      + ∑ l : Fin 64, krc (ix3 b ⟨k.val - 4096, by omega⟩ l) * qr (ix4 b q h l)

/-- The kernel's result is the reference's. -/
theorem attn_eq (c : Dev nD) (h0 : ∀ i, ∃ r : ℝ, arg0 m c i = (r : EReal)) (h1 : ∀ i, ∃ r : ℝ, arg1 m c i = (r : EReal))
    (h2 : ∀ i, ∃ r : ℝ, arg2 m c i = (r : EReal)) (h3 : ∀ i, ∃ r : ℝ, arg3 m c i = (r : EReal))
    (h5 : ∀ i, ∃ r : ℝ, arg5 m c i = (r : EReal)) (h6 : ∀ i, ∃ r : ℝ, arg6 m c i = (r : EReal)) :
    (dats m 0 c).arrAt 5 cfg0.N
      = Cert.ReferenceIdeal.Read.val_main_v32 (F := Ideal) (arg0 m c) (arg1 m c) (arg2 m c) (arg3 m c) (arg4 m c) (arg5 m c)
          (arg6 m c) (arg7 m c) := by
  choose qn hqn using h0
  choose qr hqr using h1
  choose kn hkn using h2
  choose kr hkr using h3
  choose knc hknc using h5
  choose krc hkrc using h6
  refine (final m c).trans (funext fun i => ?_)
  obtain ⟨Q, eQ⟩ : ∃ x : FVec Ideal S16384x2048 .bf16, x = V m c main_v11 := ⟨_, rfl⟩
  obtain ⟨K, eK⟩ : ∃ x : FVec Ideal S16384x2048 .bf16, x = V m c main_v17 := ⟨_, rfl⟩
  obtain ⟨Kx, eKx⟩ : ∃ x : FVec Ideal S1024x2048 .bf16, x = V m c main_v23 := ⟨_, rfl⟩
  obtain ⟨Vl, eVl⟩ : ∃ x : FVec Ideal S16384x2048 .bf16, x = V m c main_v27 := ⟨_, rfl⟩
  obtain ⟨Vx, eVx⟩ : ∃ x : FVec Ideal S1024x2048 .bf16, x = V m c main_v31 := ⟨_, rfl⟩
  rw [← eQ, ← eK, ← eKx, ← eVl, ← eVx]
  have hi0 : (i 0).val < 16384 := (i 0).isLt
  have hi1 : (i 1).val < 1024 := (i 1).isLt
  obtain ⟨b, hb⟩ : ∃ b : Fin 4, b.val = (i 0).val / 4096 := ⟨⟨(i 0).val / 4096, by omega⟩, rfl⟩
  obtain ⟨q, hq⟩ : ∃ q : Fin 4096, q.val = (i 0).val % 4096 := ⟨⟨(i 0).val % 4096, by omega⟩, rfl⟩
  obtain ⟨h, hh⟩ : ∃ h : Fin 8, h.val = (i 1).val / 128 := ⟨⟨(i 1).val / 128, by omega⟩, rfl⟩
  obtain ⟨d, hd⟩ : ∃ d : Fin 128, d.val = (i 1).val % 128 := ⟨⟨(i 1).val % 128, by omega⟩, rfl⟩
  rw [AttnRef.ref_apply (arg0 m c) (arg1 m c) (arg2 m c) (arg3 m c) (arg4 m c) (arg5 m c) (arg6 m c) (arg7 m c) i b q h d
    (by omega) (by omega)]
  unfold result cell
  rw [← hb, ← hh, ← hd]
  have lane_val : ∀ l : Fin 256, (lane h.val l.val).val = h.val * 256 + l.val := fun l => by
    show (h.val * 256 + l.val) % 2048 = _
    omega
  have latent_val : ∀ j : Fin 4096, (latent b.val j.val).val = b.val * 4096 + j.val := fun j => by
    show (b.val * 4096 + j.val) % 16384 = _
    omega
  have context_val : ∀ j : Fin 256, (context b.val j.val).val = b.val * 256 + j.val := fun j => by
    show (b.val * 256 + j.val) % 1024 = _
    omega
  have eq : ∀ l : Fin 256, Q (ix2 (i 0) (lane h.val l.val)) = _ := fun l => eQ ▸
    q_at m c b q h l (i 0) _ (by omega) (lane_val l)
  have ek : ∀ (j : Fin 4096) (l : Fin 256),
      K (ix2 (latent b.val j.val) (lane h.val l.val)) = _ := fun j l => eK ▸
    k_at m c b j h l _ _ (latent_val j) (lane_val l)
  have ekx : ∀ (j : Fin 256) (l : Fin 256),
      Kx (ix2 (context b.val j.val) (lane h.val l.val)) = _ := fun j l => eKx ▸
    kx_at m c b j h l _ _ (context_val j) (lane_val l)
  have ev : ∀ j : Fin 4096,
      Vl (ix2 (latent b.val j.val) (lane h.val d.val)) = arg4 m c (ix4 b j h d) := fun j => eVl ▸
    (vl_at m c b j h ⟨d.val, by omega⟩ _ _ (latent_val j) (lane_val ⟨d.val, by omega⟩)).trans (dif_pos d.isLt)
  have evx : ∀ j : Fin 256,
      Vx (ix2 (context b.val j.val) (lane h.val d.val)) = arg7 m c (ix4 b j h d) := fun j => eVx ▸
    (vx_at m c b j h ⟨d.val, by omega⟩ _ _ (context_val j) (lane_val ⟨d.val, by omega⟩)).trans (dif_pos d.isLt)
  have eo : ∀ j : Fin 4096,
      Vl (ix2 (latent b.val j.val) (lane h.val (128 + d.val))) = 1 := fun j => eVl ▸
    (vl_at m c b j h ⟨128 + d.val, by omega⟩ _ _ (latent_val j) (lane_val ⟨128 + d.val, by omega⟩)).trans
      (dif_neg (by show ¬ 128 + d.val < 128; omega))
  have eox : ∀ j : Fin 256,
      Vx (ix2 (context b.val j.val) (lane h.val (128 + d.val))) = 1 := fun j => eVx ▸
    (vx_at m c b j h ⟨128 + d.val, by omega⟩ _ _ (context_val j) (lane_val ⟨128 + d.val, by omega⟩)).trans
      (dif_neg (by show ¬ 128 + d.val < 128; omega))
  let ρ := scoreR qn qr kn kr knc krc b h q
  have sl : ∀ j : Fin 4096, (∑ l : Fin 256, Q (ix2 (i 0) (lane h.val l.val))
      * K (ix2 (latent b.val j.val) (lane h.val l.val)))
        = ((factorR * ρ ⟨j.val, by omega⟩ : ℝ) : EReal) := fun j => by
    have e : ρ ⟨j.val, by omega⟩ = _ := dif_pos j.isLt
    simp only [eq, ek]
    rw [sum_joined, e, factor_eq]
    simp only [hqn, hqr, hkn, hkr]
    exact kernel_score ..
  have sx : ∀ j : Fin 256, (∑ l : Fin 256, Q (ix2 (i 0) (lane h.val l.val))
      * Kx (ix2 (context b.val j.val) (lane h.val l.val)))
        = ((factorR * ρ ⟨4096 + j.val, by omega⟩ : ℝ) : EReal) := fun j => by
    have e : ρ ⟨4096 + j.val, by omega⟩ = _ := dif_neg (by show ¬ 4096 + j.val < 4096; omega)
    have ej : (⟨4096 + j.val - 4096, by omega⟩ : Fin 256) = j := Fin.ext (by show 4096 + j.val - 4096 = j.val; omega)
    simp only [eq, ekx]
    rw [sum_joined, e, factor_eq]
    simp only [hqn, hqr, hknc, hkrc, ej]
    exact kernel_score ..
  have sr : ∀ k : Fin 4352, AttnRef.score (arg0 m c) (arg1 m c) (arg2 m c) (arg3 m c) (arg5 m c) (arg6 m c) b h q k
      = ((factorR * Real.log 2 * ρ k : ℝ) : EReal) := fun k => by
    unfold AttnRef.score
    rw [scale_eq]
    by_cases hk : k.val < 4096
    · have e : ρ k = _ := dif_pos hk
      rw [dif_pos hk, e]
      simp only [hqn, hqr, hkn, hkr]
      exact reference_score ..
    · have e : ρ k = _ := dif_neg hk
      rw [dif_neg hk, e]
      simp only [hqn, hqr, hknc, hkrc]
      exact reference_score ..
  simp only [sl, sx, ev, evx, eo, eox]
  unfold AttnRef.weight AttnRef.top
  have hs : AttnRef.score (arg0 m c) (arg1 m c) (arg2 m c) (arg3 m c) (arg5 m c) (arg6 m c) b h q
    = fun k => ((factorR * Real.log 2 * ρ k : ℝ) : EReal) := funext sr
  simp only [hs]
  exact row_eq factorR factorR_nonneg ρ _ _

end Cert.Proof.Attn

end
-- ==== Proof.AttnClaim.lean ====
/- The algebraic claim of the attention: both programs run, and their results are equal over the ideal values. -/
module

public import proofs.«01_k».proof.Defs
public import proofs.«01_k».proof.Proof.AttnEq
public import proofs.«01_k».proof.Proof.Gen.ReferenceIdeal
public import proofs.«01_k».proof.Proof.Gen.ReferenceIdeal.Run
public import proofs.«01_k».proof.Proof.Gen.Pre_finite_keys

@[expose] public section

noncomputable section

namespace Cert.Proof.Attn

open Idealize.ShloMosaic Idealize.ShloMosaic.TcCoe Idealize.SL.Sem

theorem attention : algebraic_KernelIdeal_ReferenceIdeal_pre_finite_keys := by
  intro m g m' g' hpre hin
  refine ⟨fun c => (Cert.KernelIdeal.Gen.dats m 0 c).arrAt 5 Cert.KernelIdeal.cfg0.N, Cert.KernelIdeal.Value.run_blocks m g,
    (θ_run Cert.ReferenceIdeal.defs _ _).mono (fun r h c => ⟨?_, (h c).2⟩) (Cert.ReferenceIdeal.Value.run m' g')⟩
  obtain ⟨e0, e1, e2, e3, e4, e5, e6, e7⟩ := hin c
  obtain ⟨p0, p1, p2, p3, p5, p6⟩ := hpre c
  refine (h c).1.trans ((Cert.ReferenceIdeal.Read.val_main_v32_eq m' c).trans ?_)
  rw [e0, e1, e2, e3, e4, e5, e6, e7]
  exact (attn_eq m c (fun i => real_of_lt _ (congrFun p0 i)) (fun i => real_of_lt _ (congrFun p1 i))
    (fun i => real_of_lt _ (congrFun p2 i)) (fun i => real_of_lt _ (congrFun p3 i))
    (fun i => real_of_lt _ (congrFun p5 i)) (fun i => real_of_lt _ (congrFun p6 i))).symm

end Cert.Proof.Attn

end
-- ==== Proof.MergeCase.lean ====
/- What one grid point of the merge kernel leaves in its block of the result: one composition of the kernel's own values (`merged`).

   The point takes 256 rows: the gated branch `a`, the gated branch `b`, the spatial mixing of branch `c` (eight groups of
   lanes, each with its own 128 by 128 matrix, over two chunks of 128 rows), the output projection, the gated residual and
   its root-mean-square norm. -/
module

public import proofs.«01_k».proof.Proof.Gen.MergeIdeal.Value

@[expose] public section

noncomputable section

namespace Cert.Proof.Join

open Cert.MergeIdeal Cert.MergeIdeal.Gen Idealize.ShloMosaic Idealize.ShloMosaic.TcCoe Idealize.SL.Sem

variable {F : FTy → Type} [FloatOps F]

theorem off_zero2 : (![0, 0] : Fin 2 → Nat) = fun _ => 0 := funext fun a => by match a with | ⟨0, _⟩ => rfl | ⟨1, _⟩ => rfl

theorem off_zero3 : (![0, 0, 0] : Fin 3 → Nat) = fun _ => 0 :=
  funext fun a => by match a with | ⟨0, _⟩ => rfl | ⟨1, _⟩ => rfl | ⟨2, _⟩ => rfl

/-- The normed rows of branch `c` which the mixing reads. -/
def normed (x7 : Vec F S256x1024 .bf16) (x12 x13 : Vec F S1x1024 .f32) : FVec F S256x1024 .bf16 :=
  k0_pay5 (k0_pay3 x7) (k0_pay4 x7) (Scalar.ofBits .f32 0x44800000#32) x12 x13

/-- Group 0 to 7's mixing matrix out of the eight. -/
def matrix (x14 : Vec F S8x128x128 .bf16) (g : Nat) (h : ∀ a, (![g, 0, 0] : Fin 3 → Nat) a + S1x128x128.size a ≤ S8x128x128.size a) : Vec F S1x128x128 .bf16 :=
  View.ld x14 (Rect.unit (s := S8x128x128) ![g, 0, 0] S1x128x128.size h)

/-- The rows of branch `c` before its gate: the mixed rows with their bias, times the other half. -/
def mixing (x6 x7 : Vec F S256x1024 .bf16) (x12 x13 : Vec F S1x1024 .f32) (x14 : Vec F S8x128x128 .bf16) (x15 : Vec F S128x1024 .f32) :
    FVec F S256x1024 .f32 :=
  k0_pay15
    (k0_pay6 (k0_pay3 x7) (k0_pay4 x7) (Scalar.ofBits .f32 0x44800000#32) x12 x13 (matrix x14 0 inb_S8x128x128_S1x128x128_0_0_0))
    (k0_pay7 (k0_pay3 x7) (k0_pay4 x7) (Scalar.ofBits .f32 0x44800000#32) x12 x13 (matrix x14 1 inb_S8x128x128_S1x128x128_1_0_0))
    (k0_pay8 (k0_pay3 x7) (k0_pay4 x7) (Scalar.ofBits .f32 0x44800000#32) x12 x13 (matrix x14 2 inb_S8x128x128_S1x128x128_2_0_0))
    (k0_pay9 (normed x7 x12 x13) (matrix x14 3 inb_S8x128x128_S1x128x128_3_0_0))
    (k0_pay10 (normed x7 x12 x13) (matrix x14 4 inb_S8x128x128_S1x128x128_4_0_0))
    (k0_pay11 (normed x7 x12 x13) (matrix x14 5 inb_S8x128x128_S1x128x128_5_0_0))
    (k0_pay12 (normed x7 x12 x13) (matrix x14 6 inb_S8x128x128_S1x128x128_6_0_0))
    (k0_pay13 (normed x7 x12 x13)) (k0_pay14 (matrix x14 7 inb_S8x128x128_S1x128x128_7_0_0)) x15 x6

/-- The block's rows before the last norm, as a function of the mixed rows. -/
def joined (x0 : Vec F S256x2048 .f32) (x1 : Vec F S1x1x2048 .f32) (x2 x3 x4 x5 : Vec F S256x1024 .bf16) (mixed : FVec F S256x1024 .f32)
    (x8 : Vec F S256x1024 .bf16) (x9 x10 x11 : Vec F S256x2048 .bf16) (x16 x17 x18 : Vec F S1024x2048 .bf16)
    (x19 : Vec F S2048x2048 .bf16) : FVec F S256x2048 .f32 :=
  k0_pay17 mixed (k0_pay16 (k0_pay2 x2 x4 x16 x9) x3 x5 x17 x10) x8 x18 x11 x19 x0 x1

/-- The block of the result. -/
def merged (x0 : Vec F S256x2048 .f32) (x1 : Vec F S1x1x2048 .f32) (x2 x3 x4 x5 : Vec F S256x1024 .bf16) (mixed : FVec F S256x1024 .f32)
    (x8 : Vec F S256x1024 .bf16) (x9 x10 x11 : Vec F S256x2048 .bf16) (x16 x17 x18 : Vec F S1024x2048 .bf16)
    (x19 : Vec F S2048x2048 .bf16) (x20 : Vec F S1x2048 .f32) : FVec F S256x2048 .f32 :=
  k0_pay1 (joined x0 x1 x2 x3 x4 x5 mixed x8 x9 x10 x11 x16 x17 x18 x19)
    (k0_pay18 mixed (k0_pay16 (k0_pay2 x2 x4 x16 x9) x3 x5 x17 x10) x8 x18 x11 x19 x0 x1) x20

variable (m : (ℓ : Loc nD τ sig) → Buf (Elt F) ℓ)

set_option maxRecDepth 65536 in
set_option maxHeartbeats 4000000 in
/-- The block a point leaves. -/
theorem left_eq (c : Dev nD) (t : Fin cfg0.N) : outsAt0 m c t
    = merged (iblk m c 0 t) (iblk m c 1 t) (iblk m c 2 t) (iblk m c 3 t) (X0_4 m c t) (X0_5 m c t)
        (mixing (X0_6 m c t) (X0_7 m c t) (iblk m c 12 t) (iblk m c 13 t) (iblk m c 14 t) (iblk m c 15 t))
        (X0_8 m c t) (X0_9 m c t) (X0_10 m c t) (X0_11 m c t) (iblk m c 16 t) (iblk m c 17 t) (iblk m c 18 t) (iblk m c 19 t)
        (iblk m c 20 t) := by
  unfold outsAt0 out0_A_21
  refine (View.read_writes_eq_canon _ _ _ (fun y => by exact cover0_A_21 ..)).trans ?_
  unfold kernelRun0_A
  dsimp only
  sl_unfold_words
  rw [View.canon_unit_zero off_zero2]
  simp only [View.readAt_eq_ld, View.ld_unit_zero (S := S1x1x2048) off_zero3,
    (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread,
    View.ld_unit_zero (S := S256x2048) off_zero2, View.ld_unit_zero (S := S256x1024) off_zero2, View.ld_unit_zero (S := S1x1024) off_zero2, View.ld_unit_zero (S := S128x1024) off_zero2, View.ld_unit_zero (S := S1024x2048) off_zero2, View.ld_unit_zero (S := S2048x2048) off_zero2, View.ld_unit_zero (S := S1x2048) off_zero2]
  rfl

end Cert.Proof.Join

end
-- ==== Proof.MergeRow.lean ====
/- One row of the merge over the ideal values, and a block of the kernel's result as such rows.

   `row` is the row the layer returns, from the row's residual, its three branches, their gates and the weights; `mixRow` is
   the third branch before its gate, from the 128 rows of its chunk. `merged_at` and `mixing_at` say that the kernel's block
   holds these. -/
module

public import proofs.«01_k».proof.Proof.MergeCase
public import Idealize.ShloMosaic.Lib.Pointwise

@[expose] public section

noncomputable section

namespace Cert.Proof.Join

open Idealize.ShloMosaic Idealize.ShloMosaic.TcCoe Idealize.SL.Sem Idealize.ShloMosaic.Pointwise

/-- The kernel's logistic function, by the hyperbolic tangent of half its argument. -/
def gate (x : EReal) : EReal :=
  Ideal.ofBits .f32 0x3F000000#32 * Ideal.tanh (Ideal.ofBits .f32 0x3F000000#32 * x) + Ideal.ofBits .f32 0x3F000000#32

/-- A branch's element: its row times the gated rows `z`, projected, times its gate. -/
def branch (y z w : Fin 1024 → EReal) (g : EReal) : EReal := (∑ k : Fin 1024, y k * (z k * gate (z k)) * w k) * gate g

/-- A row's distance from its mean. -/
def dev (v : Fin 1024 → EReal) (k : Fin 1024) : EReal := v k - Ideal.div (∑ l : Fin 1024, v l) (Ideal.ofBits .f32 0x44800000#32)

/-- A row's layer norm, with its scale and shift. -/
def layerNorm (v s b : Fin 1024 → EReal) (k : Fin 1024) : EReal :=
  dev v k * Ideal.rsqrt (Ideal.div (∑ l : Fin 1024, dev v l * dev v l) (Ideal.ofBits .f32 0x44800000#32) + Ideal.ofBits .f32 0x358637BD#32)
    * s k + b k

/-- A row's root-mean-square norm, with its scale. -/
def rmsNorm (x g : Fin 2048 → EReal) (j : Fin 2048) : EReal :=
  x j * Ideal.rsqrt (Ideal.div (∑ l : Fin 2048, x l * x l) (Ideal.ofBits .f32 0x45000000#32) + Ideal.ofBits .f32 0x358637BD#32) * g j

/-- An element of the third branch before its gate: `u` times the mixed elements of its chunk with their bias. -/
def mixRow (u : EReal) (w : Fin 128 → EReal) (v : Fin 128 → EReal) (b : EReal) : EReal := u * ((∑ q : Fin 128, w q * v q) + b)

/-- The merged branches of a row. -/
def branches (ya za yb zb yc zc : Fin 1024 → EReal) (ga gb gc : Fin 2048 → EReal) (wa wb wc : Fin 1024 → Fin 2048 → EReal)
    (k : Fin 2048) : EReal :=
  branch ya za (wa · k) (ga k) + branch yb zb (wb · k) (gb k) + branch yc zc (wc · k) (gc k)

/-- The row with its gated residual added. -/
def residual (x gt : Fin 2048 → EReal) (mr : Fin 2048 → EReal) (wo : Fin 2048 → Fin 2048 → EReal) (l : Fin 2048) : EReal :=
  x l + gt l * ∑ k : Fin 2048, mr k * wo k l

open Cert.MergeIdeal Cert.MergeIdeal.Gen

/-- The kernel's block, element by element. -/
theorem merged_at (x0 : Vec Ideal S256x2048 .f32) (x1 : Vec Ideal S1x1x2048 .f32) (x2 x3 x4 x5 : Vec Ideal S256x1024 .bf16)
    (mixed : FVec Ideal S256x1024 .f32) (x8 : Vec Ideal S256x1024 .bf16) (x9 x10 x11 : Vec Ideal S256x2048 .bf16)
    (x16 x17 x18 : Vec Ideal S1024x2048 .bf16) (x19 : Vec Ideal S2048x2048 .bf16) (x20 : Vec Ideal S1x2048 .f32) (r : Fin 256)
    (j : Fin 2048) :
    merged x0 x1 x2 x3 x4 x5 mixed x8 x9 x10 x11 x16 x17 x18 x19 x20 (ix2 r j)
      = rmsNorm (residual (fun l => x0 (ix2 r l)) (fun l => x1 (ix3 0 0 l))
          (branches (fun k => x2 (ix2 r k)) (fun k => x4 (ix2 r k)) (fun k => x3 (ix2 r k)) (fun k => x5 (ix2 r k))
            (fun k => mixed (ix2 r k)) (fun k => x8 (ix2 r k)) (fun k => x9 (ix2 r k)) (fun k => x10 (ix2 r k))
            (fun k => x11 (ix2 r k)) (fun k l => x16 (ix2 k l)) (fun k l => x17 (ix2 k l)) (fun k l => x18 (ix2 k l)))
          (fun k l => x19 (ix2 k l))) (fun l => x20 (ix2 0 l)) j := by
  have h2 : ∀ k : Fin 2048, k0_pay2 x2 x4 x16 x9 (ix2 r k)
      = branch (fun k => x2 (ix2 r k)) (fun k => x4 (ix2 r k)) (fun l => x16 (ix2 l k)) (x9 (ix2 r k)) := fun k => by
    unfold k0_pay2; pointwise; rfl
  have h16 : ∀ k : Fin 2048, k0_pay16 (k0_pay2 x2 x4 x16 x9) x3 x5 x17 x10 (ix2 r k)
      = branch (fun k => x2 (ix2 r k)) (fun k => x4 (ix2 r k)) (fun l => x16 (ix2 l k)) (x9 (ix2 r k))
        + branch (fun k => x3 (ix2 r k)) (fun k => x5 (ix2 r k)) (fun l => x17 (ix2 l k)) (x10 (ix2 r k)) := fun k => by
    unfold k0_pay16; pointwise [h2]; rfl
  have h17 : ∀ k : Fin 2048, k0_pay17 mixed (k0_pay16 (k0_pay2 x2 x4 x16 x9) x3 x5 x17 x10) x8 x18 x11 x19 x0 x1 (ix2 r k)
      = residual (fun l => x0 (ix2 r l)) (fun l => x1 (ix3 0 0 l))
          (branches (fun k => x2 (ix2 r k)) (fun k => x4 (ix2 r k)) (fun k => x3 (ix2 r k)) (fun k => x5 (ix2 r k))
            (fun k => mixed (ix2 r k)) (fun k => x8 (ix2 r k)) (fun k => x9 (ix2 r k)) (fun k => x10 (ix2 r k))
            (fun k => x11 (ix2 r k)) (fun k l => x16 (ix2 k l)) (fun k l => x17 (ix2 k l)) (fun k l => x18 (ix2 k l)))
          (fun k l => x19 (ix2 k l)) k := fun k => by
    unfold k0_pay17; pointwise [h16]; rfl
  unfold merged joined k0_pay1 k0_pay18
  pointwise [h17]
  rfl

/-- One group's mixing of two chunks of 128 rows, its 128 lanes starting at lane `o`. -/
def group (v : FVec Ideal S256x1024 .bf16) (w : Vec Ideal S1x128x128 .bf16) (o : Nat) (h0 : S256x1024.Slices ![0, o] S128x128)
    (h1 : S256x1024.Slices ![128, o] S128x128) : FVec Ideal S256x128 .f32 :=
  have l : FVec Ideal S128x256 .bf16 := concatenate S128x256 1
    [⟨S128x128, extractStridedSlice S128x128 ![0, o] v h0⟩, ⟨S128x128, extractStridedSlice S128x128 ![128, o] v h1⟩]
    concatenates_S128x128_S128x128_S128x256_d1
  have p : FVec Ideal S128x256 .f32 := matmul dot_S128x128_S128x256_S128x256_1_0_0_1_n_n none
    (shapeCast S128x128 w shapeCasts_S1x128x128_S128x128 : FVec Ideal S128x128 .bf16) l (constant S128x256 .f32 0x00000000#32)
  concatenate S256x128 0 [⟨S128x128, extractStridedSlice S128x128 ![0, 0] p slices_S128x256_o0_0_S128x128⟩,
    ⟨S128x128, extractStridedSlice S128x128 ![0, 128] p slices_S128x256_o0_128_S128x128⟩] concatenates_S128x128_S128x128_S256x128_d0

/-- The row of the block at place `q` of the chunk of row `r`. -/
def chunkRow (r : Fin 256) (q : Fin 128) : Fin 256 := ⟨r.val / 128 * 128 + q.val, by omega⟩

/-- An element of the mixing: the lane's group's matrix times the lane of the chunk's rows. -/
def cellOf (x14 : Vec Ideal S8x128x128 .bf16) (v : FVec Ideal S256x1024 .bf16) (r : Fin 256) (k : Fin 1024) : EReal :=
  ∑ q : Fin 128, x14 (ix3 ⟨k.val / 128, by omega⟩ ⟨r.val % 128, by omega⟩ q) * v (ix2 (chunkRow r q) k)

theorem group_at (x14 : Vec Ideal S8x128x128 .bf16) (v : FVec Ideal S256x1024 .bf16) (g o : Nat) (hg)
    (h0 : S256x1024.Slices ![0, o] S128x128) (h1 : S256x1024.Slices ![128, o] S128x128) (r : Fin 256) (d : Fin 128) (k : Fin 1024)
    (hk : k.val = o + d.val) (ho : o = 128 * g) : group v (matrix x14 g hg) o h0 h1 (ix2 r d) = cellOf x14 v r k := by
  unfold group matrix
  pointwise
  have e : ∀ (a : Fin 8) (b : Fin 128) (e : Fin 128 → Fin 256) (f : Fin 1024), a.val = g → b.val = r.val % 128 →
      (∀ q, (e q).val = r.val / 128 * 128 + q.val) → f.val = o + d.val →
      (∑ q : Fin 128, x14 (ix3 a b q) * v (ix2 (e q) f)) = cellOf x14 v r k := fun a b e f ha hb he hf => by
    unfold cellOf
    rw [show f = k from Fin.ext (by omega), show e = chunkRow r from funext fun q => Fin.ext (he q),
      show a = ⟨k.val / 128, by omega⟩ from Fin.ext (by show a.val = k.val / 128; omega),
      show b = ⟨r.val % 128, by omega⟩ from Fin.ext hb]
  by_cases h : r.val < 128
  · rw [dif_pos h]
    exact e ⟨g, _⟩ ⟨r.val, h⟩ (fun q => ⟨q.val, by omega⟩) ⟨o + d.val, by omega⟩ rfl (by show r.val = r.val % 128; omega)
      (fun q => by show q.val = r.val / 128 * 128 + q.val; omega) rfl
  · rw [dif_neg h]
    exact e ⟨g, _⟩ ⟨r.val - 128, by omega⟩ (fun q => ⟨128 + q.val, by omega⟩) ⟨o + d.val, by omega⟩ rfl
      (by show r.val - 128 = r.val % 128; omega) (fun q => by show 128 + q.val = r.val / 128 * 128 + q.val; omega) rfl

/-- The normed rows which the mixing reads, element by element. -/
theorem normed_at (x7 : Vec Ideal S256x1024 .bf16) (x12 x13 : Vec Ideal S1x1024 .f32) (r : Fin 256) (k : Fin 1024) :
    normed x7 x12 x13 (ix2 r k)
      = layerNorm (fun k => x7 (ix2 r k)) (fun k => x12 (ix2 0 k)) (fun k => x13 (ix2 0 k)) k := by
  have h3 : ∀ l : Fin 1024, k0_pay3 x7 (ix2 r l) = dev (fun k => x7 (ix2 r k)) l := fun l => by
    unfold k0_pay3; pointwise; rfl
  unfold normed k0_pay5 k0_pay4
  pointwise [h3]
  rfl

/-- The mixing over its groups. -/
theorem mixing_groups (x6 x7 : Vec Ideal S256x1024 .bf16) (x12 x13 : Vec Ideal S1x1024 .f32) (x14 : Vec Ideal S8x128x128 .bf16)
    (x15 : Vec Ideal S128x1024 .f32) : mixing x6 x7 x12 x13 x14 x15
      = mulf (extf .f32 x6 bitsLt_bf16_f32) (addf (concatenate S256x1024 1
          [⟨S256x128, group (normed x7 x12 x13) (matrix x14 0 inb_S8x128x128_S1x128x128_0_0_0) 0 slices_S256x1024_o0_0_S128x128 slices_S256x1024_o128_0_S128x128⟩,
            ⟨S256x128, group (normed x7 x12 x13) (matrix x14 1 inb_S8x128x128_S1x128x128_1_0_0) 128 slices_S256x1024_o0_128_S128x128 slices_S256x1024_o128_128_S128x128⟩,
            ⟨S256x128, group (normed x7 x12 x13) (matrix x14 2 inb_S8x128x128_S1x128x128_2_0_0) 256 slices_S256x1024_o0_256_S128x128 slices_S256x1024_o128_256_S128x128⟩,
            ⟨S256x128, group (normed x7 x12 x13) (matrix x14 3 inb_S8x128x128_S1x128x128_3_0_0) 384 slices_S256x1024_o0_384_S128x128 slices_S256x1024_o128_384_S128x128⟩,
            ⟨S256x128, group (normed x7 x12 x13) (matrix x14 4 inb_S8x128x128_S1x128x128_4_0_0) 512 slices_S256x1024_o0_512_S128x128 slices_S256x1024_o128_512_S128x128⟩,
            ⟨S256x128, group (normed x7 x12 x13) (matrix x14 5 inb_S8x128x128_S1x128x128_5_0_0) 640 slices_S256x1024_o0_640_S128x128 slices_S256x1024_o128_640_S128x128⟩,
            ⟨S256x128, group (normed x7 x12 x13) (matrix x14 6 inb_S8x128x128_S1x128x128_6_0_0) 768 slices_S256x1024_o0_768_S128x128 slices_S256x1024_o128_768_S128x128⟩,
            ⟨S256x128, group (normed x7 x12 x13) (matrix x14 7 inb_S8x128x128_S1x128x128_7_0_0) 896 slices_S256x1024_o0_896_S128x128 slices_S256x1024_o128_896_S128x128⟩]
          concatenates_S256x128_S256x128_S256x128_S256x128_S256x128_S256x128_S256x128_S256x128_S256x1024_d1)
        (concatenate S256x1024 0 [⟨S128x1024, shapeCast S128x1024 x15 shapeCasts_S128x1024_S128x1024⟩,
          ⟨S128x1024, shapeCast S128x1024 x15 shapeCasts_S128x1024_S128x1024⟩] concatenates_S128x1024_S128x1024_S256x1024_d0)) := rfl

/-- The third branch before its gate, element by element. -/
theorem mixing_at (x6 x7 : Vec Ideal S256x1024 .bf16) (x12 x13 : Vec Ideal S1x1024 .f32) (x14 : Vec Ideal S8x128x128 .bf16)
    (x15 : Vec Ideal S128x1024 .f32) (r : Fin 256) (k : Fin 1024) : mixing x6 x7 x12 x13 x14 x15 (ix2 r k)
      = mixRow (x6 (ix2 r k)) (fun q => x14 (ix3 ⟨k.val / 128, by omega⟩ ⟨r.val % 128, by omega⟩ q))
          (fun q => layerNorm (fun k => x7 (ix2 (chunkRow r q) k)) (fun k => x12 (ix2 0 k)) (fun k => x13 (ix2 0 k)) k)
          (x15 (ix2 ⟨r.val % 128, by omega⟩ k)) := by
  have hc : cellOf x14 (normed x7 x12 x13) r k
      = ∑ q : Fin 128, x14 (ix3 ⟨k.val / 128, by omega⟩ ⟨r.val % 128, by omega⟩ q)
          * layerNorm (fun k => x7 (ix2 (chunkRow r q) k)) (fun k => x12 (ix2 0 k)) (fun k => x13 (ix2 0 k)) k :=
    Finset.sum_congr rfl fun q _ => by rw [normed_at]
  rw [mixing_groups]
  unfold mixRow
  rw [← hc]
  generalize normed x7 x12 x13 = v
  pointwise
  have hb : (if h : r.val < 128 then x15 (ix2 ⟨r.val, h⟩ k) else x15 (ix2 ⟨r.val - 128, by omega⟩ k))
      = x15 (ix2 ⟨r.val % 128, by omega⟩ k) := by
    by_cases h : r.val < 128
    · rw [dif_pos h]; exact congrArg (fun p => x15 (ix2 p k)) (Fin.ext (by show r.val = r.val % 128; omega))
    · rw [dif_neg h]; exact congrArg (fun p => x15 (ix2 p k)) (Fin.ext (by show r.val - 128 = r.val % 128; omega))
  refine congrArg (x6 (ix2 r k) * ·) (congrArg₂ (· + ·) ?_ hb)
  repeat' (split; · exact group_at x14 v _ _ _ _ _ r _ k (by dsimp only; omega) rfl)
  exact group_at x14 v _ _ _ _ _ r _ k (by dsimp only; omega) rfl

end Cert.Proof.Join

end
-- ==== Proof.MergeArray.lean ====
/- The merge's result array over the ideal values, as one function of the arrays the kernel is given.

   Point `t` of the grid writes rows `256 t` to `256 t + 255`, each the `row` of its residual, branches and gates
   (`cell`, `final`). -/
module

public import proofs.«01_k».proof.Proof.MergeRow
public import Idealize.ShloMosaic.Lib.StableHlo.Run
public import Idealize.ShloMosaic.Lib.Pipeline.ValueKit

@[expose] public section

noncomputable section

namespace Cert.Proof.Join

open Cert.MergeIdeal Cert.MergeIdeal.Gen Cert.MergeIdeal.Value Idealize.ShloMosaic Idealize.ShloMosaic.TcCoe Idealize.SL.Sem Idealize.ShloMosaic.Pointwise
open Idealize.ShloMosaic.StableHlo

/-- Lane `k` of the part of the projection that starts at lane `o`. -/
def lane (o : Nat) {n : Nat} (h : o + n ≤ 13824) (k : Fin n) : Fin 13824 := ⟨o + k.val, by omega⟩

/-- The row at place `q` of the chunk of row `R`. -/
def chunk (R : Fin 16384) (q : Fin 128) : Fin 16384 := ⟨R.val / 128 * 128 + q.val, by omega⟩

/-- An element of the third branch before its gate. -/
def mixedCell (pr : S16384x13824.Idx → EReal) (lg lb : Fin 1024 → EReal) (sw : S8x128x128.Idx → EReal) (sb : Fin 128 → Fin 1024 → EReal)
    (R : Fin 16384) (k : Fin 1024) : EReal :=
  mixRow (pr (ix2 R (lane 3072 (by decide) k))) (fun q => sw (ix3 ⟨k.val / 128, by omega⟩ ⟨R.val % 128, by omega⟩ q))
    (fun q => layerNorm (fun l => pr (ix2 (chunk R q) (lane 4096 (by decide) l))) lg lb k) (sb ⟨R.val % 128, by omega⟩ k)

/-- An element of the merged result. -/
def cell (x : S16384x2048.Idx → EReal) (gt : S8x1x2048.Idx → EReal) (ya yb : S16384x1024.Idx → EReal) (pr : S16384x13824.Idx → EReal)
    (lg lb : Fin 1024 → EReal) (sw : S8x128x128.Idx → EReal) (sb : Fin 128 → Fin 1024 → EReal) (wa wb wc : S1024x2048.Idx → EReal)
    (wo : S2048x2048.Idx → EReal) (fg : Fin 2048 → EReal) (R : Fin 16384) (j : Fin 2048) : EReal :=
  rmsNorm (residual (fun l => x (ix2 R l)) (fun l => gt (ix3 ⟨R.val / 4096, by omega⟩ 0 l))
    (branches (fun k => ya (ix2 R k)) (fun k => pr (ix2 R (lane 1024 (by decide) k)))
      (fun k => yb (ix2 R k)) (fun k => pr (ix2 R (lane 2048 (by decide) k)))
      (mixedCell pr lg lb sw sb R) (fun k => pr (ix2 R (lane 5120 (by decide) k)))
      (fun k => pr (ix2 R (lane 6144 (by decide) k))) (fun k => pr (ix2 R (lane 8192 (by decide) k)))
      (fun k => pr (ix2 R (lane 10240 (by decide) k)))
      (fun k l => wa (ix2 k l)) (fun k l => wb (ix2 k l)) (fun k l => wc (ix2 k l))) (fun k l => wo (ix2 k l))) fg j

/-! Where each window's block of a point lies in its array. -/

theorem index_rows : ∀ t : Fin cfg0.N, (win0_0.index t (0 : Fin 2) = t.val ∧ win0_0.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_21.index t (0 : Fin 2) = t.val ∧ win0_21.index t (1 : Fin 2) = 0) :=
  (by decide +kernel : ∀ t : Fin grid0.N, _)
theorem index_gate : ∀ t : Fin cfg0.N, win0_1.index t (0 : Fin 3) = t.val / 16 ∧ win0_1.index t (1 : Fin 3) = 0
    ∧ win0_1.index t (2 : Fin 3) = 0 :=
  (by decide +kernel : ∀ t : Fin grid0.N, _)
theorem index_parts : ∀ t : Fin cfg0.N, (win0_4.index t (0 : Fin 2) = t.val ∧ win0_4.index t (1 : Fin 2) = 1)
    ∧ (win0_5.index t (0 : Fin 2) = t.val ∧ win0_5.index t (1 : Fin 2) = 2)
    ∧ (win0_6.index t (0 : Fin 2) = t.val ∧ win0_6.index t (1 : Fin 2) = 3)
    ∧ (win0_7.index t (0 : Fin 2) = t.val ∧ win0_7.index t (1 : Fin 2) = 4)
    ∧ (win0_8.index t (0 : Fin 2) = t.val ∧ win0_8.index t (1 : Fin 2) = 5)
    ∧ (win0_9.index t (0 : Fin 2) = t.val ∧ win0_9.index t (1 : Fin 2) = 3)
    ∧ (win0_10.index t (0 : Fin 2) = t.val ∧ win0_10.index t (1 : Fin 2) = 4)
    ∧ (win0_11.index t (0 : Fin 2) = t.val ∧ win0_11.index t (1 : Fin 2) = 5) :=
  (by decide +kernel : ∀ t : Fin grid0.N, _)
theorem index_weights : ∀ t : Fin cfg0.N, (win0_12.index t (0 : Fin 2) = 0 ∧ win0_12.index t (1 : Fin 2) = 0)
    ∧ (win0_13.index t (0 : Fin 2) = 0 ∧ win0_13.index t (1 : Fin 2) = 0)
    ∧ (win0_15.index t (0 : Fin 2) = 0 ∧ win0_15.index t (1 : Fin 2) = 0)
    ∧ (win0_16.index t (0 : Fin 2) = 0 ∧ win0_16.index t (1 : Fin 2) = 0)
    ∧ (win0_17.index t (0 : Fin 2) = 0 ∧ win0_17.index t (1 : Fin 2) = 0)
    ∧ (win0_18.index t (0 : Fin 2) = 0 ∧ win0_18.index t (1 : Fin 2) = 0)
    ∧ (win0_19.index t (0 : Fin 2) = 0 ∧ win0_19.index t (1 : Fin 2) = 0)
    ∧ (win0_20.index t (0 : Fin 2) = 0 ∧ win0_20.index t (1 : Fin 2) = 0)
    ∧ win0_14.index t (0 : Fin 3) = 0 ∧ win0_14.index t (1 : Fin 3) = 0 ∧ win0_14.index t (2 : Fin 3) = 0 :=
  (by decide +kernel : ∀ t : Fin grid0.N, _)

/-- An element of a matrix by the values of its row and column. -/
theorem at_two {a b : Nat} (A : Shape.Idx ⟨2, ![a, b]⟩ → EReal) (e : Shape.Idx ⟨2, ![a, b]⟩) (R : Fin a) (C : Fin b) (h0 : (e 0).val = R.val)
    (h1 : (e 1).val = C.val) : A e = A (ix2 R C) :=
  congrArg A (funext fun i => Fin.ext (by match i with | ⟨0, _⟩ => exact h0 | ⟨1, _⟩ => exact h1))

/-- The same of an array of three dimensions. -/
theorem at_three {a b c : Nat} (A : Shape.Idx ⟨3, ![a, b, c]⟩ → EReal) (e : Shape.Idx ⟨3, ![a, b, c]⟩) (R : Fin a) (S : Fin b) (C : Fin c)
    (h0 : (e 0).val = R.val) (h1 : (e 1).val = S.val) (h2 : (e 2).val = C.val) : A e = A (ix3 R S C) :=
  congrArg A (funext fun i => Fin.ext (by match i with | ⟨0, _⟩ => exact h0 | ⟨1, _⟩ => exact h1 | ⟨2, _⟩ => exact h2))

variable (m : (ℓ : Loc nD τ sig) → Buf (Elt Ideal) ℓ)

/-- Row `r` of point `t`'s block, in the arrays. -/
def rowAt (t : Fin cfg0.N) (r : Fin 256) : Fin 16384 :=
  ⟨t.val * 256 + r.val, by have := lt_of_lt_of_eq t.isLt (show cfg0.N = 64 from N_0); omega⟩

/-! The blocks of a point, element by element. -/

theorem iblk_0 (c : Dev nD) (t : Fin cfg0.N) (r : Fin 256) (l : Fin 2048) :
    iblk m c 0 t (ix2 r l) = V m c main_arg0 (ix2 (rowAt t r) l) := by
  obtain ⟨e0, e1⟩ := (index_rows t).1
  unfold iblk; rw [View.read_apply]
  exact at_two (V m c main_arg0) _ (rowAt t r) l (by show win0_0.index t (0 : Fin 2) * 256 + 1 * r.val = t.val * 256 + r.val; omega)
    (by show win0_0.index t (1 : Fin 2) * 2048 + 1 * l.val = l.val; omega)

theorem iblk_2 (c : Dev nD) (t : Fin cfg0.N) (r : Fin 256) (l : Fin 1024) :
    iblk m c 2 t (ix2 r l) = V m c main_arg2 (ix2 (rowAt t r) l) := by
  obtain ⟨e0, e1⟩ := (index_rows t).2.1
  unfold iblk; rw [View.read_apply]
  exact at_two (V m c main_arg2) _ (rowAt t r) l (by show win0_2.index t (0 : Fin 2) * 256 + 1 * r.val = t.val * 256 + r.val; omega)
    (by show win0_2.index t (1 : Fin 2) * 1024 + 1 * l.val = l.val; omega)

theorem iblk_3 (c : Dev nD) (t : Fin cfg0.N) (r : Fin 256) (l : Fin 1024) :
    iblk m c 3 t (ix2 r l) = V m c main_arg3 (ix2 (rowAt t r) l) := by
  obtain ⟨e0, e1⟩ := (index_rows t).2.2.1
  unfold iblk; rw [View.read_apply]
  exact at_two (V m c main_arg3) _ (rowAt t r) l (by show win0_3.index t (0 : Fin 2) * 256 + 1 * r.val = t.val * 256 + r.val; omega)
    (by show win0_3.index t (1 : Fin 2) * 1024 + 1 * l.val = l.val; omega)

theorem iblk_1 (c : Dev nD) (t : Fin cfg0.N) (r : Fin 256) (l : Fin 2048) :
    iblk m c 1 t (ix3 0 0 l) = V m c main_arg1 (ix3 ⟨(rowAt t r).val / 4096, by have := (rowAt t r).isLt; omega⟩ 0 l) := by
  obtain ⟨e0, e1, e2⟩ := index_gate t
  unfold iblk; rw [View.read_apply]
  refine at_three (V m c main_arg1) _ ⟨(rowAt t r).val / 4096, by have := (rowAt t r).isLt; omega⟩ 0 l ?_ ?_ ?_
  · show win0_1.index t (0 : Fin 3) * 1 + 1 * 0 = (t.val * 256 + r.val) / 4096; omega
  · show win0_1.index t (1 : Fin 3) * 1 + 1 * 0 = 0; omega
  · show win0_1.index t (2 : Fin 3) * 2048 + 1 * l.val = l.val; omega

theorem X0_4_at (c : Dev nD) (t : Fin cfg0.N) (r : Fin 256) (l : Fin 1024) :
    X0_4 m c t (ix2 r l) = V m c main_arg4 (ix2 (rowAt t r) (lane 1024 (by decide) l)) := by
  obtain ⟨e0, e1⟩ := (index_parts t).1
  unfold X0_4 Pipeline.Window.fill; rw [dif_pos (moved0_4 t _)]; unfold iblk; rw [View.read_apply]
  exact at_two (V m c main_arg4) _ (rowAt t r) (lane 1024 (by decide) l)
    (by show win0_4.index t (0 : Fin 2) * 256 + 1 * r.val = t.val * 256 + r.val; omega)
    (by show win0_4.index t (1 : Fin 2) * 1024 + 1 * l.val = 1024 + l.val; omega)

theorem X0_5_at (c : Dev nD) (t : Fin cfg0.N) (r : Fin 256) (l : Fin 1024) :
    X0_5 m c t (ix2 r l) = V m c main_arg4 (ix2 (rowAt t r) (lane 2048 (by decide) l)) := by
  obtain ⟨e0, e1⟩ := (index_parts t).2.1
  unfold X0_5 Pipeline.Window.fill; rw [dif_pos (moved0_5 t _)]; unfold iblk; rw [View.read_apply]
  exact at_two (V m c main_arg4) _ (rowAt t r) (lane 2048 (by decide) l)
    (by show win0_5.index t (0 : Fin 2) * 256 + 1 * r.val = t.val * 256 + r.val; omega)
    (by show win0_5.index t (1 : Fin 2) * 1024 + 1 * l.val = 2048 + l.val; omega)

theorem X0_6_at (c : Dev nD) (t : Fin cfg0.N) (r : Fin 256) (l : Fin 1024) :
    X0_6 m c t (ix2 r l) = V m c main_arg4 (ix2 (rowAt t r) (lane 3072 (by decide) l)) := by
  obtain ⟨e0, e1⟩ := (index_parts t).2.2.1
  unfold X0_6 Pipeline.Window.fill; rw [dif_pos (moved0_6 t _)]; unfold iblk; rw [View.read_apply]
  exact at_two (V m c main_arg4) _ (rowAt t r) (lane 3072 (by decide) l)
    (by show win0_6.index t (0 : Fin 2) * 256 + 1 * r.val = t.val * 256 + r.val; omega)
    (by show win0_6.index t (1 : Fin 2) * 1024 + 1 * l.val = 3072 + l.val; omega)

theorem X0_7_at (c : Dev nD) (t : Fin cfg0.N) (r : Fin 256) (l : Fin 1024) :
    X0_7 m c t (ix2 r l) = V m c main_arg4 (ix2 (rowAt t r) (lane 4096 (by decide) l)) := by
  obtain ⟨e0, e1⟩ := (index_parts t).2.2.2.1
  unfold X0_7 Pipeline.Window.fill; rw [dif_pos (moved0_7 t _)]; unfold iblk; rw [View.read_apply]
  exact at_two (V m c main_arg4) _ (rowAt t r) (lane 4096 (by decide) l)
    (by show win0_7.index t (0 : Fin 2) * 256 + 1 * r.val = t.val * 256 + r.val; omega)
    (by show win0_7.index t (1 : Fin 2) * 1024 + 1 * l.val = 4096 + l.val; omega)

theorem X0_8_at (c : Dev nD) (t : Fin cfg0.N) (r : Fin 256) (l : Fin 1024) :
    X0_8 m c t (ix2 r l) = V m c main_arg4 (ix2 (rowAt t r) (lane 5120 (by decide) l)) := by
  obtain ⟨e0, e1⟩ := (index_parts t).2.2.2.2.1
  unfold X0_8 Pipeline.Window.fill; rw [dif_pos (moved0_8 t _)]; unfold iblk; rw [View.read_apply]
  exact at_two (V m c main_arg4) _ (rowAt t r) (lane 5120 (by decide) l)
    (by show win0_8.index t (0 : Fin 2) * 256 + 1 * r.val = t.val * 256 + r.val; omega)
    (by show win0_8.index t (1 : Fin 2) * 1024 + 1 * l.val = 5120 + l.val; omega)

theorem X0_9_at (c : Dev nD) (t : Fin cfg0.N) (r : Fin 256) (l : Fin 2048) :
    X0_9 m c t (ix2 r l) = V m c main_arg4 (ix2 (rowAt t r) (lane 6144 (by decide) l)) := by
  obtain ⟨e0, e1⟩ := (index_parts t).2.2.2.2.2.1
  unfold X0_9 Pipeline.Window.fill; rw [dif_pos (moved0_9 t _)]; unfold iblk; rw [View.read_apply]
  exact at_two (V m c main_arg4) _ (rowAt t r) (lane 6144 (by decide) l)
    (by show win0_9.index t (0 : Fin 2) * 256 + 1 * r.val = t.val * 256 + r.val; omega)
    (by show win0_9.index t (1 : Fin 2) * 2048 + 1 * l.val = 6144 + l.val; omega)

theorem X0_10_at (c : Dev nD) (t : Fin cfg0.N) (r : Fin 256) (l : Fin 2048) :
    X0_10 m c t (ix2 r l) = V m c main_arg4 (ix2 (rowAt t r) (lane 8192 (by decide) l)) := by
  obtain ⟨e0, e1⟩ := (index_parts t).2.2.2.2.2.2.1
  unfold X0_10 Pipeline.Window.fill; rw [dif_pos (moved0_10 t _)]; unfold iblk; rw [View.read_apply]
  exact at_two (V m c main_arg4) _ (rowAt t r) (lane 8192 (by decide) l)
    (by show win0_10.index t (0 : Fin 2) * 256 + 1 * r.val = t.val * 256 + r.val; omega)
    (by show win0_10.index t (1 : Fin 2) * 2048 + 1 * l.val = 8192 + l.val; omega)

theorem X0_11_at (c : Dev nD) (t : Fin cfg0.N) (r : Fin 256) (l : Fin 2048) :
    X0_11 m c t (ix2 r l) = V m c main_arg4 (ix2 (rowAt t r) (lane 10240 (by decide) l)) := by
  obtain ⟨e0, e1⟩ := (index_parts t).2.2.2.2.2.2.2
  unfold X0_11 Pipeline.Window.fill; rw [dif_pos (moved0_11 t _)]; unfold iblk; rw [View.read_apply]
  exact at_two (V m c main_arg4) _ (rowAt t r) (lane 10240 (by decide) l)
    (by show win0_11.index t (0 : Fin 2) * 256 + 1 * r.val = t.val * 256 + r.val; omega)
    (by show win0_11.index t (1 : Fin 2) * 2048 + 1 * l.val = 10240 + l.val; omega)

theorem iblk_12 (c : Dev nD) (t : Fin cfg0.N) (r : Fin 1) (l : Fin 1024) :
    iblk m c 12 t (ix2 r l) = V m c main_v3 (ix2 r l) := by
  obtain ⟨e0, e1⟩ := (index_weights t).1
  unfold iblk; rw [View.read_apply]
  exact at_two (V m c main_v3) _ r l (by show win0_12.index t (0 : Fin 2) * 1 + 1 * r.val = r.val; omega)
    (by show win0_12.index t (1 : Fin 2) * 1024 + 1 * l.val = l.val; omega)

theorem iblk_13 (c : Dev nD) (t : Fin cfg0.N) (r : Fin 1) (l : Fin 1024) :
    iblk m c 13 t (ix2 r l) = V m c main_v4 (ix2 r l) := by
  obtain ⟨e0, e1⟩ := (index_weights t).2.1
  unfold iblk; rw [View.read_apply]
  exact at_two (V m c main_v4) _ r l (by show win0_13.index t (0 : Fin 2) * 1 + 1 * r.val = r.val; omega)
    (by show win0_13.index t (1 : Fin 2) * 1024 + 1 * l.val = l.val; omega)

theorem iblk_15 (c : Dev nD) (t : Fin cfg0.N) (r : Fin 128) (l : Fin 1024) :
    iblk m c 15 t (ix2 r l) = V m c main_v2 (ix2 r l) := by
  obtain ⟨e0, e1⟩ := (index_weights t).2.2.1
  unfold iblk; rw [View.read_apply]
  exact at_two (V m c main_v2) _ r l (by show win0_15.index t (0 : Fin 2) * 128 + 1 * r.val = r.val; omega)
    (by show win0_15.index t (1 : Fin 2) * 1024 + 1 * l.val = l.val; omega)

theorem iblk_16 (c : Dev nD) (t : Fin cfg0.N) (r : Fin 1024) (l : Fin 2048) :
    iblk m c 16 t (ix2 r l) = V m c main_v6 (ix2 r l) := by
  obtain ⟨e0, e1⟩ := (index_weights t).2.2.2.1
  unfold iblk; rw [View.read_apply]
  exact at_two (V m c main_v6) _ r l (by show win0_16.index t (0 : Fin 2) * 1024 + 1 * r.val = r.val; omega)
    (by show win0_16.index t (1 : Fin 2) * 2048 + 1 * l.val = l.val; omega)

theorem iblk_17 (c : Dev nD) (t : Fin cfg0.N) (r : Fin 1024) (l : Fin 2048) :
    iblk m c 17 t (ix2 r l) = V m c main_v7 (ix2 r l) := by
  obtain ⟨e0, e1⟩ := (index_weights t).2.2.2.2.1
  unfold iblk; rw [View.read_apply]
  exact at_two (V m c main_v7) _ r l (by show win0_17.index t (0 : Fin 2) * 1024 + 1 * r.val = r.val; omega)
    (by show win0_17.index t (1 : Fin 2) * 2048 + 1 * l.val = l.val; omega)

theorem iblk_18 (c : Dev nD) (t : Fin cfg0.N) (r : Fin 1024) (l : Fin 2048) :
    iblk m c 18 t (ix2 r l) = V m c main_v8 (ix2 r l) := by
  obtain ⟨e0, e1⟩ := (index_weights t).2.2.2.2.2.1
  unfold iblk; rw [View.read_apply]
  exact at_two (V m c main_v8) _ r l (by show win0_18.index t (0 : Fin 2) * 1024 + 1 * r.val = r.val; omega)
    (by show win0_18.index t (1 : Fin 2) * 2048 + 1 * l.val = l.val; omega)

theorem iblk_19 (c : Dev nD) (t : Fin cfg0.N) (r : Fin 2048) (l : Fin 2048) :
    iblk m c 19 t (ix2 r l) = V m c main_v9 (ix2 r l) := by
  obtain ⟨e0, e1⟩ := (index_weights t).2.2.2.2.2.2.1
  unfold iblk; rw [View.read_apply]
  exact at_two (V m c main_v9) _ r l (by show win0_19.index t (0 : Fin 2) * 2048 + 1 * r.val = r.val; omega)
    (by show win0_19.index t (1 : Fin 2) * 2048 + 1 * l.val = l.val; omega)

theorem iblk_20 (c : Dev nD) (t : Fin cfg0.N) (r : Fin 1) (l : Fin 2048) :
    iblk m c 20 t (ix2 r l) = V m c main_v10 (ix2 r l) := by
  obtain ⟨e0, e1⟩ := (index_weights t).2.2.2.2.2.2.2.1
  unfold iblk; rw [View.read_apply]
  exact at_two (V m c main_v10) _ r l (by show win0_20.index t (0 : Fin 2) * 1 + 1 * r.val = r.val; omega)
    (by show win0_20.index t (1 : Fin 2) * 2048 + 1 * l.val = l.val; omega)

theorem iblk_14 (c : Dev nD) (t : Fin cfg0.N) (g : Fin 8) (p q : Fin 128) :
    iblk m c 14 t (ix3 g p q) = V m c main_v5 (ix3 g p q) := by
  obtain ⟨e0, e1, e2⟩ := (index_weights t).2.2.2.2.2.2.2.2
  unfold iblk; rw [View.read_apply]
  refine at_three (V m c main_v5) _ g p q ?_ ?_ ?_
  · show win0_14.index t (0 : Fin 3) * 8 + 1 * g.val = g.val; omega
  · show win0_14.index t (1 : Fin 3) * 128 + 1 * p.val = p.val; omega
  · show win0_14.index t (2 : Fin 3) * 128 + 1 * q.val = q.val; omega

/-- The result array, from the arrays as the region finds them. -/
def found (c : Dev nD) (R : Fin 16384) (j : Fin 2048) : EReal :=
  cell (V m c main_arg0) (V m c main_arg1) (V m c main_arg2) (V m c main_arg3) (V m c main_arg4) (fun k => V m c main_v3 (ix2 0 k))
    (fun k => V m c main_v4 (ix2 0 k)) (V m c main_v5) (fun p k => V m c main_v2 (ix2 p k)) (V m c main_v6) (V m c main_v7)
    (V m c main_v8) (V m c main_v9) (fun k => V m c main_v10 (ix2 0 k)) R j

/-- What point `t` leaves, element by element. -/
theorem left_at (c : Dev nD) (t : Fin cfg0.N) (r : Fin 256) (j : Fin 2048) : outsAt0 m c t (ix2 r j) = found m c (rowAt t r) j := by
  have hm : ∀ k, mixing (X0_6 m c t) (X0_7 m c t) (iblk m c 12 t) (iblk m c 13 t) (iblk m c 14 t) (iblk m c 15 t) (ix2 r k)
      = mixedCell (V m c main_arg4) (fun k => V m c main_v3 (ix2 0 k)) (fun k => V m c main_v4 (ix2 0 k)) (V m c main_v5)
          (fun p k => V m c main_v2 (ix2 p k)) (rowAt t r) k := fun k => by
    have e1 : (⟨r.val % 128, by omega⟩ : Fin 128) = ⟨(rowAt t r).val % 128, by omega⟩ :=
      Fin.ext (by show r.val % 128 = (t.val * 256 + r.val) % 128; omega)
    have e2 : ∀ q, rowAt t (chunkRow r q) = chunk (rowAt t r) q := fun q =>
      Fin.ext (by show t.val * 256 + (r.val / 128 * 128 + q.val) = (t.val * 256 + r.val) / 128 * 128 + q.val; omega)
    rw [mixing_at]
    simp only [X0_6_at, X0_7_at, iblk_12, iblk_13, iblk_14, iblk_15, e1, e2]
    rfl
  rw [left_eq, merged_at]
  simp only [hm, iblk_0, iblk_1 m c t r, iblk_2, iblk_3, X0_4_at, X0_5_at, X0_8_at, X0_9_at, X0_10_at, X0_11_at, iblk_16, iblk_17, iblk_18,
    iblk_19, iblk_20]
  rfl

/-- The result array after the run. -/
theorem final (c : Dev nD) : (dats m 0 c).arrAt 21 cfg0.N = fun i : S16384x2048.Idx => found m c (i 0) (i 1) := by
  refine (dats m 0 c).arrAt_eq_of_covers 21 _ (by decide +kernel) fun t hf y => ?_
  obtain ⟨e0, e1⟩ := (index_rows t).2.2.2
  have hy0 : (y 0).val < 256 := (y 0).isLt
  have hy1 : (y 1).val < 2048 := (y 1).isLt
  have w0 : ((((cfg0.win 21).blk t).view.emb y) 0) = rowAt t ⟨(y 0).val, hy0⟩ := Fin.ext (by
    show win0_21.index t (0 : Fin 2) * 256 + 1 * (y 0).val = t.val * 256 + (y 0).val; omega)
  have w1 : ((((cfg0.win 21).blk t).view.emb y) 1) = (⟨(y 1).val, hy1⟩ : Fin 2048) := Fin.ext (by
    show win0_21.index t (1 : Fin 2) * 2048 + 1 * (y 1).val = (y 1).val; omega)
  show (dats m 0 c).after 21 t ((cfg0.win 21).xinj (grid0.coords t) y) = _
  rw [after0_21]
  have ey : ((cfg0.win 21).xinj (grid0.coords t) y) = ix2 (n0 := 256) (n1 := 2048) ⟨(y 0).val, hy0⟩ ⟨(y 1).val, hy1⟩ := by
    funext a; match a with | ⟨0, _⟩ => rfl | ⟨1, _⟩ => rfl
  rw [ey, left_at]
  exact (congrArg₂ (found m c) w0 w1).symm

end Cert.Proof.Join

end
-- ==== Proof.MergeMath.lean ====
/- The logistic function over the extended reals: the reference's quotient is the kernel's hyperbolic tangent. -/
module

public import proofs.«01_k».proof.Proof.MergeRow

@[expose] public section

noncomputable section

namespace Cert.Proof.Join

open Idealize.ShloMosaic

theorem half_bits : Ideal.ofBits .f32 0x3F000000#32 = ((1 / 2 : ℝ) : EReal) := by
  simp [Ideal.ofBits, Ideal.ieee]
  rw [← EReal.coe_mul]
  norm_num

theorem unit_bits : Ideal.ofBits .f32 0x3F800000#32 = ((1 : ℝ) : EReal) := by
  simp [Ideal.ofBits, Ideal.ieee]
  rw [← EReal.coe_mul]
  norm_num

/-- Over the reals: one over one plus `exp (-x)` is half of `tanh (x / 2)` plus a half. -/
theorem logistic_real (x : ℝ) : 1 * (1 + Real.exp (-x))⁻¹ = 1 / 2 * Real.tanh (1 / 2 * x) + 1 / 2 := by
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  rw [Real.tanh_eq_sinh_div_cosh, Real.sinh_eq, Real.cosh_eq, h1]
  generalize Real.exp (1 / 2 * x) = a at *
  generalize hb : Real.exp (-(1 / 2 * x)) = b at *
  have hb0 : 0 < b := hb ▸ Real.exp_pos _
  have ha : a = b⁻¹ := eq_inv_of_mul_eq_one_left h2
  subst ha
  field_simp
  ring

/-- The reference's logistic function, its ones as f32 patterns, is the kernel's. -/
theorem gate_bits (x : EReal) :
    Ideal.div (Ideal.ofBits .f32 0x3F800000#32) (Ideal.ofBits .f32 0x3F800000#32 + Ideal.exp (-x)) = gate x := by
  unfold gate
  rw [half_bits, unit_bits]
  induction x with
  | bot =>
    rw [EReal.neg_bot, EReal.coe_mul_bot_of_pos (by norm_num)]
    show Ideal.div ((1 : ℝ) : EReal) (((1 : ℝ) : EReal) + ⊤) = ((1 / 2 : ℝ) : EReal) * (-1) + ((1 / 2 : ℝ) : EReal)
    rw [EReal.coe_add_top]
    unfold Ideal.div
    rw [if_neg (by simp)]
    have : ((1 / 2 : ℝ) : EReal) * (-1) + ((1 / 2 : ℝ) : EReal) = ((1 / 2 * (-1) + 1 / 2 : ℝ) : EReal) := by push_cast; rfl
    rw [this]
    norm_num
  | top =>
    rw [EReal.neg_top, EReal.coe_mul_top_of_pos (by norm_num)]
    show Ideal.div ((1 : ℝ) : EReal) (((1 : ℝ) : EReal) + ((0 : ℝ) : EReal)) = ((1 / 2 : ℝ) : EReal) * ((1 : ℝ) : EReal) + ((1 / 2 : ℝ) : EReal)
    unfold Ideal.div
    rw [← EReal.coe_mul, ← EReal.coe_add, ← EReal.coe_add, ← EReal.coe_inv, ← EReal.coe_mul, if_neg (by norm_num)]
    norm_num
  | coe x =>
    rw [← EReal.coe_neg]
    show Ideal.div ((1 : ℝ) : EReal) (((1 : ℝ) : EReal) + ((Real.exp (-x) : ℝ) : EReal)) = _
    rw [← EReal.coe_mul]
    show _ = ((1 / 2 : ℝ) : EReal) * ((Real.tanh (1 / 2 * x) : ℝ) : EReal) + ((1 / 2 : ℝ) : EReal)
    unfold Ideal.div
    rw [← EReal.coe_mul, ← EReal.coe_add, ← EReal.coe_add, ← EReal.coe_inv, ← EReal.coe_mul,
      if_neg (by rw [← EReal.coe_zero, EReal.coe_eq_coe_iff]; positivity), logistic_real]

/-- The same with the ones as numbers. -/
theorem gate_eq (x : EReal) : Ideal.div 1 (1 + Ideal.exp (-x)) = gate x := by
  rw [← gate_bits, unit_bits]; rfl

end Cert.Proof.Join

end
-- ==== Proof.MergeRef.lean ====
/- The reference merge over the ideal values, element by element: every element is the `cell` the kernel's is (`ref_at`). -/
module

public import proofs.«01_k».proof.Proof.Gen.MergeRefIdeal.Read
public import proofs.«01_k».proof.Proof.MergeArray
public import proofs.«01_k».proof.Proof.MergeMath

@[expose] public section

noncomputable section

namespace Cert.Proof.JoinRef

open Cert.MergeRefIdeal Cert.MergeRefIdeal.Gen Cert.MergeRefIdeal.Read Idealize.ShloMosaic Idealize.ShloMosaic.TcCoe Idealize.SL.Sem
open Idealize.ShloMosaic.Pointwise Cert.Proof.Join

/-- The batch of a row, and its place in the batch. -/
def batch (R : Fin 16384) : Fin 4 := ⟨R.val / 4096, by omega⟩
def place (R : Fin 16384) : Fin 4096 := ⟨R.val % 4096, by omega⟩

/-- Rows split into batches: an element of the split array is the row's. -/
theorem split_at {n : Nat} (h : (Shape.mk 2 ![16384, n]).ShapeCasts (Shape.mk 3 ![4, 4096, n])) (x : (Shape.mk 2 ![16384, n]).Idx → EReal)
    (R : Fin 16384) (k : Fin n) : shapeCast (Shape.mk 3 ![4, 4096, n]) x h (ix3 (batch R) (place R) k) = x (ix2 R k) := by
  refine shapeCast_apply _ _ _ (ix2 R k) ?_
  rw [Shape.rowMajor_val_two, Shape.rowMajor_val_three]
  show R.val * n + k.val = (R.val / 4096 * 4096 + R.val % 4096) * n + k.val
  rw [Nat.div_add_mod']

variable (x0 : FVec Ideal S16384x2048 .f32) (x1 : FVec Ideal S8x1x2048 .f32) (x2 x3 : FVec Ideal S16384x1024 .bf16)
  (x4 : FVec Ideal S16384x13824 .bf16) (x5 x6 : FVec Ideal S1024 .f32) (x7 : FVec Ideal S8x128x128 .f32) (x8 : FVec Ideal S8x128 .f32)
  (x9 x10 x11 : FVec Ideal S1024x2048 .f32) (x12 : FVec Ideal S2048x2048 .f32) (x13 : FVec Ideal S2048 .f32)

/-! The inputs, split into batches. -/

theorem v0_at (R : Fin 16384) (k : Fin 2048) : val_main_v0 (F := Ideal) x0 (ix3 (batch R) (place R) k) = x0 (ix2 R k) := by
  unfold val_main_v0; exact split_at _ _ R k

theorem v2_at (R : Fin 16384) (k : Fin 1024) : val_main_v2 (F := Ideal) x2 (ix3 (batch R) (place R) k) = x2 (ix2 R k) := by
  unfold val_main_v2; exact split_at _ _ R k

theorem v4_at (R : Fin 16384) (k : Fin 1024) : val_main_v4 (F := Ideal) x3 (ix3 (batch R) (place R) k) = x3 (ix2 R k) := by
  unfold val_main_v4; exact split_at _ _ R k

theorem v7_at (R : Fin 16384) (k : Fin 1024) :
    val_main_v7 (F := Ideal) x4 (ix3 (batch R) (place R) k) = x4 (ix2 R (lane 1024 (by decide) k)) := by
  unfold val_main_v7; refine (split_at _ _ R k).trans ?_; unfold val_main_v6 val_main_v5; pointwise; rfl

theorem v10_at (R : Fin 16384) (k : Fin 1024) :
    val_main_v10 (F := Ideal) x4 (ix3 (batch R) (place R) k) = x4 (ix2 R (lane 2048 (by decide) k)) := by
  unfold val_main_v10; refine (split_at _ _ R k).trans ?_; unfold val_main_v9 val_main_v8; pointwise; rfl

theorem v13_at (R : Fin 16384) (k : Fin 1024) :
    val_main_v13 (F := Ideal) x4 (ix3 (batch R) (place R) k) = x4 (ix2 R (lane 5120 (by decide) k)) := by
  unfold val_main_v13; refine (split_at _ _ R k).trans ?_; unfold val_main_v12 val_main_v11; pointwise; rfl

theorem v16_at (R : Fin 16384) (k : Fin 1024) :
    val_main_v16 (F := Ideal) x4 (ix3 (batch R) (place R) k) = x4 (ix2 R (lane 3072 (by decide) k)) := by
  unfold val_main_v16; refine (split_at _ _ R k).trans ?_; unfold val_main_v15 val_main_v14; pointwise; rfl

theorem v19_at (R : Fin 16384) (k : Fin 1024) :
    val_main_v19 (F := Ideal) x4 (ix3 (batch R) (place R) k) = x4 (ix2 R (lane 4096 (by decide) k)) := by
  unfold val_main_v19; refine (split_at _ _ R k).trans ?_; unfold val_main_v18 val_main_v17; pointwise; rfl

theorem v55_at (R : Fin 16384) (k : Fin 2048) :
    val_main_v55 (F := Ideal) x4 (ix3 (batch R) (place R) k) = x4 (ix2 R (lane 6144 (by decide) k)) := by
  unfold val_main_v55; refine (split_at _ _ R k).trans ?_; unfold val_main_v54 val_main_v53; pointwise; rfl

theorem v74_at (R : Fin 16384) (k : Fin 2048) :
    val_main_v74 (F := Ideal) x4 (ix3 (batch R) (place R) k) = x4 (ix2 R (lane 8192 (by decide) k)) := by
  unfold val_main_v74; refine (split_at _ _ R k).trans ?_; unfold val_main_v73 val_main_v72; pointwise; rfl

theorem v94_at (R : Fin 16384) (k : Fin 2048) :
    val_main_v94 (F := Ideal) x4 (ix3 (batch R) (place R) k) = x4 (ix2 R (lane 10240 (by decide) k)) := by
  unfold val_main_v94; refine (split_at _ _ R k).trans ?_; unfold val_main_v93 val_main_v92; pointwise; rfl

/-! The spatial mixing. -/

theorem v25_at (R : Fin 16384) (k : Fin 1024) : val_main_v25 (F := Ideal) x4 (ix3 (batch R) (place R) k)
    = dev (fun l => x4 (ix2 R (lane 4096 (by decide) l))) k := by
  unfold val_main_v25 val_main_v24 val_main_v23 val_main_v22 val_main_v21 val_main_v20 val_main_cst_0 val_main_cst dev
  pointwise [v19_at]

theorem v43_at (R : Fin 16384) (k : Fin 1024) : val_main_v43 (F := Ideal) x4 x5 x6 (ix3 (batch R) (place R) k)
    = layerNorm (fun l => x4 (ix2 R (lane 4096 (by decide) l))) (fun l => x5 (ix1 l)) (fun l => x6 (ix1 l)) k := by
  have e : val_main_v32 (F := Ideal) x4 = val_main_v25 (F := Ideal) x4 := rfl
  unfold val_main_v43 val_main_v42 val_main_v41 val_main_v40 val_main_v39 val_main_v38 val_main_v37 val_main_v36 val_main_v35
    val_main_v34 val_main_v33 val_main_v30 val_main_v29 val_main_v28 val_main_v27 val_main_v26 val_main_cst_3 val_main_cst_2
    val_main_cst_1
  rw [e]
  unfold layerNorm
  pointwise [v25_at]

/-- The row at place `q` of the chunk of row `R`, split into batch, chunk, place, group and lane. -/
theorem v44_at (R : Fin 16384) (q : Fin 128) (k : Fin 1024) :
    val_main_v44 (F := Ideal) x4 x5 x6 (ix5 (batch R) (⟨(place R).val / 128, by have := (place R).isLt; omega⟩ : Fin 32) q
        (⟨k.val / 128, by omega⟩ : Fin 8) (⟨k.val % 128, by omega⟩ : Fin 128))
      = layerNorm (fun l => x4 (ix2 (chunk R q) (lane 4096 (by decide) l))) (fun l => x5 (ix1 l)) (fun l => x6 (ix1 l)) k := by
  unfold val_main_v44
  refine (shapeCast_apply _ _ _ (ix3 (batch (chunk R q)) (place (chunk R q)) k) ?_).trans (v43_at x4 x5 x6 (chunk R q) k)
  rw [Shape.rowMajor_val_three, Shape.rowMajor_val_five]
  show ((R.val / 128 * 128 + q.val) / 4096 * 4096 + (R.val / 128 * 128 + q.val) % 4096) * 1024 + k.val
    = (((R.val / 4096 * 32 + R.val % 4096 / 128) * 128 + q.val) * 8 + k.val / 128) * 128 + k.val % 128
  omega

theorem v51_at (R : Fin 16384) (k : Fin 1024) : val_main_v51 (F := Ideal) x4 x5 x6 x7 x8 (ix3 (batch R) (place R) k)
    = (∑ q : Fin 128, x7 (ix3 (⟨k.val / 128, by omega⟩ : Fin 8) (⟨R.val % 128, by omega⟩ : Fin 128) q)
        * layerNorm (fun l => x4 (ix2 (chunk R q) (lane 4096 (by decide) l))) (fun l => x5 (ix1 l)) (fun l => x6 (ix1 l)) k)
      + x8 (ix2 (⟨k.val / 128, by omega⟩ : Fin 8) (⟨R.val % 128, by omega⟩ : Fin 128)) := by
  unfold val_main_v51
  refine (shapeCast_apply _ _ _ (ix5 (batch R) (⟨(place R).val / 128, by have := (place R).isLt; omega⟩ : Fin 32)
    (⟨R.val % 128, by omega⟩ : Fin 128) (⟨k.val / 128, by omega⟩ : Fin 8) (⟨k.val % 128, by omega⟩ : Fin 128)) ?_).trans ?_
  · rw [Shape.rowMajor_val_three, Shape.rowMajor_val_five]
    show (((R.val / 4096 * 32 + R.val % 4096 / 128) * 128 + R.val % 128) * 8 + k.val / 128) * 128 + k.val % 128
      = (R.val / 4096 * 4096 + R.val % 4096) * 1024 + k.val
    omega
  · unfold val_main_v50 val_main_v49 val_main_v48 val_main_v47 val_main_v46 val_main_v45
    pointwise [v44_at]
    exact congrArg (· + _) (Finset.sum_congr rfl fun q _ => mul_comm _ _)

/-! The branches. -/

theorem v71_at (R : Fin 16384) (k : Fin 2048) : val_main_v71 (F := Ideal) x2 x4 x9 (ix3 (batch R) (place R) k)
    = branch (fun k => x2 (ix2 R k)) (fun k => x4 (ix2 R (lane 1024 (by decide) k))) (fun l => x9 (ix2 l k))
        (x4 (ix2 R (lane 6144 (by decide) k))) := by
  unfold val_main_v71 val_main_v70 val_main_v69 val_main_v68 val_main_v67 val_main_v66 val_main_v65 val_main_v64 val_main_v63
    val_main_v62 val_main_v61 val_main_v60 val_main_v59 val_main_v58 val_main_v57 val_main_v56 val_main_cst_4 val_main_cst_5
    val_main_cst_6 val_main_cst_7 branch
  pointwise [v2_at, v7_at, v55_at, gate_eq]
  exact mul_comm (G := EReal) _ _

theorem v90_at (R : Fin 16384) (k : Fin 2048) : val_main_v90 (F := Ideal) x3 x4 x10 (ix3 (batch R) (place R) k)
    = branch (fun k => x3 (ix2 R k)) (fun k => x4 (ix2 R (lane 2048 (by decide) k))) (fun l => x10 (ix2 l k))
        (x4 (ix2 R (lane 8192 (by decide) k))) := by
  unfold val_main_v90 val_main_v89 val_main_v88 val_main_v87 val_main_v86 val_main_v85 val_main_v84 val_main_v83 val_main_v82
    val_main_v81 val_main_v80 val_main_v79 val_main_v78 val_main_v77 val_main_v76 val_main_v75 val_main_cst_8 val_main_cst_9
    val_main_cst_10 val_main_cst_11 branch
  pointwise [v4_at, v10_at, v74_at, gate_eq]
  exact mul_comm (G := EReal) _ _

theorem v52_at (R : Fin 16384) (k : Fin 1024) : val_main_v52 (F := Ideal) x4 x5 x6 x7 x8 (ix3 (batch R) (place R) k)
    = mixedCell x4 (fun l => x5 (ix1 l)) (fun l => x6 (ix1 l)) x7 (fun p l => x8 (ix2 (⟨l.val / 128, by omega⟩ : Fin 8) p)) R k := by
  unfold val_main_v52
  pointwise [v16_at, v51_at]
  rfl

theorem v110_at (R : Fin 16384) (k : Fin 2048) : val_main_v110 (F := Ideal) x4 x5 x6 x7 x8 x11 (ix3 (batch R) (place R) k)
    = branch (mixedCell x4 (fun l => x5 (ix1 l)) (fun l => x6 (ix1 l)) x7 (fun p l => x8 (ix2 (⟨l.val / 128, by omega⟩ : Fin 8) p)) R)
        (fun k => x4 (ix2 R (lane 5120 (by decide) k))) (fun l => x11 (ix2 l k)) (x4 (ix2 R (lane 10240 (by decide) k))) := by
  unfold val_main_v110 val_main_v109 val_main_v108 val_main_v107 val_main_v106 val_main_v105 val_main_v104 val_main_v103
    val_main_v102 val_main_v101 val_main_v100 val_main_v99 val_main_v98 val_main_v97 val_main_v96 val_main_v95 val_main_cst_12
    val_main_cst_13 val_main_cst_14 val_main_cst_15 branch
  pointwise [v52_at, v13_at, v94_at, gate_eq]
  exact mul_comm (G := EReal) _ _

/-- The row with its gated residual added. -/
theorem v116_at (R : Fin 16384) (j : Fin 2048) :
    val_main_v116 (F := Ideal) x0 x1 x2 x3 x4 x5 x6 x7 x8 x9 x10 x11 x12 (ix3 (batch R) (place R) j)
      = residual (fun l => x0 (ix2 R l)) (fun l => x1 (ix3 (⟨R.val / 4096, by omega⟩ : Fin 8) 0 l))
        (branches (fun k => x2 (ix2 R k)) (fun k => x4 (ix2 R (lane 1024 (by decide) k)))
          (fun k => x3 (ix2 R k)) (fun k => x4 (ix2 R (lane 2048 (by decide) k)))
          (mixedCell x4 (fun l => x5 (ix1 l)) (fun l => x6 (ix1 l)) x7 (fun p l => x8 (ix2 (⟨l.val / 128, by omega⟩ : Fin 8) p)) R)
          (fun k => x4 (ix2 R (lane 5120 (by decide) k)))
          (fun k => x4 (ix2 R (lane 6144 (by decide) k))) (fun k => x4 (ix2 R (lane 8192 (by decide) k)))
          (fun k => x4 (ix2 R (lane 10240 (by decide) k)))
          (fun k l => x9 (ix2 k l)) (fun k l => x10 (ix2 k l)) (fun k l => x11 (ix2 k l))) (fun k l => x12 (ix2 k l)) j := by
  unfold val_main_v116 val_main_v115 val_main_v114 val_main_v113 val_main_v112 val_main_v111 val_main_v91
  pointwise [v0_at, v71_at, v90_at, v110_at]
  rfl

/-- The reference's result, element by element. -/
theorem ref_at (R : Fin 16384) (j : Fin 2048) :
    val_main_v130 (F := Ideal) x0 x1 x2 x3 x4 x5 x6 x7 x8 x9 x10 x11 x12 x13 (ix2 R j)
      = cell x0 x1 x2 x3 x4 (fun l => x5 (ix1 l)) (fun l => x6 (ix1 l)) x7 (fun p l => x8 (ix2 (⟨l.val / 128, by omega⟩ : Fin 8) p))
          x9 x10 x11 x12 (fun l => x13 (ix1 l)) R j := by
  unfold val_main_v130
  refine (shapeCast_apply _ _ _ (ix3 (batch R) (place R) j) ?_).trans ?_
  · rw [Shape.rowMajor_val_two, Shape.rowMajor_val_three]
    show (R.val / 4096 * 4096 + R.val % 4096) * 2048 + j.val = R.val * 2048 + j.val
    omega
  · unfold val_main_v129 val_main_v128 val_main_v127 val_main_v126 val_main_v125 val_main_v124 val_main_v123 val_main_v122
      val_main_v121 val_main_v120 val_main_v119 val_main_v118 val_main_v117 val_main_cst_16 val_main_cst_17 val_main_cst_18
    pointwise [v116_at]
    rfl

end Cert.Proof.JoinRef

end
-- ==== Proof.MergeClaim.lean ====
/- The algebraic claim of the merge: both programs run, and their results are equal over the ideal values. -/
module

public import proofs.«01_k».proof.Defs
public import proofs.«01_k».proof.Proof.MergeRef
public import proofs.«01_k».proof.Proof.Gen.MergeRefIdeal
public import proofs.«01_k».proof.Proof.Gen.MergeRefIdeal.Run

@[expose] public section

noncomputable section

namespace Cert.Proof.Join

open Cert.MergeIdeal Cert.MergeIdeal.Gen Idealize.ShloMosaic Idealize.ShloMosaic.TcCoe Idealize.SL.Sem Idealize.ShloMosaic.Pointwise
open Idealize.ShloMosaic.StableHlo

variable (m : (ℓ : Loc nD τ sig) → Buf (Elt Ideal) ℓ)

/-! The weights as the call is handed them: narrowed, and the vectors and the bias laid out as rows. -/

theorem scale_at (c : Dev nD) (k : Fin 1024) : (V m c main_v3 : FVec Ideal S1x1024 .f32) (ix2 0 k)
    = (m ((c : Thread nD τ).loc main_arg5) : FVec Ideal S1024 .f32) (ix1 k) := by
  have e : (V m c main_v3 : FVec Ideal S1x1024 .f32)
      = shapeCast S1x1024 (m ((c : Thread nD τ).loc main_arg5) : FVec Ideal S1024 .f32) shapeCasts_S1024_S1x1024 := by
    show after hostOps0 _ _ = _
    after_results
    rfl
  rw [e]; pointwise

theorem shift_at (c : Dev nD) (k : Fin 1024) : (V m c main_v4 : FVec Ideal S1x1024 .f32) (ix2 0 k)
    = (m ((c : Thread nD τ).loc main_arg6) : FVec Ideal S1024 .f32) (ix1 k) := by
  have e : (V m c main_v4 : FVec Ideal S1x1024 .f32)
      = shapeCast S1x1024 (m ((c : Thread nD τ).loc main_arg6) : FVec Ideal S1024 .f32) shapeCasts_S1024_S1x1024 := by
    show after hostOps0 _ _ = _
    after_results
    rfl
  rw [e]; pointwise

theorem last_at (c : Dev nD) (k : Fin 2048) : (V m c main_v10 : FVec Ideal S1x2048 .f32) (ix2 0 k)
    = (m ((c : Thread nD τ).loc main_arg13) : FVec Ideal S2048 .f32) (ix1 k) := by
  have e : (V m c main_v10 : FVec Ideal S1x2048 .f32)
      = shapeCast S1x2048 (m ((c : Thread nD τ).loc main_arg13) : FVec Ideal S2048 .f32) shapeCasts_S2048_S1x2048 := by
    show after hostOps0 _ _ = _
    after_results
    rfl
  rw [e]
  refine shapeCast_apply _ _ _ (ix1 k) ?_
  rw [Shape.rowMajor_val_one, Shape.rowMajor_val_two]
  show k.val = 0 * 2048 + k.val
  omega

theorem bias_at (c : Dev nD) (p : Fin 128) (k : Fin 1024) : (V m c main_v2 : FVec Ideal S128x1024 .f32) (ix2 p k)
    = (m ((c : Thread nD τ).loc main_arg8) : FVec Ideal S8x128 .f32) (ix2 (⟨k.val / 128, by omega⟩ : Fin 8) p) := by
  have e : (V m c main_v2 : FVec Ideal S128x1024 .f32)
      = shapeCast S128x1024 (broadcastInDim S128x8x128 ![0, 1] bcast_S128x8_S128x8x128_0_1
          (transpose S128x8 [1, 0] (m ((c : Thread nD τ).loc main_arg8) : FVec Ideal S8x128 .f32) transposes_S8x128_S128x8_1_0))
          shapeCasts_S128x8x128_S128x1024 := by
    show after hostOps0 _ _ = _
    after_results
    rfl
  rw [e]
  refine (shapeCast_apply _ _ _ (ix3 p (⟨k.val / 128, by omega⟩ : Fin 8) (⟨k.val % 128, by omega⟩ : Fin 128)) ?_).trans ?_
  · rw [Shape.rowMajor_val_two, Shape.rowMajor_val_three]
    show (p.val * 8 + k.val / 128) * 128 + k.val % 128 = p.val * 1024 + k.val
    omega
  · pointwise

theorem matrices (c : Dev nD) : (V m c main_v5 : S8x128x128.Idx → EReal) = m ((c : Thread nD τ).loc main_arg7) := by
  show after hostOps0 _ _ = _
  after_results
  rfl

theorem weight_a (c : Dev nD) : (V m c main_v6 : S1024x2048.Idx → EReal) = m ((c : Thread nD τ).loc main_arg9) := by
  show after hostOps0 _ _ = _
  after_results
  rfl

theorem weight_b (c : Dev nD) : (V m c main_v7 : S1024x2048.Idx → EReal) = m ((c : Thread nD τ).loc main_arg10) := by
  show after hostOps0 _ _ = _
  after_results
  rfl

theorem weight_c (c : Dev nD) : (V m c main_v8 : S1024x2048.Idx → EReal) = m ((c : Thread nD τ).loc main_arg11) := by
  show after hostOps0 _ _ = _
  after_results
  rfl

theorem weight_out (c : Dev nD) : (V m c main_v9 : S2048x2048.Idx → EReal) = m ((c : Thread nD τ).loc main_arg12) := by
  show after hostOps0 _ _ = _
  after_results
  rfl

/-- The kernel's result array is the reference's. -/
theorem join_eq (c : Dev nD) : (dats m 0 c).arrAt 21 cfg0.N
    = Cert.MergeRefIdeal.Read.val_main_v130 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13)) := by
  rw [final]
  funext i
  obtain ⟨R, j, rfl⟩ : ∃ (R : Fin 16384) (j : Fin 2048), i = ix2 R j :=
    ⟨i 0, i 1, funext fun a => by match a with | ⟨0, _⟩ => rfl | ⟨1, _⟩ => rfl⟩
  refine Eq.trans ?_ (Cert.Proof.JoinRef.ref_at _ _ _ _ _ _ _ _ _ _ _ _ _ _ R j).symm
  show found m c R j = _
  unfold found
  rw [matrices, weight_a, weight_b, weight_c, weight_out, funext (scale_at m c), funext (shift_at m c), funext (last_at m c),
    funext fun p => funext (bias_at m c p)]
  rfl

theorem join : algebraic_MergeIdeal_MergeRefIdeal := by
  intro m g m' g' _ hin
  refine ⟨fun c => (dats m 0 c).arrAt 21 cfg0.N, Cert.MergeIdeal.Value.run_blocks m g,
    (θ_run Cert.MergeRefIdeal.defs _ _).mono (fun r h c => ⟨?_, (h c).2⟩) (Cert.MergeRefIdeal.Value.run m' g')⟩
  obtain ⟨e0, e1, e2, e3, e4, e5, e6, e7, e8, e9, e10, e11, e12, e13⟩ := hin c
  refine (h c).1.trans ((Cert.MergeRefIdeal.Read.val_main_v130_eq m' c).trans ?_)
  rw [e0, e1, e2, e3, e4, e5, e6, e7, e8, e9, e10, e11, e12, e13]
  exact (join_eq m c).symm

end Cert.Proof.Join

end
-- ==== Proof.ProjRun.lean ====
/- The input projection's body in each of its three cases (InProjIdeal): the first column tile of a row block, which also makes the block's
   normalised rows and its rope key; a tile in between; the last tile. -/
module

public import proofs.«01_k».proof.Proof.Gen.InProjIdeal.Frame
public import proofs.«01_k».proof.Proof.Gen.InProjIdeal.Skeleton
public import Idealize.ShloMosaic.Lib.Pipeline.TableIdle

@[expose] public section

set_option maxRecDepth 16384

noncomputable section

namespace Cert.Proof.Proj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Branch 1 of the body is taken at the first tile of a row block. -/
theorem branch1 : ∀ t : Fin cfg0.N, k0_cond1 (grid0.coords t) = 1#1 ↔ t.val % 9 = 0 :=
  (fun t => by
    have ht : t.val < 144 := Nat.lt_of_lt_of_eq t.isLt N_0
    have e0 : (grid0.coords t 0).val = t.val / 9 % 16 := Pipeline.Grid.coords_val t 0 (by decide) rfl
    have e1 : (grid0.coords t 1).val = t.val / 1 % 9 := Pipeline.Grid.coords_val t 1 (by decide) rfl
    simp only [k0_cond1, e0, e1]
    word_cmp
   : ∀ t : Fin grid0.N, k0_cond1 (grid0.coords t) = 1#1 ↔ t.val % 9 = 0)

/-- Branch 2 of the body is taken at the first tile of a row block. -/
theorem branch2 : ∀ t : Fin cfg0.N, k0_cond2 (grid0.coords t) = 1#1 ↔ t.val % 9 = 0 :=
  (fun t => by
    have ht : t.val < 144 := Nat.lt_of_lt_of_eq t.isLt N_0
    have e0 : (grid0.coords t 0).val = t.val / 9 % 16 := Pipeline.Grid.coords_val t 0 (by decide) rfl
    have e1 : (grid0.coords t 1).val = t.val / 1 % 9 := Pipeline.Grid.coords_val t 1 (by decide) rfl
    simp only [k0_cond2, e0, e1]
    word_cmp
   : ∀ t : Fin grid0.N, k0_cond2 (grid0.coords t) = 1#1 ↔ t.val % 9 = 0)

/-- Branch 3 of the body is taken at a tile in between. -/
theorem branch3 : ∀ t : Fin cfg0.N, k0_cond3 (grid0.coords t) = 1#1 ↔ (1 ≤ t.val % 9 ∧ t.val % 9 ≤ 7) :=
  (fun t => by
    have ht : t.val < 144 := Nat.lt_of_lt_of_eq t.isLt N_0
    have e0 : (grid0.coords t 0).val = t.val / 9 % 16 := Pipeline.Grid.coords_val t 0 (by decide) rfl
    have e1 : (grid0.coords t 1).val = t.val / 1 % 9 := Pipeline.Grid.coords_val t 1 (by decide) rfl
    simp only [k0_cond3, e0, e1]
    word_cmp
   : ∀ t : Fin grid0.N, k0_cond3 (grid0.coords t) = 1#1 ↔ (1 ≤ t.val % 9 ∧ t.val % 9 ≤ 7))

/-- Branch 4 of the body is taken at the last tile. -/
theorem branch4 : ∀ t : Fin cfg0.N, k0_cond4 (grid0.coords t) = 1#1 ↔ t.val % 9 = 8 :=
  (fun t => by
    have ht : t.val < 144 := Nat.lt_of_lt_of_eq t.isLt N_0
    have e0 : (grid0.coords t 0).val = t.val / 9 % 16 := Pipeline.Grid.coords_val t 0 (by decide) rfl
    have e1 : (grid0.coords t 1).val = t.val / 1 % 9 := Pipeline.Grid.coords_val t 1 (by decide) rfl
    simp only [k0_cond4, e0, e1]
    word_cmp
   : ∀ t : Fin grid0.N, k0_cond4 (grid0.coords t) = 1#1 ↔ t.val % 9 = 8)

set_option maxHeartbeats 1000000 in
/-- The first tile: from the input blocks the body leaves the pieces of the output tile (the list `LT`), of the rope key (`LK`) and of the
    normalised rows (`LS`); the lists are found by running the body. -/
noncomputable def runFirst (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1536x2048 .bf16) (harg6 : arg6.IsWhole) (arg7 : Memref sig .tc .vmem S1x64x2048 .f32) (harg7 : arg7.IsWhole) (arg8 : Memref sig .tc .vmem S3x1024x128 .f32) (harg8 : arg8.IsWhole) (arg9 : Memref sig .tc .vmem S3x1024x128 .f32) (harg9 : arg9.IsWhole) (arg10 : Memref sig .tc .vmem S1024x1536 .bf16) (harg10 : arg10.IsWhole) (arg11 : Memref sig .tc .vmem S1024x128 .f32) (harg11 : arg11.IsWhole) (arg12 : Memref sig .tc .vmem S1024x2048 .bf16) (harg12 : arg12.IsWhole)
    (h1 : k0_cond1 i = 1#1) (h2 : k0_cond2 i = 1#1) (h3 : ¬k0_cond3 i = 1#1) (h4 : ¬k0_cond4 i = 1#1)
    (x0 : Vec F S1024x2048 .f32) (x1 : Vec F S1x2048 .f32) (x2 : Vec F S1x1x2048 .f32) (x3 : Vec F S1x1x2048 .f32) (x4 : Vec F S1x1536x2048 .bf16) (x5 : Vec F S1x64x2048 .f32) (x6 : Vec F S3x1024x128 .f32) (x7 : Vec F S3x1024x128 .f32) :
    Σ' (LT : List (View.Piece (Elt F) S1024x1536 .bf16)), Σ' (LK : List (View.Piece (Elt F) S1024x128 .f32)), { LS : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f LT) ∗ (∃ f, arg11.view.loc (c : Thread nD τ) ↦[arg11.view.set]{fullShare} arg11.view.writes (Elt F) f LK) ∗ (∃ f, arg12.view.loc (c : Thread nD τ) ↦[arg12.view.set]{fullShare} arg12.view.writes (Elt F) f LS)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton, k0_part5_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    sl_exec (disch := first | sl_exact h1 | sl_exact h2 | sl_exact h3 | sl_exact h4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; iexact H11
    iexists _; iexact H12

set_option maxHeartbeats 1000000 in
/-- A tile in between: from the weight block and the normalised rows `xs` the body leaves the pieces of the output tile. -/
noncomputable def runMid (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1536x2048 .bf16) (harg6 : arg6.IsWhole) (arg7 : Memref sig .tc .vmem S1x64x2048 .f32) (harg7 : arg7.IsWhole) (arg8 : Memref sig .tc .vmem S3x1024x128 .f32) (harg8 : arg8.IsWhole) (arg9 : Memref sig .tc .vmem S3x1024x128 .f32) (harg9 : arg9.IsWhole) (arg10 : Memref sig .tc .vmem S1024x1536 .bf16) (harg10 : arg10.IsWhole) (arg11 : Memref sig .tc .vmem S1024x128 .f32) (harg11 : arg11.IsWhole) (arg12 : Memref sig .tc .vmem S1024x2048 .bf16) (harg12 : arg12.IsWhole)
    (h1 : ¬k0_cond1 i = 1#1) (h2 : ¬k0_cond2 i = 1#1) (h3 : k0_cond3 i = 1#1) (h4 : ¬k0_cond4 i = 1#1)
    (x4 : Vec F S1x1536x2048 .bf16) (xs : Vec F S1024x2048 .bf16) :
    { LT : List (View.Piece (Elt F) S1024x1536 .bf16) //
      ∀ (E : Set ℕ) (K : PUnit → sProp 𝕄),
        iprop(owns (c : Thread nD τ) arg6 fullShare x4 ∗ (∃ d, owns (c : Thread nD τ) arg10 fullShare d) ∗ owns (c : Thread nD τ) arg12 fullShare xs
            ∗ (iprop(owns (c : Thread nD τ) arg6 fullShare x4 ∗ (∃ f, arg10.view.loc (c : Thread nD τ) ↦[arg10.view.set]{fullShare} arg10.view.writes (Elt F) f LT) ∗ owns (c : Thread nD τ) arg12 fullShare xs) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_inproj_eq_skeleton]; unfold cc0_inproj_skel
    unfold owns
    iintro ⟨⟨%f6, %hf6, H6⟩, ⟨%d10, %f10, -, H10⟩, ⟨%f12, %hf12, H12⟩, Hk⟩
    obtain rfl := harg6.eq_unread hf6
    obtain rfl := harg12.eq_unread hf12
    sl_exec (disch := first | sl_exact h1 | sl_exact h2 | sl_exact h3 | sl_exact h4)
    sl_step
    iapply Hk
    isplitl [H6]
    · iexists _; isplitr; · ipureintro; exact harg6.read_unread _
      iexact H6
    isplitl [H10]
    · iexists _; iexact H10
    iexists _; isplitr; · ipureintro; exact harg12.read_unread _
    iexact H12

set_option maxHeartbeats 1000000 in
/-- The last tile: as in between, with the key's lanes turned by the table. -/
noncomputable def runLast (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1536x2048 .bf16) (harg6 : arg6.IsWhole) (arg7 : Memref sig .tc .vmem S1x64x2048 .f32) (harg7 : arg7.IsWhole) (arg8 : Memref sig .tc .vmem S3x1024x128 .f32) (harg8 : arg8.IsWhole) (arg9 : Memref sig .tc .vmem S3x1024x128 .f32) (harg9 : arg9.IsWhole) (arg10 : Memref sig .tc .vmem S1024x1536 .bf16) (harg10 : arg10.IsWhole) (arg11 : Memref sig .tc .vmem S1024x128 .f32) (harg11 : arg11.IsWhole) (arg12 : Memref sig .tc .vmem S1024x2048 .bf16) (harg12 : arg12.IsWhole)
    (h1 : ¬k0_cond1 i = 1#1) (h2 : ¬k0_cond2 i = 1#1) (h3 : ¬k0_cond3 i = 1#1) (h4 : k0_cond4 i = 1#1)
    (x4 : Vec F S1x1536x2048 .bf16) (x6 : Vec F S3x1024x128 .f32) (xs : Vec F S1024x2048 .bf16) :
    { LT : List (View.Piece (Elt F) S1024x1536 .bf16) //
      ∀ (E : Set ℕ) (K : PUnit → sProp 𝕄),
        iprop(owns (c : Thread nD τ) arg6 fullShare x4 ∗ owns (c : Thread nD τ) arg8 fullShare x6 ∗ (∃ d, owns (c : Thread nD τ) arg10 fullShare d) ∗ owns (c : Thread nD τ) arg12 fullShare xs
            ∗ (iprop(owns (c : Thread nD τ) arg6 fullShare x4 ∗ owns (c : Thread nD τ) arg8 fullShare x6 ∗ (∃ f, arg10.view.loc (c : Thread nD τ) ↦[arg10.view.set]{fullShare} arg10.view.writes (Elt F) f LT) ∗ owns (c : Thread nD τ) arg12 fullShare xs) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_inproj_eq_skeleton]; unfold cc0_inproj_skel
    simp only [k0_part6_eq_skeleton]
    unfold owns
    iintro ⟨⟨%f6, %hf6, H6⟩, ⟨%f8, %hf8, H8⟩, ⟨%d10, %f10, -, H10⟩, ⟨%f12, %hf12, H12⟩, Hk⟩
    obtain rfl := harg6.eq_unread hf6
    obtain rfl := harg8.eq_unread hf8
    obtain rfl := harg12.eq_unread hf12
    sl_exec (disch := first | sl_exact h1 | sl_exact h2 | sl_exact h3 | sl_exact h4)
    sl_step
    iapply Hk
    isplitl [H6]
    · iexists _; isplitr; · ipureintro; exact harg6.read_unread _
      iexact H6
    isplitl [H8]
    · iexists _; isplitr; · ipureintro; exact harg8.read_unread _
      iexact H8
    isplitl [H10]
    · iexists _; iexact H10
    iexists _; isplitr; · ipureintro; exact harg12.read_unread _
    iexact H12

end Cert.Proof.Proj

end
-- ==== Proof.ProjFrame.lean ====
/- The frame of the input projection (InProjIdeal). The rope key's block is stored at the first tile of a row block and written
   back after the last; in between its buffer keeps what it holds, as do the normalised rows in their scratch. -/
module

public import proofs.«01_k».proof.Proof.ProjRun
public import Idealize.ShloMosaic.Lib.Claim

@[expose] public section

set_option maxRecDepth 16384

noncomputable section

namespace Cert.Proof.Proj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev ms_0 (t : Fin cfg0.N) : Memref sig .tc .vmem S1024x2048 .f32 := win0_0.stage (cfg0.slots t 0)
theorem hs_0 (t : Fin cfg0.N) : (ms_0 t).IsWhole := hstage0_0 ((cfg0.slots t 0).cast nbuf0_0)
abbrev ms_1 (t : Fin cfg0.N) : Memref sig .tc .vmem S1x2048 .f32 := win0_1.stage (cfg0.slots t 1)
theorem hs_1 (t : Fin cfg0.N) : (ms_1 t).IsWhole := hstage0_1 ((cfg0.slots t 1).cast nbuf0_1)
abbrev ms_2 (t : Fin cfg0.N) : Memref sig .tc .vmem S1x1x2048 .f32 := win0_2.stage (cfg0.slots t 2)
theorem hs_2 (t : Fin cfg0.N) : (ms_2 t).IsWhole := hstage0_2 ((cfg0.slots t 2).cast nbuf0_2)
abbrev ms_3 (t : Fin cfg0.N) : Memref sig .tc .vmem S1x1x2048 .f32 := win0_3.stage (cfg0.slots t 3)
theorem hs_3 (t : Fin cfg0.N) : (ms_3 t).IsWhole := hstage0_3 ((cfg0.slots t 3).cast nbuf0_3)
abbrev ms_4 (t : Fin cfg0.N) : Memref sig .tc .vmem S1x1536x2048 .bf16 := win0_4.stage (cfg0.slots t 4)
theorem hs_4 (t : Fin cfg0.N) : (ms_4 t).IsWhole := hstage0_4 ((cfg0.slots t 4).cast nbuf0_4)
abbrev ms_5 (t : Fin cfg0.N) : Memref sig .tc .vmem S1x64x2048 .f32 := win0_5.stage (cfg0.slots t 5)
theorem hs_5 (t : Fin cfg0.N) : (ms_5 t).IsWhole := hstage0_5 ((cfg0.slots t 5).cast nbuf0_5)
abbrev ms_6 (t : Fin cfg0.N) : Memref sig .tc .vmem S3x1024x128 .f32 := win0_6.stage (cfg0.slots t 6)
theorem hs_6 (t : Fin cfg0.N) : (ms_6 t).IsWhole := hstage0_6 ((cfg0.slots t 6).cast nbuf0_6)
abbrev ms_7 (t : Fin cfg0.N) : Memref sig .tc .vmem S3x1024x128 .f32 := win0_7.stage (cfg0.slots t 7)
theorem hs_7 (t : Fin cfg0.N) : (ms_7 t).IsWhole := hstage0_7 ((cfg0.slots t 7).cast nbuf0_7)
abbrev ms_8 (t : Fin cfg0.N) : Memref sig .tc .vmem S1024x1536 .bf16 := win0_8.stage (cfg0.slots t 8)
theorem hs_8 (t : Fin cfg0.N) : (ms_8 t).IsWhole := hstage0_8 ((cfg0.slots t 8).cast nbuf0_8)
abbrev ms_9 (t : Fin cfg0.N) : Memref sig .tc .vmem S1024x128 .f32 := win0_9.stage (cfg0.slots t 9)
theorem hs_9 (t : Fin cfg0.N) : (ms_9 t).IsWhole := hstage0_9 ((cfg0.slots t 9).cast nbuf0_9)

/-- The scratch that carries the normalised rows from the first tile of a row block to the others. -/
abbrev scr : Memref sig .tc .vmem S1024x2048 .bf16 := Memref.whole cc0_scratch0
abbrev viewT : View sig .tc .vmem S1024x1536 .bf16 := (Memref.whole cc0_stg8_0 : Memref sig .tc .vmem S1024x1536 .bf16).view
abbrev viewK : View sig .tc .vmem S1024x128 .f32 := (Memref.whole cc0_stg9_0 : Memref sig .tc .vmem S1024x128 .f32).view

theorem rest_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- Place in its row block: the first tile, the last, or in between. -/
abbrev IsFirst (t : Fin cfg0.N) : Prop := t.val % 9 = 0
abbrev IsMid (t : Fin cfg0.N) : Prop := 1 ≤ t.val % 9 ∧ t.val % 9 ≤ 7
abbrev IsLast (t : Fin cfg0.N) : Prop := t.val % 9 = 8

/-- The run of case `First` at point `t`, on the point's buffers and input blocks. -/
def atFirst (c : Dev nD) (t : Fin cfg0.N) (h : IsFirst t) :=
  runFirst (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scr (Memref.isWhole_whole _) ((branch1 t).mpr h) ((branch2 t).mpr h) (fun g => absurd ((branch3 t).mp g) (by unfold IsFirst at h; omega)) (fun g => absurd ((branch4 t).mp g) (by unfold IsFirst at h; omega)) (iblk m c 0 t) (iblk m c 1 t) (iblk m c 2 t) (iblk m c 3 t) (iblk m c 4 t) (iblk m c 5 t) (iblk m c 6 t) (iblk m c 7 t)

/-- The run of case `Mid` at point `t`, on the point's buffers and input blocks. -/
def atMid (c : Dev nD) (t : Fin cfg0.N) (h : IsMid t) (xs : Vec F S1024x2048 .bf16) :=
  runMid (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scr (Memref.isWhole_whole _) (fun g => absurd ((branch1 t).mp g) (by unfold IsMid at h; omega)) (fun g => absurd ((branch2 t).mp g) (by unfold IsMid at h; omega)) ((branch3 t).mpr h) (fun g => absurd ((branch4 t).mp g) (by unfold IsMid at h; omega)) (iblk m c 4 t) xs

/-- The run of case `Last` at point `t`, on the point's buffers and input blocks. -/
def atLast (c : Dev nD) (t : Fin cfg0.N) (h : IsLast t) (xs : Vec F S1024x2048 .bf16) :=
  runLast (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scr (Memref.isWhole_whole _) (fun g => absurd ((branch1 t).mp g) (by unfold IsLast at h; omega)) (fun g => absurd ((branch2 t).mp g) (by unfold IsLast at h; omega)) (fun g => absurd ((branch3 t).mp g) (by unfold IsLast at h; omega)) ((branch4 t).mpr h) (iblk m c 4 t) (iblk m c 6 t) xs

/-- The stores cover the output tile, -/
theorem tiledFirst (c : Dev nD) (t : Fin cfg0.N) (h : IsFirst t) (y : S1024x1536.Idx) : ∃ pc ∈ (atFirst m c t h).1, y ∈ pc.1.set :=
  View.cover_of_tiledBy (atFirst m c t h).1 ![1024, 128] (by sl_kernel_rfl) y

/-- the rope key, -/
theorem tiledKey (c : Dev nD) (t : Fin cfg0.N) (h : IsFirst t) (y : S1024x128.Idx) : ∃ pc ∈ (atFirst m c t h).2.1, y ∈ pc.1.set :=
  View.cover_of_tiledL (atFirst m c t h).2.1 S1024x128.size (by sl_kernel_rfl) y

/-- and the normalised rows; -/
theorem tiledRows (c : Dev nD) (t : Fin cfg0.N) (h : IsFirst t) (y : S1024x2048.Idx) : ∃ pc ∈ (atFirst m c t h).2.2.1, y ∈ pc.1.set :=
  View.cover_of_tiledL (atFirst m c t h).2.2.1 S1024x2048.size (by sl_kernel_rfl) y

/-- and likewise the output tile in between -/
theorem tiledMid (c : Dev nD) (t : Fin cfg0.N) (h : IsMid t) (xs : Vec F S1024x2048 .bf16) (y : S1024x1536.Idx) : ∃ pc ∈ (atMid m c t h xs).1, y ∈ pc.1.set :=
  View.cover_of_tiledL (atMid m c t h xs).1 S1024x1536.size (by sl_kernel_rfl) y

/-- and at the last tile. -/
theorem tiledLast (c : Dev nD) (t : Fin cfg0.N) (h : IsLast t) (xs : Vec F S1024x2048 .bf16) (y : S1024x1536.Idx) : ∃ pc ∈ (atLast m c t h xs).1, y ∈ pc.1.set :=
  View.cover_of_tiledBy (atLast m c t h xs).1 ![1024, 128] (by sl_kernel_rfl) y

/-! What each case leaves: its pieces read back. -/
def tileFirst (c : Dev nD) (t : Fin cfg0.N) (h : IsFirst t) : Vec F S1024x1536 .bf16 :=
  viewT.read (Elt F) (viewT.writes (Elt F) viewT.junk (atFirst m c t h).1)
def keyFirst (c : Dev nD) (t : Fin cfg0.N) (h : IsFirst t) : Vec F S1024x128 .f32 :=
  viewK.read (Elt F) (viewK.writes (Elt F) viewK.junk (atFirst m c t h).2.1)
def rowsFirst (c : Dev nD) (t : Fin cfg0.N) (h : IsFirst t) : Vec F S1024x2048 .bf16 :=
  scr.view.read (Elt F) (scr.view.writes (Elt F) scr.view.junk (atFirst m c t h).2.2.1)
def tileMid (c : Dev nD) (t : Fin cfg0.N) (h : IsMid t) (xs : Vec F S1024x2048 .bf16) : Vec F S1024x1536 .bf16 :=
  viewT.read (Elt F) (viewT.writes (Elt F) viewT.junk (atMid m c t h xs).1)
def tileLast (c : Dev nD) (t : Fin cfg0.N) (h : IsLast t) (xs : Vec F S1024x2048 .bf16) : Vec F S1024x1536 .bf16 :=
  viewT.read (Elt F) (viewT.writes (Elt F) viewT.junk (atLast m c t h xs).1)

/-- The first tile of the row block of `t`. -/
def lead (t : Fin cfg0.N) : Fin cfg0.N := ⟨t.val - t.val % 9, Nat.lt_of_le_of_lt (Nat.sub_le _ _) t.isLt⟩
theorem lead_first (t : Fin cfg0.N) : IsFirst (lead t) := by show (t.val - t.val % 9) % 9 = 0; omega
theorem lead_self (t : Fin cfg0.N) (h : IsFirst t) : lead t = t := Fin.ext (by show t.val - t.val % 9 = t.val; rw [show t.val % 9 = 0 from h]; rfl)
theorem lead_prev (t : Fin cfg0.N) (h : ¬IsFirst t) (hp : t.val - 1 < cfg0.N) : lead ⟨t.val - 1, hp⟩ = lead t :=
  Fin.ext (by show t.val - 1 - (t.val - 1) % 9 = t.val - t.val % 9; unfold IsFirst at h; omega)

/-- The rope key and the normalised rows of the row block of `t`. -/
def keyAt (c : Dev nD) (t : Fin cfg0.N) : Vec F S1024x128 .f32 := keyFirst m c (lead t) (lead_first t)
def rowsAt (c : Dev nD) (t : Fin cfg0.N) : Vec F S1024x2048 .bf16 := rowsFirst m c (lead t) (lead_first t)
theorem keyAt_first (c : Dev nD) (t : Fin cfg0.N) (h : IsFirst t) : keyAt m c t = keyFirst m c t h := by
  unfold keyAt; congr 1; exact lead_self t h
theorem rowsAt_first (c : Dev nD) (t : Fin cfg0.N) (h : IsFirst t) : rowsAt m c t = rowsFirst m c t h := by
  unfold rowsAt; congr 1; exact lead_self t h

theorem mid_of (t : Fin cfg0.N) (h : ¬IsFirst t) (h' : ¬IsLast t) : IsMid t := by unfold IsFirst at h; unfold IsLast at h'; unfold IsMid; omega

/-- The output tile of point `t`. -/
def tileAt (c : Dev nD) (t : Fin cfg0.N) : Vec F S1024x1536 .bf16 :=
  if h : IsFirst t then tileFirst m c t h
  else if h' : IsLast t then tileLast m c t h' (rowsAt m c t)
  else tileMid m c t (mid_of t h h') (rowsAt m c t)
theorem tileAt_first (c : Dev nD) (t : Fin cfg0.N) (h : IsFirst t) : tileAt m c t = tileFirst m c t h := dif_pos h
theorem tileAt_last (c : Dev nD) (t : Fin cfg0.N) (h : IsLast t) : tileAt m c t = tileLast m c t h (rowsAt m c t) :=
  (dif_neg (by unfold IsLast at h; unfold IsFirst; omega)).trans (dif_pos h)
theorem tileAt_mid (c : Dev nD) (t : Fin cfg0.N) (h : IsMid t) : tileAt m c t = tileMid m c t h (rowsAt m c t) :=
  (dif_neg (by unfold IsMid at h; unfold IsFirst; omega)).trans (dif_neg (by unfold IsMid at h; unfold IsLast; omega))

/-- The invariant before position `n`: the scratch at anything before the first point, afterwards at the normalised rows of
    the row block of the point before. -/
def inv (c : Dev nD) : (n : ℕ) → n ≤ cfg0.N → sProp 𝕄
  | 0, _ => Pipeline.ΦA spec0 c
  | n + 1, hn => iprop(iprop(owns (c : Thread nD τ) scr fullShare (rowsAt m c ⟨n, hn⟩)) ∗ (∃ r, prngReg c r))
theorem inv_pos (c : Dev nD) (n : ℕ) (h : n ≤ cfg0.N) (hz : n ≠ 0) :
    inv m c n h = iprop(iprop(owns (c : Thread nD τ) scr fullShare (rowsAt m c ⟨n - 1, by omega⟩)) ∗ (∃ r, prngReg c r)) := by
  cases n with
  | zero => exact absurd rfl hz
  | succ n => rfl
/-- At any position the scratch is there at some contents. -/
theorem inv_any (c : Dev nD) (n : ℕ) (h : n ≤ cfg0.N) : inv m c n h ⊢ Pipeline.ΦA spec0 c := by
  cases n with
  | zero => exact Idealize.SL.BI.Entails.refl _
  | succ n =>
    rw [rest_eq]; unfold inv
    iintro ⟨HS, Hg⟩
    isplitl [HS]
    · iexists _; iexact HS
    iexact Hg

/-- The proof data: the inputs' buffers at their blocks, the output tile and the rope key as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => tileAt m c t
    | ⟨9, _⟩ => keyAt m c t
  Φ t := inv m c t.val (Nat.le_of_lt_succ t.isLt)
  q _ := fullShare
  owed _ := 0

theorem entry (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (entry m c 0) (after_0 m c) t d
theorem leaves_0 (c : Dev nD) (t : Fin cfg0.N) : (dats m 0 c).leavesExact 0 t = owns (c : Thread nD τ) (ms_0 t) fullShare (iblk m c 0 t) := by
  unfold Dat.leavesExact; rw [show cfg0.idle 0 (cfg0.grid.coords t) = false from rfl, after_0]
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (entry m c 1) (after_1 m c) t d
theorem leaves_1 (c : Dev nD) (t : Fin cfg0.N) : (dats m 0 c).leavesExact 1 t = owns (c : Thread nD τ) (ms_1 t) fullShare (iblk m c 1 t) := by
  unfold Dat.leavesExact; rw [show cfg0.idle 1 (cfg0.grid.coords t) = false from rfl, after_1]
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (entry m c 2) (after_2 m c) t d
theorem leaves_2 (c : Dev nD) (t : Fin cfg0.N) : (dats m 0 c).leavesExact 2 t = owns (c : Thread nD τ) (ms_2 t) fullShare (iblk m c 2 t) := by
  unfold Dat.leavesExact; rw [show cfg0.idle 2 (cfg0.grid.coords t) = false from rfl, after_2]
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (entry m c 3) (after_3 m c) t d
theorem leaves_3 (c : Dev nD) (t : Fin cfg0.N) : (dats m 0 c).leavesExact 3 t = owns (c : Thread nD τ) (ms_3 t) fullShare (iblk m c 3 t) := by
  unfold Dat.leavesExact; rw [show cfg0.idle 3 (cfg0.grid.coords t) = false from rfl, after_3]
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (entry m c 4) (after_4 m c) t d
theorem leaves_4 (c : Dev nD) (t : Fin cfg0.N) : (dats m 0 c).leavesExact 4 t = owns (c : Thread nD τ) (ms_4 t) fullShare (iblk m c 4 t) := by
  unfold Dat.leavesExact; rw [show cfg0.idle 4 (cfg0.grid.coords t) = false from rfl, after_4]
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (entry m c 5) (after_5 m c) t d
theorem leaves_5 (c : Dev nD) (t : Fin cfg0.N) : (dats m 0 c).leavesExact 5 t = owns (c : Thread nD τ) (ms_5 t) fullShare (iblk m c 5 t) := by
  unfold Dat.leavesExact; rw [show cfg0.idle 5 (cfg0.grid.coords t) = false from rfl, after_5]
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (entry m c 6) (after_6 m c) t d
theorem leaves_6 (c : Dev nD) (t : Fin cfg0.N) : (dats m 0 c).leavesExact 6 t = owns (c : Thread nD τ) (ms_6 t) fullShare (iblk m c 6 t) := by
  unfold Dat.leavesExact; rw [show cfg0.idle 6 (cfg0.grid.coords t) = false from rfl, after_6]
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (entry m c 7) (after_7 m c) t d
theorem leaves_7 (c : Dev nD) (t : Fin cfg0.N) : (dats m 0 c).leavesExact 7 t = owns (c : Thread nD τ) (ms_7 t) fullShare (iblk m c 7 t) := by
  unfold Dat.leavesExact; rw [show cfg0.idle 7 (cfg0.grid.coords t) = false from rfl, after_7]
theorem after_8 (c : Dev nD) (t : Fin cfg0.N) : (dats m 0 c).after 8 t = tileAt m c t := by dsimp only [dats]
theorem after_9 (c : Dev nD) (t : Fin cfg0.N) : (dats m 0 c).after 9 t = keyAt m c t := by dsimp only [dats]

/-- The output tile is stored at every point, the rope key at the first tile of a row block. -/
theorem idle_8 : ∀ t : Fin cfg0.N, cfg0.idle 8 (cfg0.grid.coords t) = false := by decide +kernel
theorem idle_9 : ∀ t : Fin cfg0.N, cfg0.idle 9 (cfg0.grid.coords t) = !decide (t.val % 9 = 0) := by decide +kernel
theorem leaves_8 (c : Dev nD) (t : Fin cfg0.N) : (dats m 0 c).leavesExact 8 t = owns (c : Thread nD τ) (ms_8 t) fullShare (tileAt m c t) := by
  unfold Dat.leavesExact; rw [idle_8 t, after_8]
theorem leaves_9_first (c : Dev nD) (t : Fin cfg0.N) (h : IsFirst t) :
    (dats m 0 c).leavesExact 9 t = owns (c : Thread nD τ) (ms_9 t) fullShare (keyAt m c t) := by
  unfold Dat.leavesExact; rw [idle_9 t, show decide (t.val % 9 = 0) = true from decide_eq_true h, after_9]; rfl
theorem leaves_9_mid (c : Dev nD) (t : Fin cfg0.N) (h : IsMid t) :
    (dats m 0 c).leavesExact 9 t = iprop(∃ d, owns (c : Thread nD τ) (ms_9 t) fullShare ((dats m 0 c).before 9 t d)) :=
  (dats m 0 c).leavesExact_idle 9 t (by rw [idle_9 t]; simp only [Bool.not_eq_true', decide_eq_false_iff_not]; unfold IsMid at h; omega)
    (by rw [← Bool.not_eq_true, flush0_9 t]; unfold IsMid at h; omega)
theorem leaves_9_last (c : Dev nD) (t : Fin cfg0.N) (h : IsLast t) :
    (dats m 0 c).leavesExact 9 t = owns (c : Thread nD τ) (ms_9 t) fullShare (keyAt m c t) := by
  unfold Dat.leavesExact
  rw [show cfg0.idle 9 (cfg0.grid.coords t) = true from by rw [idle_9 t]; simp only [Bool.not_eq_true', decide_eq_false_iff_not]; unfold IsLast at h; omega,
    (flush0_9 t).mpr h, after_9]

/-- Something was stored into the rope key's buffer since its last write-back. -/
theorem stored_9 : ∀ t : Fin cfg0.N, ¬IsFirst t → cfg0.fresh 9 t.val = false := by decide +kernel
/-- After the first tile of a row block, the rope key's buffer holds the block's rope key. -/
theorem before_9 (c : Dev nD) (t : Fin cfg0.N) (h : ¬IsFirst t) (d) : (dats m 0 c).before 9 t d = keyAt m c t := by
  rw [Dat.before_out_traj _ 9 rfl (fun _ _ => rfl) (fun s _ hi _ => ?_) t.val t rfl d,
    if_neg (by rw [stored_9 t h]; exact Bool.false_ne_true), after_9]
  · unfold keyAt; congr 1; exact lead_prev t h _
  · have hs : ¬IsFirst s := by
      rw [idle_9 s] at hi; simpa using hi
    rw [after_9, after_9]; unfold keyAt; congr 1; exact (lead_prev s hs _).symm

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem inv_start (c : Dev nD) (t : Fin cfg0.N) : (dats m 0 c).Φ t.castSucc = inv m c t.val (Nat.le_of_lt t.isLt) := by
  dsimp only [dats]; exact Pipeline.Dat.Φ_castSucc (inv m c) t
theorem inv_end (c : Dev nD) (t : Fin cfg0.N) :
    (dats m 0 c).Φ t.succ = iprop(iprop(owns (c : Thread nD τ) scr fullShare (rowsAt m c t)) ∗ (∃ r, prngReg c r)) := rfl

set_option maxHeartbeats 4000000 in
/-- The body's triple at a point of case `First`. -/
theorem soundFirst (c : Dev nD) (t : Fin cfg0.N) (h : IsFirst t) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, inv_end, inv_start]
  simp only [before_0, before_1, before_2, before_3, before_4, before_5, before_6, before_7]
  rw [leaves_0, leaves_1, leaves_2, leaves_3, leaves_4, leaves_5, leaves_6, leaves_7, leaves_8, leaves_9_first m c t h]
  rw [tileAt_first m c t h, keyAt_first m c t h, rowsAt_first m c t h]
  unfold tileFirst keyFirst rowsFirst
  refine (sep_mono_left (inv_any m c _ _)).trans ?_
  rw [rest_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((atFirst m c t h).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS]; · iexact HS
  iintro ⟨H0, H1, H2, H3, H4, H5, H6, H7, ⟨%e8, H8⟩, ⟨%e9, H9⟩, ⟨%es, HS⟩⟩
  isplitl [HS Hg]
  · isplitl [HS]
    · unfold owns; iexists _; isplitr
      swap; · iexact HS
      ipureintro; exact View.read_writes_of_cover _ _ _ _ _ (tiledRows m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (tiledFirst m c t h)
  unfold owns; iexists _; isplitr
  swap; · iexact H9
  ipureintro; exact View.read_writes_of_cover _ _ _ _ _ (tiledKey m c t h)

set_option maxHeartbeats 4000000 in
/-- The body's triple at a point of case `Mid`. -/
theorem soundMid (c : Dev nD) (t : Fin cfg0.N) (h : IsMid t) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, inv_end, inv_start]
  simp only [before_0, before_1, before_2, before_3, before_4, before_5, before_6, before_7]
  rw [leaves_0, leaves_1, leaves_2, leaves_3, leaves_4, leaves_5, leaves_6, leaves_7, leaves_8, leaves_9_mid m c t h]
  have hn : ¬IsFirst t := by unfold IsMid at h; unfold IsFirst; omega
  have hz : t.val ≠ 0 := fun e => hn (by unfold IsFirst; rw [e])
  rw [inv_pos m c _ _ hz, show rowsAt m c ⟨t.val - 1, by omega⟩ = rowsAt m c t from by unfold rowsAt; congr 1; exact lead_prev t hn _]
  simp only [before_9 m c t hn]
  rw [tileAt_mid m c t h]
  unfold tileMid
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((atMid m c t h (rowsAt m c t)).2 Set.univ _)
  isplitl [H4]; · iexact H4
  isplitl [H8]; · iexists _; iexact H8
  isplitl [HS]; · iexact HS
  iintro ⟨H4, ⟨%e8, H8⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (tiledMid m c t h _)
  iexists d9; iexact H9

set_option maxHeartbeats 4000000 in
/-- The body's triple at a point of case `Last`. -/
theorem soundLast (c : Dev nD) (t : Fin cfg0.N) (h : IsLast t) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, inv_end, inv_start]
  simp only [before_0, before_1, before_2, before_3, before_4, before_5, before_6, before_7]
  rw [leaves_0, leaves_1, leaves_2, leaves_3, leaves_4, leaves_5, leaves_6, leaves_7, leaves_8, leaves_9_last m c t h]
  have hn : ¬IsFirst t := by unfold IsLast at h; unfold IsFirst; omega
  have hz : t.val ≠ 0 := fun e => hn (by unfold IsFirst; rw [e])
  rw [inv_pos m c _ _ hz, show rowsAt m c ⟨t.val - 1, by omega⟩ = rowsAt m c t from by unfold rowsAt; congr 1; exact lead_prev t hn _]
  simp only [before_9 m c t hn]
  rw [tileAt_last m c t h]
  unfold tileLast
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((atLast m c t h (rowsAt m c t)).2 Set.univ _)
  isplitl [H4]; · iexact H4
  isplitl [H6]; · iexact H6
  isplitl [H8]; · iexists _; iexact H8
  isplitl [HS]; · iexact HS
  iintro ⟨H4, H6, ⟨%e8, H8⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (tiledLast m c t h _)
  iexact H9

theorem sound (c : Dev nD) (t : Fin cfg0.N) :
    bodyPre m c t ⊢ wp frame (wpE (defs₀ (F := F)) Variants.none c none) Set.univ (bodyAt0 t) (fun _ => bodyPost m c t) :=
  if h : IsFirst t then soundFirst m c t h
  else if h' : IsLast t then soundLast m c t h'
  else soundMid m c t (mid_of t h h')

theorem row (t : Fin cfg0.N) : defs₀ (F := F) .tc cfg0.body (cfg0.bodyArgs t (cfg0.slots t)) = bodyAt0 t := by
  unfold defs₀; rw [Defs.onTc_tc]
theorem obligation (c : Dev nD) : BodyObligation (dats (F := F) m 0 c) (defs₀ (F := F)) Variants.none () Set.univ := fun t => by
  rw [bigSep_W0, bigSep_W0, row]
  exact triple_restated (sound m c t) rfl .rfl fun _ => .rfl

theorem start (c : Dev nD) : Pipeline.ΦA spec0 c ⊢ (dats m 0 c).Φ 0 := Idealize.SL.BI.Entails.refl _
theorem finish (c : Dev nD) : (dats m 0 c).Φ (Fin.last cfg0.N) ⊢ Pipeline.ΦA spec0 c := by dsimp only [dats]; exact inv_any m c _ _

set_option backward.isDefEq.respectTransparency.types false in
/-- The run: each array ends at what the proof data says, and every counter at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := entry m) (hin := start m) (hout := finish m)

/-- The frame: @main terminates, its arguments end unchanged and every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (entry m) ((θ_run defs _ _).mono (fun _ h => h.1) (run m ρ))) ((θ_run defs _ _).mono (fun _ h => h.2) (run m ρ))

end Cert.Proof.Proj

end
-- ==== Proof.ProjCase.lean ====
/- What the input projection's body leaves in its three cases over the ideal values, element by element.

   The first tile of a row block: the block's normalised rows, its rope key, and a tile of the projection whose lanes
   below 1024 are turned by the rope (eight heads of 128 lanes) and scaled; the last tile's lanes below 256 are turned. -/
module

public import proofs.«01_k».proof.Proof.ProjFrame
public import Idealize.ShloMosaic.Lib.Pipeline.ValueKit
public import Idealize.ShloMosaic.Lib.Pipeline.ReadBack
public import Idealize.ShloMosaic.Lib.Pointwise

@[expose] public section

set_option maxRecDepth 65536

noncomputable section

namespace Cert.Proof.Proj

open Cert.InProjIdeal Cert.InProjIdeal.Gen Idealize.ShloMosaic Idealize.ShloMosaic.TcCoe Idealize.ShloMosaic.Tactic Idealize.SL.Sem
open Idealize.ShloMosaic.Pointwise

theorem off_zero2 : (![0, 0] : Fin 2 → Nat) = fun _ => 0 := funext fun a => by match a with | ⟨0, _⟩ => rfl | ⟨1, _⟩ => rfl
theorem off_zero3 : (![0, 0, 0] : Fin 3 → Nat) = fun _ => 0 :=
  funext fun a => by match a with | ⟨0, _⟩ => rfl | ⟨1, _⟩ => rfl | ⟨2, _⟩ => rfl

/-- The rope over 128 lanes by its three tables: a lane times `c`, the lane `s` further times `a`, the lane `s` back times `b`. -/
def turn (s : Nat) (v c a b : Fin 128 → EReal) (l : Fin 128) : EReal :=
  v l * c l + v ⟨(l.val + 128 - (128 - s) % 128) % 128, Nat.mod_lt _ (by decide)⟩ * a l
    + v ⟨(l.val + 128 - s % 128) % 128, Nat.mod_lt _ (by decide)⟩ * b l

/-- The head of 128 lanes that starts at lane `o`, turned by the tables `x`. -/
def turned (v : S1024x1536.Idx → EReal) (x : S3x1024x128.Idx → EReal) (o : Nat) (ho : o + 128 ≤ 1536) (r : Fin 1024) (i : Fin 128) : EReal :=
  turn 32 (fun i => v (ix2 r ⟨o + i.val, by omega⟩)) (fun i => x (ix3 0 r i)) (fun i => x (ix3 1 r i)) (fun i => x (ix3 2 r i)) i

/-- The factor on the queries: the named constant, whose value is `1 / (sqrt 128 * log 2)`. -/
abbrev queryScale : EReal := Named.named (F := Ideal) (φ := .f32) κ "q_scale" 0x3E0293EE#32

/-- A tile whose first `n` heads are turned and scaled by `s`. -/
def tileRow (n : Nat) (hn : 128 * n ≤ 1536) (s : EReal) (v : S1024x1536.Idx → EReal) (x : S3x1024x128.Idx → EReal) (r : Fin 1024) (l : Fin 1536) : EReal :=
  if h : l.val < 128 * n then turned v x (l.val / 128 * 128) (by omega) r ⟨l.val % 128, by omega⟩ * s
  else v (ix2 r l)
def tileOf (n : Nat) (hn : 128 * n ≤ 1536) (s : EReal) (v : S1024x1536.Idx → EReal) (x : S3x1024x128.Idx → EReal) (y : S1024x1536.Idx) : EReal :=
  tileRow n hn s v x (y 0) (y 1)

/-- Where a piece of `k` lanes from lane `o` lies in the tile. -/
theorem place (o k : Nat) (h : ∀ a, (![0, o] : Fin 2 → Nat) a + (![1024, k] : Fin 2 → Nat) a ≤ S1024x1536.size a) (r : Fin 1024) (i : Fin k)
    (hi : o + i.val < 1536) : (Rect.unit (s := S1024x1536) ![0, o] ![1024, k] h).emb (ix2 r i) = ix2 r ⟨o + i.val, hi⟩ :=
  funext fun a => Fin.ext (by
    match a with
    | ⟨0, _⟩ => show 0 + 1 * r.val = r.val; omega
    | ⟨1, _⟩ => show o + 1 * i.val = o + i.val; omega)

theorem two (k : Nat) (x : Shape.Idx ⟨2, ![1024, k]⟩) : ∃ (r : Fin 1024) (i : Fin k), x = ix2 r i :=
  ⟨x 0, x 1, funext fun a => by match a with | ⟨0, _⟩ => rfl | ⟨1, _⟩ => rfl⟩

/-- A turned head's piece holds the tile's elements, -/
theorem head_piece (n : Nat) (hn : 128 * n ≤ 1536) (s : EReal) (v : S1024x1536.Idx → EReal) (x : S3x1024x128.Idx → EReal) (p : Nat) (hp : p < n) (o : Nat)
    (ho : o = 128 * p) (h : ∀ a, (![0, o] : Fin 2 → Nat) a + (![1024, 128] : Fin 2 → Nat) a ≤ S1024x1536.size a) (P : S1024x128.Idx → EReal)
    (hP : ∀ (r : Fin 1024) (i : Fin 128), P (ix2 r i) = turned v x (128 * p) (by omega) r i * s)
    (j : (Rect.unit (s := S1024x1536) ![0, o] ![1024, 128] h).shape.Idx) :
    P j = tileOf n hn s v x ((Rect.unit (s := S1024x1536) ![0, o] ![1024, 128] h).emb j) := by
  subst ho
  obtain ⟨r, i, rfl⟩ := two 128 j
  rw [place (128 * p) 128 h r i (by omega)]
  refine (hP r i).trans ?_
  show _ = tileRow n hn s v x r ⟨128 * p + i.val, by omega⟩
  refine Eq.trans ?_ (dif_pos (show 128 * p + i.val < 128 * n by omega)).symm
  congr 2
  · show 128 * p = (128 * p + i.val) / 128 * 128; omega
  · exact Fin.ext (by show i.val = (128 * p + i.val) % 128; omega)

/-- and so does the piece of the lanes after the heads. -/
theorem rest_piece (n k : Nat) (hn : 128 * n ≤ 1536) (s : EReal) (v : S1024x1536.Idx → EReal) (x : S3x1024x128.Idx → EReal) (hk : 128 * n + k = 1536) (o : Nat)
    (ho : o = 128 * n) (h : ∀ a, (![0, o] : Fin 2 → Nat) a + (![1024, k] : Fin 2 → Nat) a ≤ S1024x1536.size a) (P : Shape.Idx ⟨2, ![1024, k]⟩ → EReal)
    (hP : ∀ (r : Fin 1024) (i : Fin k), P (ix2 r i) = v (ix2 r ⟨128 * n + i.val, by omega⟩))
    (j : (Rect.unit (s := S1024x1536) ![0, o] ![1024, k] h).shape.Idx) :
    P j = tileOf n hn s v x ((Rect.unit (s := S1024x1536) ![0, o] ![1024, k] h).emb j) := by
  subst ho
  obtain ⟨r, i, rfl⟩ := two k j
  rw [place (128 * n) k h r i (by omega)]
  refine (hP r i).trans ?_
  show _ = tileRow n hn s v x r ⟨128 * n + i.val, by omega⟩
  unfold tileRow
  rw [dif_neg (show ¬ 128 * n + i.val < 128 * n by omega)]

/-- One of a rope's three tables out of the stack. -/
def table (x : Vec Ideal S3x1024x128 .f32) (p : Nat) (h : ∀ a, (![p, 0, 0] : Fin 3 → Nat) a + S1x1024x128.size a ≤ S3x1024x128.size a) : Vec Ideal S1x1024x128 .f32 :=
  View.ld x (Rect.unit (s := S3x1024x128) ![p, 0, 0] S1x1024x128.size h)

section Pieces
variable (xs : Vec Ideal S1024x2048 .bf16) (w : Vec Ideal S1x1536x2048 .bf16) (v : FVec Ideal S1024x1536 .f32) (x : Vec Ideal S3x1024x128 .f32) (r : Fin 1024) (i : Fin 128)

theorem head_0 : k0_pay11 xs w (table x 0 inb_S3x1024x128_S1x1024x128_0_0_0) (table x 1 inb_S3x1024x128_S1x1024x128_1_0_0) (table x 2 inb_S3x1024x128_S1x1024x128_2_0_0) (ix2 r i) = turned (k0_pay10 xs w) x (128 * 0) (by decide) r i * queryScale := by
  unfold k0_pay11 table
  pointwise
  unfold turned turn
  simp only [Nat.mul_zero, Nat.zero_add]

theorem head_1 : k0_pay14 (k0_pay12 xs w) (k0_pay13 xs w (table x 0 inb_S3x1024x128_S1x1024x128_0_0_0) (table x 1 inb_S3x1024x128_S1x1024x128_1_0_0)) 32#32 (table x 2 inb_S3x1024x128_S1x1024x128_2_0_0) (ix2 r i) = turned (k0_pay10 xs w) x (128 * 1) (by decide) r i * queryScale := by
  unfold k0_pay14 k0_pay13 k0_pay12 table
  pointwise
  unfold turned turn
  rfl

theorem head_2 : k0_pay15 v (table x 0 inb_S3x1024x128_S1x1024x128_0_0_0) (table x 1 inb_S3x1024x128_S1x1024x128_1_0_0) (table x 2 inb_S3x1024x128_S1x1024x128_2_0_0) (ix2 r i) = turned v x (128 * 2) (by decide) r i * queryScale := by
  unfold k0_pay15 table
  pointwise
  unfold turned turn
  rfl

theorem head_3 : k0_pay19 (k0_pay16 v) (k0_pay17 v (table x 0 inb_S3x1024x128_S1x1024x128_0_0_0)) (k0_pay18 v) (table x 1 inb_S3x1024x128_S1x1024x128_1_0_0) (table x 2 inb_S3x1024x128_S1x1024x128_2_0_0) (ix2 r i) = turned v x (128 * 3) (by decide) r i * queryScale := by
  unfold k0_pay19 k0_pay17 k0_pay18 k0_pay16 table
  pointwise
  unfold turned turn
  rfl

theorem head_4 : k0_pay20 v (table x 0 inb_S3x1024x128_S1x1024x128_0_0_0) (table x 1 inb_S3x1024x128_S1x1024x128_1_0_0) (table x 2 inb_S3x1024x128_S1x1024x128_2_0_0) (ix2 r i) = turned v x (128 * 4) (by decide) r i * queryScale := by
  unfold k0_pay20 table
  pointwise
  unfold turned turn
  rfl

theorem head_5 : k0_pay22 (k0_pay21 v) (table x 0 inb_S3x1024x128_S1x1024x128_0_0_0) (table x 1 inb_S3x1024x128_S1x1024x128_1_0_0) (table x 2 inb_S3x1024x128_S1x1024x128_2_0_0) (ix2 r i) = turned v x (128 * 5) (by decide) r i * queryScale := by
  unfold k0_pay22 k0_pay21 table
  pointwise
  unfold turned turn
  rfl

theorem head_6 : k0_pay23 v (table x 0 inb_S3x1024x128_S1x1024x128_0_0_0) (table x 1 inb_S3x1024x128_S1x1024x128_1_0_0) (table x 2 inb_S3x1024x128_S1x1024x128_2_0_0) (ix2 r i) = turned v x (128 * 6) (by decide) r i * queryScale := by
  unfold k0_pay23 table
  pointwise
  unfold turned turn
  rfl

theorem head_7 : k0_pay2 v (table x 0 inb_S3x1024x128_S1x1024x128_0_0_0) (table x 1 inb_S3x1024x128_S1x1024x128_1_0_0) (table x 2 inb_S3x1024x128_S1x1024x128_2_0_0) (ix2 r i) = turned v x (128 * 7) (by decide) r i * queryScale := by
  unfold k0_pay2 table
  pointwise
  unfold turned turn
  rfl

theorem head_k0 : k0_pay25 xs w (table x 0 inb_S3x1024x128_S1x1024x128_0_0_0) (table x 1 inb_S3x1024x128_S1x1024x128_1_0_0) (table x 2 inb_S3x1024x128_S1x1024x128_2_0_0) (ix2 r i) = turned (k0_pay10 xs w) x (128 * 0) (by decide) r i * 1 := by
  unfold k0_pay25 table
  rw [show k0_pay24 xs w = k0_pay10 xs w from rfl]
  pointwise
  unfold turned turn
  simp only [Nat.mul_zero, Nat.zero_add]

theorem head_k1 : k0_pay5 (k0_pay26 xs w) (k0_pay27 xs w (table x 0 inb_S3x1024x128_S1x1024x128_0_0_0) (table x 1 inb_S3x1024x128_S1x1024x128_1_0_0)) 32#32 (table x 2 inb_S3x1024x128_S1x1024x128_2_0_0) (ix2 r i) = turned (k0_pay10 xs w) x (128 * 1) (by decide) r i * 1 := by
  unfold k0_pay5 k0_pay27 k0_pay26 table
  rw [show k0_pay24 xs w = k0_pay10 xs w from rfl]
  pointwise
  unfold turned turn
  rfl

theorem rest_512 (k : Fin 512) : k0_pay3 v (ix2 r k) = v (ix2 r ⟨128 * 8 + k.val, by omega⟩) := by
  unfold k0_pay3; pointwise
theorem rest_1280 (k : Fin 1280) : k0_pay6 v (ix2 r k) = v (ix2 r ⟨128 * 2 + k.val, by omega⟩) := by
  unfold k0_pay6; pointwise

/-- The pieces of the first tile. -/
def firstPieces : List (View.Piece (Elt Ideal) S1024x1536 .bf16) :=
  [⟨Rect.unit (s := S1024x1536) ![0, 1024] S1024x512.size inb_S1024x1536_S1024x512_0_1024, k0_pay3 (k0_pay10 xs w)⟩,
      ⟨Rect.unit (s := S1024x1536) ![0, 896] S1024x128.size inb_S1024x1536_S1024x128_0_896, k0_pay2 (k0_pay10 xs w) (View.ld x (Rect.unit (s := S3x1024x128) ![0, 0, 0] S1x1024x128.size inb_S3x1024x128_S1x1024x128_0_0_0)) (View.ld x (Rect.unit (s := S3x1024x128) ![1, 0, 0] S1x1024x128.size inb_S3x1024x128_S1x1024x128_1_0_0)) (View.ld x (Rect.unit (s := S3x1024x128) ![2, 0, 0] S1x1024x128.size inb_S3x1024x128_S1x1024x128_2_0_0))⟩,
      ⟨Rect.unit (s := S1024x1536) ![0, 768] S1024x128.size inb_S1024x1536_S1024x128_0_768, k0_pay23 (k0_pay10 xs w) (View.ld x (Rect.unit (s := S3x1024x128) ![0, 0, 0] S1x1024x128.size inb_S3x1024x128_S1x1024x128_0_0_0)) (View.ld x (Rect.unit (s := S3x1024x128) ![1, 0, 0] S1x1024x128.size inb_S3x1024x128_S1x1024x128_1_0_0)) (View.ld x (Rect.unit (s := S3x1024x128) ![2, 0, 0] S1x1024x128.size inb_S3x1024x128_S1x1024x128_2_0_0))⟩,
      ⟨Rect.unit (s := S1024x1536) ![0, 640] S1024x128.size inb_S1024x1536_S1024x128_0_640, k0_pay22 (k0_pay21 (k0_pay10 xs w)) (View.ld x (Rect.unit (s := S3x1024x128) ![0, 0, 0] S1x1024x128.size inb_S3x1024x128_S1x1024x128_0_0_0)) (View.ld x (Rect.unit (s := S3x1024x128) ![1, 0, 0] S1x1024x128.size inb_S3x1024x128_S1x1024x128_1_0_0)) (View.ld x (Rect.unit (s := S3x1024x128) ![2, 0, 0] S1x1024x128.size inb_S3x1024x128_S1x1024x128_2_0_0))⟩,
      ⟨Rect.unit (s := S1024x1536) ![0, 512] S1024x128.size inb_S1024x1536_S1024x128_0_512, k0_pay20 (k0_pay10 xs w) (View.ld x (Rect.unit (s := S3x1024x128) ![0, 0, 0] S1x1024x128.size inb_S3x1024x128_S1x1024x128_0_0_0)) (View.ld x (Rect.unit (s := S3x1024x128) ![1, 0, 0] S1x1024x128.size inb_S3x1024x128_S1x1024x128_1_0_0)) (View.ld x (Rect.unit (s := S3x1024x128) ![2, 0, 0] S1x1024x128.size inb_S3x1024x128_S1x1024x128_2_0_0))⟩,
      ⟨Rect.unit (s := S1024x1536) ![0, 384] S1024x128.size inb_S1024x1536_S1024x128_0_384, k0_pay19 (k0_pay16 (k0_pay10 xs w)) (k0_pay17 (k0_pay10 xs w) (View.ld x (Rect.unit (s := S3x1024x128) ![0, 0, 0] S1x1024x128.size inb_S3x1024x128_S1x1024x128_0_0_0))) (k0_pay18 (k0_pay10 xs w)) (View.ld x (Rect.unit (s := S3x1024x128) ![1, 0, 0] S1x1024x128.size inb_S3x1024x128_S1x1024x128_1_0_0)) (View.ld x (Rect.unit (s := S3x1024x128) ![2, 0, 0] S1x1024x128.size inb_S3x1024x128_S1x1024x128_2_0_0))⟩,
      ⟨Rect.unit (s := S1024x1536) ![0, 256] S1024x128.size inb_S1024x1536_S1024x128_0_256, k0_pay15 (k0_pay10 xs w) (View.ld x (Rect.unit (s := S3x1024x128) ![0, 0, 0] S1x1024x128.size inb_S3x1024x128_S1x1024x128_0_0_0)) (View.ld x (Rect.unit (s := S3x1024x128) ![1, 0, 0] S1x1024x128.size inb_S3x1024x128_S1x1024x128_1_0_0)) (View.ld x (Rect.unit (s := S3x1024x128) ![2, 0, 0] S1x1024x128.size inb_S3x1024x128_S1x1024x128_2_0_0))⟩,
      ⟨Rect.unit (s := S1024x1536) ![0, 128] S1024x128.size inb_S1024x1536_S1024x128_0_128, k0_pay14 (k0_pay12 xs w) (k0_pay13 xs w (View.ld x (Rect.unit (s := S3x1024x128) ![0, 0, 0] S1x1024x128.size inb_S3x1024x128_S1x1024x128_0_0_0)) (View.ld x (Rect.unit (s := S3x1024x128) ![1, 0, 0] S1x1024x128.size inb_S3x1024x128_S1x1024x128_1_0_0))) 32#32 (View.ld x (Rect.unit (s := S3x1024x128) ![2, 0, 0] S1x1024x128.size inb_S3x1024x128_S1x1024x128_2_0_0))⟩,
      ⟨Rect.unit (s := S1024x1536) ![0, 0] S1024x128.size inb_S1024x1536_S1024x128_0_0, k0_pay11 xs w (View.ld x (Rect.unit (s := S3x1024x128) ![0, 0, 0] S1x1024x128.size inb_S3x1024x128_S1x1024x128_0_0_0)) (View.ld x (Rect.unit (s := S3x1024x128) ![1, 0, 0] S1x1024x128.size inb_S3x1024x128_S1x1024x128_1_0_0)) (View.ld x (Rect.unit (s := S3x1024x128) ![2, 0, 0] S1x1024x128.size inb_S3x1024x128_S1x1024x128_2_0_0))⟩]
theorem firstPieces_of : View.PiecesOf (tileOf 8 (by decide) queryScale (k0_pay10 xs w) x) (firstPieces xs w x) :=
  ⟨rest_piece 8 512 _ _ _ _ rfl 1024 rfl inb_S1024x1536_S1024x512_0_1024 _ fun r i => rest_512 _ r i,
    head_piece 8 _ _ _ _ 7 (by decide) 896 rfl inb_S1024x1536_S1024x128_0_896 _ fun r i => head_7 _ x r i,
    head_piece 8 _ _ _ _ 6 (by decide) 768 rfl inb_S1024x1536_S1024x128_0_768 _ fun r i => head_6 _ x r i,
    head_piece 8 _ _ _ _ 5 (by decide) 640 rfl inb_S1024x1536_S1024x128_0_640 _ fun r i => head_5 _ x r i,
    head_piece 8 _ _ _ _ 4 (by decide) 512 rfl inb_S1024x1536_S1024x128_0_512 _ fun r i => head_4 _ x r i,
    head_piece 8 _ _ _ _ 3 (by decide) 384 rfl inb_S1024x1536_S1024x128_0_384 _ fun r i => head_3 _ x r i,
    head_piece 8 _ _ _ _ 2 (by decide) 256 rfl inb_S1024x1536_S1024x128_0_256 _ fun r i => head_2 _ x r i,
    head_piece 8 _ _ _ _ 1 (by decide) 128 rfl inb_S1024x1536_S1024x128_0_128 _ fun r i => head_1 xs w x r i,
    head_piece 8 _ _ _ _ 0 (by decide) 0 rfl inb_S1024x1536_S1024x128_0_0 _ fun r i => head_0 xs w x r i, trivial⟩

/-- The pieces of the last tile. -/
def lastPieces : List (View.Piece (Elt Ideal) S1024x1536 .bf16) :=
  [⟨Rect.unit (s := S1024x1536) ![0, 256] S1024x1280.size inb_S1024x1536_S1024x1280_0_256, k0_pay6 (k0_pay24 xs w)⟩,
      ⟨Rect.unit (s := S1024x1536) ![0, 128] S1024x128.size inb_S1024x1536_S1024x128_0_128, k0_pay5 (k0_pay26 xs w) (k0_pay27 xs w (View.ld x (Rect.unit (s := S3x1024x128) ![0, 0, 0] S1x1024x128.size inb_S3x1024x128_S1x1024x128_0_0_0)) (View.ld x (Rect.unit (s := S3x1024x128) ![1, 0, 0] S1x1024x128.size inb_S3x1024x128_S1x1024x128_1_0_0))) 32#32 (View.ld x (Rect.unit (s := S3x1024x128) ![2, 0, 0] S1x1024x128.size inb_S3x1024x128_S1x1024x128_2_0_0))⟩,
      ⟨Rect.unit (s := S1024x1536) ![0, 0] S1024x128.size inb_S1024x1536_S1024x128_0_0, k0_pay25 xs w (View.ld x (Rect.unit (s := S3x1024x128) ![0, 0, 0] S1x1024x128.size inb_S3x1024x128_S1x1024x128_0_0_0)) (View.ld x (Rect.unit (s := S3x1024x128) ![1, 0, 0] S1x1024x128.size inb_S3x1024x128_S1x1024x128_1_0_0)) (View.ld x (Rect.unit (s := S3x1024x128) ![2, 0, 0] S1x1024x128.size inb_S3x1024x128_S1x1024x128_2_0_0))⟩]
theorem lastPieces_of : View.PiecesOf (tileOf 2 (by decide) 1 (k0_pay10 xs w) x) (lastPieces xs w x) :=
  ⟨rest_piece 2 1280 _ _ _ _ rfl 256 rfl inb_S1024x1536_S1024x1280_0_256 _ fun r i => rest_1280 (k0_pay10 xs w) r i,
    head_piece 2 _ _ _ _ 1 (by decide) 128 rfl inb_S1024x1536_S1024x128_0_128 _ fun r i => head_k1 xs w x r i,
    head_piece 2 _ _ _ _ 0 (by decide) 0 rfl inb_S1024x1536_S1024x128_0_0 _ fun r i => head_k0 xs w x r i, trivial⟩

end Pieces

variable (m : (ℓ : Loc nD τ sig) → Buf (Elt Ideal) ℓ)

set_option maxHeartbeats 400000 in
/-- The normalised rows which the first tile leaves. -/
theorem rowsFirst_eq (c : Dev nD) (t : Fin cfg0.N) (h : IsFirst t) :
    rowsFirst m c t h = k0_pay8 (iblk m c 0 t) (iblk m c 1 t) (iblk m c 2 t) (iblk m c 3 t) := by
  unfold rowsFirst
  refine (View.read_writes_eq_canon _ _ _ (fun y => tiledRows m c t h y)).trans ?_
  unfold atFirst runFirst
  dsimp only
  sl_unfold_words
  rw [View.canon_unit_zero off_zero2]
  simp only [View.readAt_eq_ld, (hs_0 t).read_unread, (hs_1 t).read_unread, (hs_2 t).read_unread, (hs_3 t).read_unread,
    View.ld_unit_zero (S := S1024x2048) off_zero2, View.ld_unit_zero (S := S1x2048) off_zero2, View.ld_unit_zero (S := S1x1x2048) off_zero3]

set_option maxHeartbeats 400000 in
/-- The rope key which the first tile leaves. -/
theorem keyFirst_eq (c : Dev nD) (t : Fin cfg0.N) (h : IsFirst t) :
    keyFirst m c t h = k0_pay1 (k0_pay9 (iblk m c 0 t) (iblk m c 1 t) (iblk m c 2 t) (iblk m c 3 t) (iblk m c 5 t))
      (table (iblk m c 7 t) 0 inb_S3x1024x128_S1x1024x128_0_0_0) (table (iblk m c 7 t) 1 inb_S3x1024x128_S1x1024x128_1_0_0)
      (table (iblk m c 7 t) 2 inb_S3x1024x128_S1x1024x128_2_0_0) := by
  unfold keyFirst
  refine (View.read_writes_eq_canon _ _ _ (fun y => tiledKey m c t h y)).trans ?_
  unfold atFirst runFirst
  dsimp only
  sl_unfold_words
  rw [View.canon_unit_zero off_zero2]
  simp only [View.readAt_eq_ld, (hs_0 t).read_unread, (hs_1 t).read_unread, (hs_2 t).read_unread, (hs_3 t).read_unread, (hs_5 t).read_unread, (hs_7 t).read_unread,
    View.ld_unit_zero (S := S1024x2048) off_zero2, View.ld_unit_zero (S := S1x2048) off_zero2, View.ld_unit_zero (S := S1x1x2048) off_zero3, View.ld_unit_zero (S := S1x64x2048) off_zero3]
  rfl

set_option maxHeartbeats 400000 in
/-- The tile in between, from the rows `xs`. -/
theorem tileMid_eq (c : Dev nD) (t : Fin cfg0.N) (h : IsMid t) (xs : Vec Ideal S1024x2048 .bf16) :
    tileMid m c t h xs = k0_pay10 xs (iblk m c 4 t) := by
  unfold tileMid
  refine (View.read_writes_eq_canon _ _ _ (fun y => tiledMid m c t h xs y)).trans ?_
  unfold atMid runMid
  dsimp only
  sl_unfold_words
  rw [View.canon_unit_zero off_zero2]
  simp only [View.readAt_eq_ld, (hs_4 t).read_unread, (Memref.isWhole_whole cc0_scratch0).read_unread,
    View.ld_unit_zero (S := S1024x2048) off_zero2, View.ld_unit_zero (S := S1x1536x2048) off_zero3]
  rfl

set_option maxHeartbeats 400000 in
/-- The last tile, from the rows `xs`. -/
theorem tileLast_eq (c : Dev nD) (t : Fin cfg0.N) (h : IsLast t) (xs : Vec Ideal S1024x2048 .bf16) :
    tileLast m c t h xs = tileOf 2 (by decide) 1 (k0_pay10 xs (iblk m c 4 t)) (iblk m c 6 t) := by
  unfold tileLast
  funext y
  rw [View.read_writes_eq_canon _ _ _ (fun y => tiledLast m c t h xs y)]
  rw [← List.append_nil (atLast m c t h xs).1]
  refine View.canon_append_of_piecesOf _ [] _ ?_ y (tiledLast m c t h xs y)
  unfold atLast runLast
  dsimp only
  sl_unfold_words
  simp only [View.readAt_eq_ld, (hs_4 t).read_unread, (hs_6 t).read_unread, (Memref.isWhole_whole cc0_scratch0).read_unread,
    View.ld_unit_zero (S := S1024x2048) off_zero2, View.ld_unit_zero (S := S1x1536x2048) off_zero3]
  exact lastPieces_of xs (iblk m c 4 t) (iblk m c 6 t)

set_option maxHeartbeats 400000 in
/-- The first tile, from the rows it leaves. -/
theorem tileFirst_eq (c : Dev nD) (t : Fin cfg0.N) (h : IsFirst t) :
    tileFirst m c t h = tileOf 8 (by decide) queryScale (k0_pay10 (rowsFirst m c t h) (iblk m c 4 t)) (iblk m c 6 t) := by
  unfold tileFirst
  funext y
  rw [View.read_writes_eq_canon _ _ _ (fun y => tiledFirst m c t h y)]
  rw [← List.append_nil (atFirst m c t h).1, rowsFirst_eq]
  refine View.canon_append_of_piecesOf _ [] _ ?_ y (tiledFirst m c t h y)
  unfold atFirst runFirst
  dsimp only
  sl_unfold_words
  simp only [View.readAt_eq_ld, (hs_0 t).read_unread, (hs_1 t).read_unread, (hs_2 t).read_unread, (hs_3 t).read_unread, (hs_4 t).read_unread, (hs_6 t).read_unread,
    View.ld_unit_zero (S := S1024x2048) off_zero2, View.ld_unit_zero (S := S1x2048) off_zero2, View.ld_unit_zero (S := S1x1x2048) off_zero3, View.ld_unit_zero (S := S1x1536x2048) off_zero3,
    View.readCov_unit_zero (S := S1024x2048) _ off_zero2]
  exact firstPieces_of (k0_pay8 (iblk m c 0 t) (iblk m c 1 t) (iblk m c 2 t) (iblk m c 3 t)) (iblk m c 4 t) (iblk m c 6 t)

end Cert.Proof.Proj

end
-- ==== Proof.ProjRow.lean ====
/- One row of the input projection over the ideal values: the normalised, modulated row, its products with the weights, and
   the rope over the lanes of a head, from the angles of the row's place; and the kernel's payloads as such rows. -/
module

public import proofs.«01_k».proof.Proof.ProjCase
public import proofs.«01_k».proof.Proof.MergeRow

@[expose] public section

noncomputable section

namespace Cert.Proof.Proj

open Cert.InProjIdeal Cert.InProjIdeal.Gen Idealize.ShloMosaic Idealize.ShloMosaic.TcCoe Idealize.SL.Sem
open Idealize.ShloMosaic.Pointwise Cert.Proof.Join

/-- A lane of 128 by the part of `n` lanes it lies in: four parts, and `e` behind them. -/
def parts (n : Nat) (f g h k : Fin n → EReal) (e : EReal) (l : Fin 128) : EReal :=
  if h0 : l.val < n then f ⟨l.val, h0⟩
  else if h1 : l.val - n < n then g ⟨l.val - n, h1⟩
  else if h2 : l.val - n - n < n then h ⟨l.val - n - n, h2⟩
  else if h3 : l.val - n - n - n < n then k ⟨l.val - n - n - n, h3⟩
  else e

/-- The rope over two axes of the first `4 n` of 128 lanes: the pairs of the first `2 n` lanes, `n` apart, are turned by the
    angles `a`, those of the next by the angles `b`. -/
def rope (n : Nat) (u : Fin 128 → EReal) (a b : Fin n → EReal) (l : Fin 128) : EReal :=
  if h0 : l.val < n then u l * Ideal.cos (a ⟨l.val, h0⟩) - u ⟨(l.val + n) % 128, Nat.mod_lt _ (by decide)⟩ * Ideal.sin (a ⟨l.val, h0⟩)
  else if h1 : l.val - n < n then
    u ⟨l.val - n, by omega⟩ * Ideal.sin (a ⟨l.val - n, h1⟩) + u l * Ideal.cos (a ⟨l.val - n, h1⟩)
  else if h2 : l.val - n - n < n then
    u l * Ideal.cos (b ⟨l.val - n - n, h2⟩) - u ⟨(l.val + n) % 128, Nat.mod_lt _ (by decide)⟩ * Ideal.sin (b ⟨l.val - n - n, h2⟩)
  else if h3 : l.val - n - n - n < n then
    u ⟨l.val - n, by omega⟩ * Ideal.sin (b ⟨l.val - n - n - n, h3⟩) + u l * Ideal.cos (b ⟨l.val - n - n - n, h3⟩)
  else 0

/-- The rope by its three tables is the rope by its angles. -/
theorem turn_parts (n : Nat) (h0 : 0 < n) (hn : 4 * n ≤ 128) (u : Fin 128 → EReal) (a b : Fin n → EReal)
    (hu : ∀ l : Fin 128, 4 * n ≤ l.val → u l = 0) (l : Fin 128) :
    turn n u (parts n (fun k => Ideal.cos (a k)) (fun k => Ideal.cos (a k)) (fun k => Ideal.cos (b k)) (fun k => Ideal.cos (b k)) 1)
      (parts n (fun k => -Ideal.sin (a k)) (fun _ => 0) (fun k => -Ideal.sin (b k)) (fun _ => 0) 0)
      (parts n (fun _ => 0) (fun k => Ideal.sin (a k)) (fun _ => 0) (fun k => Ideal.sin (b k)) 0) l = rope n u a b l := by
  have up : (⟨(l.val + 128 - (128 - n) % 128) % 128, Nat.mod_lt _ (by decide)⟩ : Fin 128)
      = ⟨(l.val + n) % 128, Nat.mod_lt _ (by decide)⟩ := Fin.ext (by show (l.val + 128 - (128 - n) % 128) % 128 = (l.val + n) % 128; omega)
  have down : ∀ h : n ≤ l.val, (⟨(l.val + 128 - n % 128) % 128, Nat.mod_lt _ (by decide)⟩ : Fin 128) = ⟨l.val - n, by omega⟩ :=
    fun h => Fin.ext (by show (l.val + 128 - n % 128) % 128 = l.val - n; omega)
  unfold turn parts rope
  rw [up]
  by_cases c0 : l.val < n
  · simp only [dif_pos c0, mul_zero, add_zero, mul_neg, sub_eq_add_neg]
  · rw [down (by omega)]
    by_cases c1 : l.val - n < n
    · simp only [dif_neg c0, dif_pos c1, mul_zero, add_zero]; exact add_comm _ _
    · by_cases c2 : l.val - n - n < n
      · simp only [dif_neg c0, dif_neg c1, dif_pos c2, mul_zero, add_zero, mul_neg, sub_eq_add_neg]
      · by_cases c3 : l.val - n - n - n < n
        · simp only [dif_neg c0, dif_neg c1, dif_neg c2, dif_pos c3, mul_zero, add_zero]; exact add_comm _ _
        · simp only [dif_neg c0, dif_neg c1, dif_neg c2, dif_neg c3, mul_zero, add_zero, hu l (by omega), zero_mul]

/-- A row's normed element, modulated. -/
def modulated (x g sc sh : Fin 2048 → EReal) (k : Fin 2048) : EReal := rmsNorm x g k * (1 + sc k) + sh k

/-- The row's product with a row of weights. -/
def product (x g sc sh w : Fin 2048 → EReal) : EReal := ∑ k : Fin 2048, modulated x g sc sh k * w k

theorem rows_at (x : Vec Ideal S1024x2048 .f32) (g : Vec Ideal S1x2048 .f32) (sc sh : Vec Ideal S1x1x2048 .f32) (r : Fin 1024) (k : Fin 2048) :
    k0_pay7 x g sc sh (ix2 r k)
      = modulated (fun l => x (ix2 r l)) (fun l => g (ix2 0 l)) (fun l => sc (ix3 0 0 l)) (fun l => sh (ix3 0 0 l)) k := by
  unfold k0_pay7 modulated rmsNorm
  pointwise

theorem product_at (xs : Vec Ideal S1024x2048 .bf16) (w : Vec Ideal S1x1536x2048 .bf16) (r : Fin 1024) (l : Fin 1536) :
    k0_pay10 xs w (ix2 r l) = ∑ k : Fin 2048, xs (ix2 r k) * w (ix3 0 l k) := by
  unfold k0_pay10
  pointwise

/-- A rope key's lanes before the rope: 64 products, and zeros. -/
def keyLane (u : Fin 64 → EReal) (l : Fin 128) : EReal := if h : l.val < 64 then u ⟨l.val, h⟩ else 0

theorem key_at (x : Vec Ideal S1024x2048 .f32) (g : Vec Ideal S1x2048 .f32) (sc sh : Vec Ideal S1x1x2048 .f32) (w : Vec Ideal S1x64x2048 .f32)
    (r : Fin 1024) (l : Fin 128) : k0_pay9 x g sc sh w (ix2 r l)
      = keyLane (fun l => product (fun l => x (ix2 r l)) (fun l => g (ix2 0 l)) (fun l => sc (ix3 0 0 l)) (fun l => sh (ix3 0 0 l)) (fun k => w (ix3 0 l k))) l := by
  unfold k0_pay9 keyLane product
  pointwise [rows_at]

theorem turned_key (v : FVec Ideal S1024x128 .f32) (x : Vec Ideal S3x1024x128 .f32) (r : Fin 1024) (l : Fin 128) :
    k0_pay1 v (table x 0 inb_S3x1024x128_S1x1024x128_0_0_0) (table x 1 inb_S3x1024x128_S1x1024x128_1_0_0)
      (table x 2 inb_S3x1024x128_S1x1024x128_2_0_0) (ix2 r l)
      = turn 16 (fun i => v (ix2 r i)) (fun i => x (ix3 0 r i)) (fun i => x (ix3 1 r i)) (fun i => x (ix3 2 r i)) l := by
  unfold k0_pay1 table turn
  pointwise

end Cert.Proof.Proj

end
-- ==== Proof.ProjHost.lean ====
/- The rope tables which the host hands the input projection over the ideal values, element by element: cosines and sines of a
   place's row and column times the frequencies. -/
module

public import proofs.«01_k».proof.Proof.ProjRow
public import Idealize.ShloMosaic.Lib.StableHlo.Run

@[expose] public section

noncomputable section

namespace Cert.Proof.Proj

open Cert.InProjIdeal Cert.InProjIdeal.Gen Idealize.ShloMosaic Idealize.ShloMosaic.TcCoe Idealize.SL.Sem
open Idealize.ShloMosaic.Pointwise Idealize.ShloMosaic.StableHlo

/-- The numbers below 64, and a place's row and column on the grid of 64 by 64. -/
def steps : FVec Ideal S64 .f32 := sitofp .f32 (iotaInDim S64 32 0)
def rowOf : FVec Ideal S4096 .f32 := shapeCast S4096
  (broadcastInDim S64x64 ![0, 1] bcast_S64x1_S64x64_0_1 (broadcastInDim S64x1 ![0] bcast_S64_S64x1_0 steps)) shapeCasts_S64x64_S4096
def colOf : FVec Ideal S4096 .f32 := shapeCast S4096
  (broadcastInDim S64x64 ![0, 1] bcast_S1x64_S64x64_0_1 (broadcastInDim S1x64 ![1] bcast_S64_S1x64_1 steps)) shapeCasts_S64x64_S4096

/-- A place on the grid, flat. -/
theorem flat_at (x : FVec Ideal S64x64 .f32) (N : Fin 4096) : shapeCast S4096 x shapeCasts_S64x64_S4096 (ix1 N)
    = x (ix2 (⟨N.val / 64, by omega⟩ : Fin 64) (⟨N.val % 64, by omega⟩ : Fin 64)) := by
  refine shapeCast_apply _ _ _ _ ?_
  rw [Shape.rowMajor_val_one, Shape.rowMajor_val_two]
  show N.val / 64 * 64 + N.val % 64 = N.val
  omega

theorem rowOf_at (N : Fin 4096) : rowOf (ix1 N) = steps (ix1 (⟨N.val / 64, by omega⟩ : Fin 64)) := by
  unfold rowOf; rw [flat_at]; pointwise
theorem colOf_at (N : Fin 4096) : colOf (ix1 N) = steps (ix1 (⟨N.val % 64, by omega⟩ : Fin 64)) := by
  unfold colOf; rw [flat_at]; pointwise

/-- The rope's frequencies of 32 lanes, and the angles of the places `p`. -/
def freq32 : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))
def angles32 (p : FVec Ideal S4096 .f32) : FVec Ideal S4096x32 .f32 :=
  mulf (broadcastInDim S4096x32 ![0, 1] bcast_S4096x1_S4096x32_0_1 (broadcastInDim S4096x1 ![0] bcast_S4096_S4096x1_0 p))
    (broadcastInDim S4096x32 ![0, 1] bcast_S1x32_S4096x32_0_1 (broadcastInDim S1x32 ![1] bcast_S32_S1x32_1 freq32))
theorem angles32_at (p : FVec Ideal S4096 .f32) (N : Fin 4096) (k : Fin 32) : angles32 p (ix2 N k) = p (ix1 N) * freq32 (ix1 k) := by
  unfold angles32; pointwise
def none32 : FVec Ideal S4096x32 .f32 := broadcastInDim S4096x32 ![] bcast_S_S4096x32 (constant S_ .f32 0x00000000#32)

/-- The three tables of the rope over 128 lanes, stacked, from the angles `a` and `b`. -/
def tables32 (a b : FVec Ideal S4096x32 .f32) : FVec Ideal S3x4096x128 .f32 :=
  concatenate S3x4096x128 0
    [⟨S1x4096x128, broadcastInDim S1x4096x128 ![1, 2] bcast_S4096x128_S1x4096x128_1_2
      (concatenate S4096x128 1 [⟨S4096x32, Host.cos a⟩, ⟨S4096x32, Host.cos a⟩, ⟨S4096x32, Host.cos b⟩, ⟨S4096x32, Host.cos b⟩] concatenates_S4096x32_S4096x32_S4096x32_S4096x32_S4096x128_d1)⟩,
     ⟨S1x4096x128, broadcastInDim S1x4096x128 ![1, 2] bcast_S4096x128_S1x4096x128_1_2
      (concatenate S4096x128 1 [⟨S4096x32, Host.negf (Host.sin a)⟩, ⟨S4096x32, none32⟩, ⟨S4096x32, Host.negf (Host.sin b)⟩, ⟨S4096x32, none32⟩] concatenates_S4096x32_S4096x32_S4096x32_S4096x32_S4096x128_d1)⟩,
     ⟨S1x4096x128, broadcastInDim S1x4096x128 ![1, 2] bcast_S4096x128_S1x4096x128_1_2
      (concatenate S4096x128 1 [⟨S4096x32, none32⟩, ⟨S4096x32, Host.sin a⟩, ⟨S4096x32, none32⟩, ⟨S4096x32, Host.sin b⟩] concatenates_S4096x32_S4096x32_S4096x32_S4096x32_S4096x128_d1)⟩]
    concatenates_S1x4096x128_S1x4096x128_S1x4096x128_S3x4096x128_d0

theorem tables32_0 (a b : FVec Ideal S4096x32 .f32) (N : Fin 4096) (l : Fin 128) : tables32 a b (ix3 0 N l)
    = parts 32 (fun k => Ideal.cos (a (ix2 N k))) (fun k => Ideal.cos (a (ix2 N k))) (fun k => Ideal.cos (b (ix2 N k))) (fun k => Ideal.cos (b (ix2 N k))) 1 l := by
  unfold tables32 none32 parts
  pointwise
  simp only [dif_pos (show l.val - 32 - 32 - 32 < 32 by omega)]

theorem tables32_1 (a b : FVec Ideal S4096x32 .f32) (N : Fin 4096) (l : Fin 128) : tables32 a b (ix3 1 N l)
    = parts 32 (fun k => -Ideal.sin (a (ix2 N k))) (fun _ => 0) (fun k => -Ideal.sin (b (ix2 N k))) (fun _ => 0) 0 l := by
  unfold tables32 none32 parts
  pointwise
  simp only [dif_pos (show l.val - 32 - 32 - 32 < 32 by omega)]

theorem tables32_2 (a b : FVec Ideal S4096x32 .f32) (N : Fin 4096) (l : Fin 128) : tables32 a b (ix3 2 N l)
    = parts 32 (fun _ => 0) (fun k => Ideal.sin (a (ix2 N k))) (fun _ => 0) (fun k => Ideal.sin (b (ix2 N k))) 0 l := by
  unfold tables32 none32 parts
  pointwise
  simp only [dif_pos (show l.val - 32 - 32 - 32 < 32 by omega)]

/-- The rope's frequencies of 16 lanes, and the angles of the places `p`. -/
def freq16 : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))
def angles16 (p : FVec Ideal S4096 .f32) : FVec Ideal S4096x16 .f32 :=
  mulf (broadcastInDim S4096x16 ![0, 1] bcast_S4096x1_S4096x16_0_1 (broadcastInDim S4096x1 ![0] bcast_S4096_S4096x1_0 p))
    (broadcastInDim S4096x16 ![0, 1] bcast_S1x16_S4096x16_0_1 (broadcastInDim S1x16 ![1] bcast_S16_S1x16_1 freq16))
theorem angles16_at (p : FVec Ideal S4096 .f32) (N : Fin 4096) (k : Fin 16) : angles16 p (ix2 N k) = p (ix1 N) * freq16 (ix1 k) := by
  unfold angles16; pointwise
def none16 : FVec Ideal S4096x16 .f32 := broadcastInDim S4096x16 ![] bcast_S_S4096x16 (constant S_ .f32 0x00000000#32)

/-- The three tables of the rope over 64 lanes, stacked, from the angles `a` and `b`. -/
def tables16 (a b : FVec Ideal S4096x16 .f32) : FVec Ideal S3x4096x128 .f32 :=
  concatenate S3x4096x128 0
    [⟨S1x4096x128, broadcastInDim S1x4096x128 ![1, 2] bcast_S4096x128_S1x4096x128_1_2
      (concatenate S4096x128 1 [⟨S4096x16, Host.cos a⟩, ⟨S4096x16, Host.cos a⟩, ⟨S4096x16, Host.cos b⟩, ⟨S4096x16, Host.cos b⟩, ⟨S4096x64, broadcastInDim S4096x64 ![] bcast_S_S4096x64 (constant S_ .f32 0x3F800000#32)⟩] concatenates_S4096x16_S4096x16_S4096x16_S4096x16_S4096x64_S4096x128_d1)⟩,
     ⟨S1x4096x128, broadcastInDim S1x4096x128 ![1, 2] bcast_S4096x128_S1x4096x128_1_2
      (concatenate S4096x128 1 [⟨S4096x16, Host.negf (Host.sin a)⟩, ⟨S4096x16, none16⟩, ⟨S4096x16, Host.negf (Host.sin b)⟩, ⟨S4096x16, none16⟩, ⟨S4096x64, broadcastInDim S4096x64 ![] bcast_S_S4096x64 (constant S_ .f32 0x00000000#32)⟩] concatenates_S4096x16_S4096x16_S4096x16_S4096x16_S4096x64_S4096x128_d1)⟩,
     ⟨S1x4096x128, broadcastInDim S1x4096x128 ![1, 2] bcast_S4096x128_S1x4096x128_1_2
      (concatenate S4096x128 1 [⟨S4096x16, none16⟩, ⟨S4096x16, Host.sin a⟩, ⟨S4096x16, none16⟩, ⟨S4096x16, Host.sin b⟩, ⟨S4096x64, broadcastInDim S4096x64 ![] bcast_S_S4096x64 (constant S_ .f32 0x00000000#32)⟩] concatenates_S4096x16_S4096x16_S4096x16_S4096x16_S4096x64_S4096x128_d1)⟩]
    concatenates_S1x4096x128_S1x4096x128_S1x4096x128_S3x4096x128_d0

theorem tables16_0 (a b : FVec Ideal S4096x16 .f32) (N : Fin 4096) (l : Fin 128) : tables16 a b (ix3 0 N l)
    = parts 16 (fun k => Ideal.cos (a (ix2 N k))) (fun k => Ideal.cos (a (ix2 N k))) (fun k => Ideal.cos (b (ix2 N k))) (fun k => Ideal.cos (b (ix2 N k))) 1 l := by
  unfold tables16 none16 parts
  pointwise

theorem tables16_1 (a b : FVec Ideal S4096x16 .f32) (N : Fin 4096) (l : Fin 128) : tables16 a b (ix3 1 N l)
    = parts 16 (fun k => -Ideal.sin (a (ix2 N k))) (fun _ => 0) (fun k => -Ideal.sin (b (ix2 N k))) (fun _ => 0) 0 l := by
  unfold tables16 none16 parts
  pointwise

theorem tables16_2 (a b : FVec Ideal S4096x16 .f32) (N : Fin 4096) (l : Fin 128) : tables16 a b (ix3 2 N l)
    = parts 16 (fun _ => 0) (fun k => Ideal.sin (a (ix2 N k))) (fun _ => 0) (fun k => Ideal.sin (b (ix2 N k))) 0 l := by
  unfold tables16 none16 parts
  pointwise

variable (m : (ℓ : Loc nD τ sig) → Buf (Elt Ideal) ℓ)

theorem table_32 (c : Dev nD) : (V m c main_v41 : FVec Ideal S3x4096x128 .f32) = tables32 (angles32 rowOf) (angles32 colOf) := by
  show after hostOps0 _ _ = _
  after_results
  rfl

theorem table_16 (c : Dev nD) : (V m c main_v85 : FVec Ideal S3x4096x128 .f32) = tables16 (angles16 rowOf) (angles16 colOf) := by
  show after hostOps0 _ _ = _
  after_results
  rfl

end Cert.Proof.Proj

end
-- ==== Proof.ProjArray.lean ====
/- The input projection's two result arrays over the ideal values, as functions of the arrays the kernel is given.

   Point `t` of the grid writes tile `t % 9` of row block `t / 9`; the rope key of a row block is written with its last tile
   (`final_proj`, `final_key`). -/
module

public import proofs.«01_k».proof.Proof.ProjHost
public import proofs.«01_k».proof.Proof.MergeArray

@[expose] public section

noncomputable section

namespace Cert.Proof.Proj

open Cert.InProjIdeal Cert.InProjIdeal.Gen Idealize.ShloMosaic Idealize.ShloMosaic.TcCoe Idealize.SL.Sem
open Idealize.ShloMosaic.Pointwise Cert.Proof.Join

/-- A row's batch, of the eight whose modulations are kept. -/
def octet (R : Fin 16384) : Fin 8 := ⟨R.val / 4096, by omega⟩

/-- A row's product with the weights of a lane. -/
def weighed (x : S16384x2048.Idx → EReal) (g : S1x2048.Idx → EReal) (sc sh : S8x1x2048.Idx → EReal) (w : Fin 2048 → EReal) (R : Fin 16384) : EReal :=
  product (fun l => x (ix2 R l)) (fun l => g (ix2 0 l)) (fun l => sc (ix3 (octet R) 0 l))
    (fun l => sh (ix3 (octet R) 0 l)) w

/-- A row's place on the grid. -/
def spot (R : Fin 16384) : Fin 4096 := ⟨R.val % 4096, by omega⟩

/-- The head of 128 lanes that lane `L` lies in, turned. -/
def headOf (p : Fin 13824 → EReal) (a b : Fin 32 → EReal) (L : Fin 13824) : EReal :=
  rope 32 (fun i => p ⟨L.val / 128 * 128 + i.val, by omega⟩) a b ⟨L.val % 128, by omega⟩

/-- An element of the projection: the queries turned and scaled, the keys turned, and the rest. -/
def projCell (p : Fin 13824 → EReal) (a b : Fin 32 → EReal) (L : Fin 13824) : EReal :=
  if L.val < 1024 then headOf p a b L * queryScale
  else if 12288 ≤ L.val ∧ L.val < 12544 then headOf p a b L else p L

variable (m : (ℓ : Loc nD τ sig) → Buf (Elt Ideal) ℓ)

/-- The projection's element and the rope key's, before the rope. -/
def pre (c : Dev nD) (R : Fin 16384) (L : Fin 13824) : EReal :=
  weighed (V m c main_arg0) (V m c main_arg1) (V m c main_arg2) (V m c main_arg3) (fun k => V m c main_arg4 (ix3 0 L k)) R
def preKey (c : Dev nD) (R : Fin 16384) (l : Fin 64) : EReal :=
  weighed (V m c main_arg0) (V m c main_arg1) (V m c main_arg2) (V m c main_arg3) (fun k => V m c main_arg5 (ix3 0 ⟨3584 + l.val, by omega⟩ k)) R

/-! Where each window's block of a point lies in its array. -/

theorem index_rows : ∀ t : Fin cfg0.N, (win0_0.index t (0 : Fin 2) = t.val / 9 ∧ win0_0.index t (1 : Fin 2) = 0)
    ∧ (win0_1.index t (0 : Fin 2) = 0 ∧ win0_1.index t (1 : Fin 2) = 0)
    ∧ (win0_8.index t (0 : Fin 2) = t.val / 9 ∧ win0_8.index t (1 : Fin 2) = t.val % 9)
    ∧ (win0_9.index t (0 : Fin 2) = t.val / 9 ∧ win0_9.index t (1 : Fin 2) = 0) :=
  (by decide +kernel : ∀ t : Fin grid0.N, _)
theorem index_batch : ∀ t : Fin cfg0.N, (win0_2.index t (0 : Fin 3) = t.val / 36 ∧ win0_2.index t (1 : Fin 3) = 0 ∧ win0_2.index t (2 : Fin 3) = 0)
    ∧ (win0_3.index t (0 : Fin 3) = t.val / 36 ∧ win0_3.index t (1 : Fin 3) = 0 ∧ win0_3.index t (2 : Fin 3) = 0) :=
  (by decide +kernel : ∀ t : Fin grid0.N, _)
theorem index_weights : ∀ t : Fin cfg0.N, (win0_4.index t (0 : Fin 3) = 0 ∧ win0_4.index t (1 : Fin 3) = t.val % 9 ∧ win0_4.index t (2 : Fin 3) = 0)
    ∧ (win0_5.index t (0 : Fin 3) = 0 ∧ win0_5.index t (1 : Fin 3) = 56 ∧ win0_5.index t (2 : Fin 3) = 0) :=
  (by decide +kernel : ∀ t : Fin grid0.N, _)
theorem index_tables : ∀ t : Fin cfg0.N, (win0_6.index t (0 : Fin 3) = 0 ∧ win0_6.index t (1 : Fin 3) = t.val / 9 % 4 ∧ win0_6.index t (2 : Fin 3) = 0)
    ∧ (win0_7.index t (0 : Fin 3) = 0 ∧ win0_7.index t (1 : Fin 3) = t.val / 9 % 4 ∧ win0_7.index t (2 : Fin 3) = 0) :=
  (by decide +kernel : ∀ t : Fin grid0.N, _)

theorem points (t : Fin cfg0.N) : t.val < 144 := lt_of_lt_of_eq t.isLt (show cfg0.N = 144 from N_0)

/-- Row `r` and lane `l` of point `t`'s tile, in the arrays. -/
def rowAt (t : Fin cfg0.N) (r : Fin 1024) : Fin 16384 := ⟨t.val / 9 * 1024 + r.val, by have := points t; omega⟩
def laneAt (t : Fin cfg0.N) (l : Fin 1536) : Fin 13824 := ⟨t.val % 9 * 1536 + l.val, by omega⟩

theorem rowAt_lead (t : Fin cfg0.N) (r : Fin 1024) : rowAt (lead t) r = rowAt t r :=
  Fin.ext (by show (t.val - t.val % 9) / 9 * 1024 + r.val = t.val / 9 * 1024 + r.val; omega)

/-! The blocks of a point, element by element. -/

theorem iblk_0 (c : Dev nD) (t : Fin cfg0.N) (r : Fin 1024) (l : Fin 2048) : iblk m c 0 t (ix2 r l) = V m c main_arg0 (ix2 (rowAt t r) l) := by
  obtain ⟨e0, e1⟩ := (index_rows t).1
  unfold iblk; rw [View.read_apply]
  exact at_two (V m c main_arg0) _ (rowAt t r) l (by show win0_0.index t (0 : Fin 2) * 1024 + 1 * r.val = t.val / 9 * 1024 + r.val; omega)
    (by show win0_0.index t (1 : Fin 2) * 2048 + 1 * l.val = l.val; omega)

theorem iblk_1 (c : Dev nD) (t : Fin cfg0.N) (l : Fin 2048) : iblk m c 1 t (ix2 0 l) = V m c main_arg1 (ix2 0 l) := by
  obtain ⟨e0, e1⟩ := (index_rows t).2.1
  unfold iblk; rw [View.read_apply]
  exact at_two (V m c main_arg1) _ 0 l (by show win0_1.index t (0 : Fin 2) * 1 + 1 * 0 = 0; omega)
    (by show win0_1.index t (1 : Fin 2) * 2048 + 1 * l.val = l.val; omega)

theorem iblk_2 (c : Dev nD) (t : Fin cfg0.N) (r : Fin 1024) (l : Fin 2048) :
    iblk m c 2 t (ix3 0 0 l) = V m c main_arg2 (ix3 (octet (rowAt t r)) 0 l) := by
  obtain ⟨e0, e1, e2⟩ := (index_batch t).1
  unfold iblk; rw [View.read_apply]
  refine at_three (V m c main_arg2) _ (octet (rowAt t r)) 0 l ?_ ?_ ?_
  · show win0_2.index t (0 : Fin 3) * 1 + 1 * 0 = (t.val / 9 * 1024 + r.val) / 4096; omega
  · show win0_2.index t (1 : Fin 3) * 1 + 1 * 0 = 0; omega
  · show win0_2.index t (2 : Fin 3) * 2048 + 1 * l.val = l.val; omega

theorem iblk_3 (c : Dev nD) (t : Fin cfg0.N) (r : Fin 1024) (l : Fin 2048) :
    iblk m c 3 t (ix3 0 0 l) = V m c main_arg3 (ix3 (octet (rowAt t r)) 0 l) := by
  obtain ⟨e0, e1, e2⟩ := (index_batch t).2
  unfold iblk; rw [View.read_apply]
  refine at_three (V m c main_arg3) _ (octet (rowAt t r)) 0 l ?_ ?_ ?_
  · show win0_3.index t (0 : Fin 3) * 1 + 1 * 0 = (t.val / 9 * 1024 + r.val) / 4096; omega
  · show win0_3.index t (1 : Fin 3) * 1 + 1 * 0 = 0; omega
  · show win0_3.index t (2 : Fin 3) * 2048 + 1 * l.val = l.val; omega

theorem iblk_4 (c : Dev nD) (t : Fin cfg0.N) (l : Fin 1536) (k : Fin 2048) : iblk m c 4 t (ix3 0 l k) = V m c main_arg4 (ix3 0 (laneAt t l) k) := by
  obtain ⟨e0, e1, e2⟩ := (index_weights t).1
  unfold iblk; rw [View.read_apply]
  refine at_three (V m c main_arg4) _ 0 (laneAt t l) k ?_ ?_ ?_
  · show win0_4.index t (0 : Fin 3) * 1 + 1 * 0 = 0; omega
  · show win0_4.index t (1 : Fin 3) * 1536 + 1 * l.val = t.val % 9 * 1536 + l.val; omega
  · show win0_4.index t (2 : Fin 3) * 2048 + 1 * k.val = k.val; omega

theorem iblk_5 (c : Dev nD) (t : Fin cfg0.N) (l : Fin 64) (k : Fin 2048) :
    iblk m c 5 t (ix3 0 l k) = V m c main_arg5 (ix3 0 ⟨3584 + l.val, by omega⟩ k) := by
  obtain ⟨e0, e1, e2⟩ := (index_weights t).2
  unfold iblk; rw [View.read_apply]
  refine at_three (V m c main_arg5) _ 0 ⟨3584 + l.val, by omega⟩ k ?_ ?_ ?_
  · show win0_5.index t (0 : Fin 3) * 1 + 1 * 0 = 0; omega
  · show win0_5.index t (1 : Fin 3) * 64 + 1 * l.val = 3584 + l.val; omega
  · show win0_5.index t (2 : Fin 3) * 2048 + 1 * k.val = k.val; omega

theorem iblk_6 (c : Dev nD) (t : Fin cfg0.N) (p : Fin 3) (r : Fin 1024) (l : Fin 128) :
    iblk m c 6 t (ix3 p r l) = V m c main_v41 (ix3 p (spot (rowAt t r)) l) := by
  obtain ⟨e0, e1, e2⟩ := (index_tables t).1
  unfold iblk; rw [View.read_apply]
  refine at_three (V m c main_v41) _ p (spot (rowAt t r)) l ?_ ?_ ?_
  · show win0_6.index t (0 : Fin 3) * 3 + 1 * p.val = p.val; omega
  · show win0_6.index t (1 : Fin 3) * 1024 + 1 * r.val = (t.val / 9 * 1024 + r.val) % 4096; omega
  · show win0_6.index t (2 : Fin 3) * 128 + 1 * l.val = l.val; omega

theorem iblk_7 (c : Dev nD) (t : Fin cfg0.N) (p : Fin 3) (r : Fin 1024) (l : Fin 128) :
    iblk m c 7 t (ix3 p r l) = V m c main_v85 (ix3 p (spot (rowAt t r)) l) := by
  obtain ⟨e0, e1, e2⟩ := (index_tables t).2
  unfold iblk; rw [View.read_apply]
  refine at_three (V m c main_v85) _ p (spot (rowAt t r)) l ?_ ?_ ?_
  · show win0_7.index t (0 : Fin 3) * 3 + 1 * p.val = p.val; omega
  · show win0_7.index t (1 : Fin 3) * 1024 + 1 * r.val = (t.val / 9 * 1024 + r.val) % 4096; omega
  · show win0_7.index t (2 : Fin 3) * 128 + 1 * l.val = l.val; omega

/-! The tile and the rope key of a point. -/

/-- The rows the point's products start from. -/
theorem rowsAt_at (c : Dev nD) (t : Fin cfg0.N) (r : Fin 1024) (k : Fin 2048) : rowsAt m c t (ix2 r k)
    = modulated (fun l => V m c main_arg0 (ix2 (rowAt t r) l)) (fun l => V m c main_arg1 (ix2 0 l))
        (fun l => V m c main_arg2 (ix3 (octet (rowAt t r)) 0 l))
        (fun l => V m c main_arg3 (ix3 (octet (rowAt t r)) 0 l)) k := by
  rw [← rowAt_lead t r]
  unfold rowsAt
  rw [rowsFirst_eq]
  unfold k0_pay8
  rw [shapeCast_self, rows_at, funext (iblk_0 m c (lead t) r), funext (iblk_1 m c (lead t)), funext (iblk_2 m c (lead t) r),
    funext (iblk_3 m c (lead t) r)]

theorem pre_at (c : Dev nD) (t : Fin cfg0.N) (r : Fin 1024) (l : Fin 1536) :
    k0_pay10 (rowsAt m c t) (iblk m c 4 t) (ix2 r l) = pre m c (rowAt t r) (laneAt t l) := by
  rw [product_at]
  unfold pre weighed product
  refine Finset.sum_congr rfl fun k _ => ?_
  rw [rowsAt_at, iblk_4]

/-- The angles of a row of the array. -/
def rowTurn32 (R : Fin 16384) (k : Fin 32) : EReal := angles32 rowOf (ix2 (spot R) k)
def colTurn32 (R : Fin 16384) (k : Fin 32) : EReal := angles32 colOf (ix2 (spot R) k)
def rowTurn16 (R : Fin 16384) (k : Fin 16) : EReal := angles16 rowOf (ix2 (spot R) k)
def colTurn16 (R : Fin 16384) (k : Fin 16) : EReal := angles16 colOf (ix2 (spot R) k)

theorem turned_at (c : Dev nD) (t : Fin cfg0.N) (o : Nat) (ho : o + 128 ≤ 1536) (r : Fin 1024) (i : Fin 128) :
    turned (k0_pay10 (rowsAt m c t) (iblk m c 4 t)) (iblk m c 6 t) o ho r i
      = rope 32 (fun i => pre m c (rowAt t r) (laneAt t ⟨o + i.val, by omega⟩)) (rowTurn32 (rowAt t r)) (colTurn32 (rowAt t r)) i := by
  unfold turned
  rw [funext (iblk_6 m c t 0 r), funext (iblk_6 m c t 1 r), funext (iblk_6 m c t 2 r), table_32,
    funext (tables32_0 _ _ _), funext (tables32_1 _ _ _), funext (tables32_2 _ _ _),
    show (fun i : Fin 128 => k0_pay10 (rowsAt m c t) (iblk m c 4 t) (ix2 r ⟨o + i.val, by omega⟩)) = _ from funext fun i => pre_at m c t r _]
  exact turn_parts 32 (by decide) (by decide) _ (rowTurn32 (rowAt t r)) (colTurn32 (rowAt t r)) (fun l h => absurd l.isLt (by omega)) i

/-- A head of a tile is a head of the projection. -/
theorem head_at (p : Fin 13824 → EReal) (a b : Fin 32 → EReal) (t : Fin cfg0.N) (l : Fin 1536) (ho : l.val / 128 * 128 + 128 ≤ 1536) :
    rope 32 (fun i => p (laneAt t ⟨l.val / 128 * 128 + i.val, by omega⟩)) a b ⟨l.val % 128, by omega⟩ = headOf p a b (laneAt t l) := by
  have e : (fun i : Fin 128 => p (laneAt t ⟨l.val / 128 * 128 + i.val, by omega⟩))
      = fun i : Fin 128 => p ⟨(laneAt t l).val / 128 * 128 + i.val, by omega⟩ :=
    funext fun i => congrArg p (Fin.ext (by
      show t.val % 9 * 1536 + (l.val / 128 * 128 + i.val) = (t.val % 9 * 1536 + l.val) / 128 * 128 + i.val; omega))
  have e' : (⟨l.val % 128, by omega⟩ : Fin 128) = ⟨(laneAt t l).val % 128, by omega⟩ :=
    Fin.ext (by show l.val % 128 = (t.val % 9 * 1536 + l.val) % 128; omega)
  unfold headOf
  rw [e, e']

theorem tile_at (c : Dev nD) (t : Fin cfg0.N) (r : Fin 1024) (l : Fin 1536) : tileAt m c t (ix2 r l)
    = projCell (pre m c (rowAt t r)) (rowTurn32 (rowAt t r)) (colTurn32 (rowAt t r)) (laneAt t l) := by
  have hL : (laneAt t l).val = t.val % 9 * 1536 + l.val := rfl
  unfold projCell
  by_cases h : IsFirst t
  · have h9 : t.val % 9 = 0 := h
    rw [tileAt_first m c t h, tileFirst_eq, ← rowsAt_first]
    show tileRow 8 _ _ _ _ r l = _
    unfold tileRow
    by_cases g : l.val < 128 * 8
    · rw [dif_pos g, turned_at, head_at _ _ _ t l (by omega), if_pos (by omega)]
    · rw [dif_neg g, pre_at, if_neg (by omega), if_neg (by omega)]
  · by_cases h' : IsLast t
    · have h9 : t.val % 9 = 8 := h'
      rw [tileAt_last m c t h', tileLast_eq]
      show tileRow 2 _ _ _ _ r l = _
      unfold tileRow
      by_cases g : l.val < 128 * 2
      · rw [dif_pos g, turned_at, head_at _ _ _ t l (by omega), if_neg (by omega), if_pos (by omega), mul_one]
      · rw [dif_neg g, pre_at, if_neg (by omega), if_neg (by omega)]
    · have h9 : 1 ≤ t.val % 9 ∧ t.val % 9 ≤ 7 := mid_of t h h'
      rw [tileAt_mid m c t (mid_of t h h'), tileMid_eq, pre_at, if_neg (by omega), if_neg (by omega)]

theorem keyAt_at (c : Dev nD) (t : Fin cfg0.N) (r : Fin 1024) (l : Fin 128) : keyAt m c t (ix2 r l)
    = rope 16 (keyLane (preKey m c (rowAt t r))) (rowTurn16 (rowAt t r)) (colTurn16 (rowAt t r)) l := by
  rw [← rowAt_lead t r]
  unfold keyAt
  rw [keyFirst_eq, turned_key, funext (iblk_7 m c (lead t) 0 r), funext (iblk_7 m c (lead t) 1 r), funext (iblk_7 m c (lead t) 2 r), table_16,
    funext (tables16_0 _ _ _), funext (tables16_1 _ _ _), funext (tables16_2 _ _ _)]
  have e : (fun i : Fin 128 => k0_pay9 (iblk m c 0 (lead t)) (iblk m c 1 (lead t)) (iblk m c 2 (lead t)) (iblk m c 3 (lead t)) (iblk m c 5 (lead t)) (ix2 r i))
      = keyLane (preKey m c (rowAt (lead t) r)) := by
    funext i
    rw [key_at, funext (iblk_0 m c (lead t) r), funext (iblk_1 m c (lead t)), funext (iblk_2 m c (lead t) r), funext (iblk_3 m c (lead t) r)]
    refine congrArg (fun u => keyLane u i) (funext fun l => ?_)
    rw [funext (iblk_5 m c (lead t) l)]
    rfl
  rw [e]
  exact turn_parts 16 (by decide) (by decide) _ (rowTurn16 (rowAt (lead t) r)) (colTurn16 (rowAt (lead t) r))
    (fun l h => dif_neg (by omega)) l

/-! The arrays. -/

theorem final_proj (c : Dev nD) : (dats m 0 c).arrAt 8 cfg0.N
    = fun i : S16384x13824.Idx => projCell (pre m c (i 0)) (rowTurn32 (i 0)) (colTurn32 (i 0)) (i 1) := by
  refine (dats m 0 c).arrAt_eq_of_covers 8 _ (by decide +kernel) fun t hf y => ?_
  obtain ⟨e0, e1⟩ := (index_rows t).2.2.1
  have hy0 : (y 0).val < 1024 := (y 0).isLt
  have hy1 : (y 1).val < 1536 := (y 1).isLt
  have w0 : ((((cfg0.win 8).blk t).view.emb y) 0) = rowAt t ⟨(y 0).val, hy0⟩ := Fin.ext (by
    show win0_8.index t (0 : Fin 2) * 1024 + 1 * (y 0).val = t.val / 9 * 1024 + (y 0).val; omega)
  have w1 : ((((cfg0.win 8).blk t).view.emb y) 1) = laneAt t ⟨(y 1).val, hy1⟩ := Fin.ext (by
    show win0_8.index t (1 : Fin 2) * 1536 + 1 * (y 1).val = t.val % 9 * 1536 + (y 1).val; omega)
  show (dats m 0 c).after 8 t ((cfg0.win 8).xinj (grid0.coords t) y) = _
  rw [after_8]
  have ey : ((cfg0.win 8).xinj (grid0.coords t) y) = ix2 (n0 := 1024) (n1 := 1536) ⟨(y 0).val, hy0⟩ ⟨(y 1).val, hy1⟩ := by
    funext a; match a with | ⟨0, _⟩ => rfl | ⟨1, _⟩ => rfl
  rw [ey, tile_at]
  exact (congrArg₂ (fun R L => projCell (pre m c R) (rowTurn32 R) (colTurn32 R) L) w0 w1).symm

theorem final_key (c : Dev nD) : (dats m 0 c).arrAt 9 cfg0.N
    = fun i : S16384x128.Idx => rope 16 (keyLane (preKey m c (i 0))) (rowTurn16 (i 0)) (colTurn16 (i 0)) (i 1) := by
  refine (dats m 0 c).arrAt_eq_of_covers 9 _ (by decide +kernel) fun t hf y => ?_
  obtain ⟨e0, e1⟩ := (index_rows t).2.2.2
  have hy0 : (y 0).val < 1024 := (y 0).isLt
  have hy1 : (y 1).val < 128 := (y 1).isLt
  have w0 : ((((cfg0.win 9).blk t).view.emb y) 0) = rowAt t ⟨(y 0).val, hy0⟩ := Fin.ext (by
    show win0_9.index t (0 : Fin 2) * 1024 + 1 * (y 0).val = t.val / 9 * 1024 + (y 0).val; omega)
  have w1 : ((((cfg0.win 9).blk t).view.emb y) 1) = (⟨(y 1).val, hy1⟩ : Fin 128) := Fin.ext (by
    show win0_9.index t (1 : Fin 2) * 128 + 1 * (y 1).val = (y 1).val; omega)
  show (dats m 0 c).after 9 t ((cfg0.win 9).xinj (grid0.coords t) y) = _
  rw [after_9]
  have ey : ((cfg0.win 9).xinj (grid0.coords t) y) = ix2 (n0 := 1024) (n1 := 128) ⟨(y 0).val, hy0⟩ ⟨(y 1).val, hy1⟩ := by
    funext a; match a with | ⟨0, _⟩ => rfl | ⟨1, _⟩ => rfl
  rw [ey, keyAt_at]
  exact (congrArg₂ (fun R L => rope 16 (keyLane (preKey m c R)) (rowTurn16 R) (colTurn16 R) L) w0 w1).symm

end Cert.Proof.Proj

end
-- ==== Proof.ProjRef.lean ====
/- The reference input projection over the ideal values, element by element: the turned heads and the turned key. -/
module

public import proofs.«01_k».proof.Proof.Gen.InProjRefIdeal.Read
public import proofs.«01_k».proof.Proof.ProjArray
public import proofs.«01_k».proof.Proof.MergeRef

@[expose] public section

noncomputable section

namespace Cert.Proof.ProjRef

open Cert.InProjRefIdeal Cert.InProjRefIdeal.Gen Cert.InProjRefIdeal.Read Idealize.ShloMosaic Idealize.ShloMosaic.TcCoe Idealize.SL.Sem
open Idealize.ShloMosaic.Pointwise Cert.Proof.Join Cert.Proof.JoinRef Cert.Proof.Proj

/-! The places and the angles are the kernel's. -/

theorem v32_eq : val_main_v32 (F := Ideal) = rowOf := by
  funext i
  obtain ⟨N, rfl⟩ : ∃ N : Fin 4096, i = ix1 N := ⟨i 0, funext fun a => by match a with | ⟨0, _⟩ => rfl⟩
  rw [rowOf_at]
  unfold val_main_v32 val_main_v31
  rw [flat_at]
  pointwise
  rfl
theorem v36_eq : val_main_v36 (F := Ideal) = colOf := by
  funext i
  obtain ⟨N, rfl⟩ : ∃ N : Fin 4096, i = ix1 N := ⟨i 0, funext fun a => by match a with | ⟨0, _⟩ => rfl⟩
  rw [colOf_at]
  unfold val_main_v36 val_main_v35 val_main_v34
  rw [flat_at]
  pointwise
  rfl
theorem v50_eq : val_main_v50 (F := Ideal) = angles32 rowOf := by
  unfold val_main_v50 val_main_v48 val_main_v46; rw [v32_eq]; rfl
theorem v83_eq : val_main_v83 (F := Ideal) = angles32 colOf := by
  unfold val_main_v83 val_main_v81 val_main_v79; rw [v36_eq]; rfl
theorem v120_eq : val_main_v120 (F := Ideal) = angles32 rowOf := by
  unfold val_main_v120 val_main_v118 val_main_v116; rw [v32_eq]; rfl
theorem v153_eq : val_main_v153 (F := Ideal) = angles32 colOf := by
  unfold val_main_v153 val_main_v151 val_main_v149; rw [v36_eq]; rfl
theorem v189_eq : val_main_v189 (F := Ideal) = angles16 rowOf := by
  unfold val_main_v189 val_main_v187 val_main_v185; rw [v32_eq]; rfl
theorem v222_eq : val_main_v222 (F := Ideal) = angles16 colOf := by
  unfold val_main_v222 val_main_v220 val_main_v218; rw [v36_eq]; rfl

variable (x0 : FVec Ideal S16384x2048 .f32) (x1 : FVec Ideal S1x2048 .f32) (x2 x3 : FVec Ideal S8x1x2048 .f32)
  (x4 : FVec Ideal S2x13824x2048 .bf16) (x5 : FVec Ideal S2x13888x2048 .f32)

/-! The normalised, modulated rows and their products. -/

theorem v0_at (R : Fin 16384) (k : Fin 2048) : val_main_v0 (F := Ideal) x0 (ix3 (batch R) (place R) k) = x0 (ix2 R k) := by
  unfold val_main_v0; exact split_at _ _ R k

theorem v11_at (k : Fin 2048) : val_main_v11 (F := Ideal) x1 (ix1 k) = x1 (ix2 0 k) := by
  unfold val_main_v11
  refine shapeCast_apply _ _ _ _ ?_
  rw [Shape.rowMajor_val_one, Shape.rowMajor_val_two]
  show 0 * 2048 + k.val = k.val
  omega

theorem v22_at (R : Fin 16384) (k : Fin 2048) : val_main_v22 (F := Ideal) x0 x1 x2 x3 (ix3 (batch R) (place R) k)
    = modulated (fun l => x0 (ix2 R l)) (fun l => x1 (ix2 0 l)) (fun l => x2 (ix3 (octet R) 0 l)) (fun l => x3 (ix3 (octet R) 0 l)) k := by
  unfold val_main_v22 val_main_v21 val_main_v20 val_main_v19 val_main_v18 val_main_v17 val_main_v16 val_main_v15 val_main_v14 val_main_v13 val_main_v12 val_main_v10 val_main_v9 val_main_v8 val_main_v7 val_main_v6 val_main_v5 val_main_v4 val_main_v3 val_main_v2 val_main_v1 val_main_cst val_main_cst_0 val_main_cst_1 val_main_cst_2 modulated rmsNorm
  pointwise [v0_at, v11_at]
  rfl

/-- The projection's elements before the rope. -/
def pre (R : Fin 16384) (L : Fin 13824) : EReal := weighed x0 x1 x2 x3 (fun k => x4 (ix3 0 L k)) R
def preKey (R : Fin 16384) (l : Fin 64) : EReal := weighed x0 x1 x2 x3 (fun k => x5 (ix3 0 ⟨3584 + l.val, by omega⟩ k)) R

theorem v26_at (R : Fin 16384) (L : Fin 13824) : val_main_v26 (F := Ideal) x0 x1 x2 x3 x4 (ix3 (batch R) (place R) L) = pre x0 x1 x2 x3 x4 R L := by
  unfold val_main_v26 val_main_v25 val_main_v24 val_main_v23 pre weighed product
  pointwise [v22_at]

theorem v29_at (R : Fin 16384) (l : Fin 64) : val_main_v29 (F := Ideal) x0 x1 x2 x3 x5 (ix3 (batch R) (place R) l) = preKey x0 x1 x2 x3 x5 R l := by
  unfold val_main_v29 val_main_v28 val_main_v27 preKey weighed product
  pointwise [v22_at]

theorem v63_at (b : Fin 4) (N : Fin 4096) (h : Fin 8) (l : Fin 32) : val_main_v63 (F := Ideal) x0 x1 x2 x3 x4 (ix4 b N h l)
    = val_main_v38 (F := Ideal) x0 x1 x2 x3 x4 (ix4 b N h ⟨l.val, by omega⟩) * Ideal.cos (angles32 rowOf (ix2 N l)) - val_main_v38 (F := Ideal) x0 x1 x2 x3 x4 (ix4 b N h ⟨32 + l.val, by omega⟩) * Ideal.sin (angles32 rowOf (ix2 N l)) := by
  unfold val_main_v63 val_main_v62 val_main_v61 val_main_v60 val_main_v59 val_main_v58 val_main_v57 val_main_v56 val_main_v55 val_main_v54 val_main_v53 val_main_v52 val_main_v51 val_main_v39
  pointwise [v50_eq]

theorem v70_at (b : Fin 4) (N : Fin 4096) (h : Fin 8) (l : Fin 32) : val_main_v70 (F := Ideal) x0 x1 x2 x3 x4 (ix4 b N h l)
    = val_main_v38 (F := Ideal) x0 x1 x2 x3 x4 (ix4 b N h ⟨l.val, by omega⟩) * Ideal.sin (angles32 rowOf (ix2 N l)) + val_main_v38 (F := Ideal) x0 x1 x2 x3 x4 (ix4 b N h ⟨32 + l.val, by omega⟩) * Ideal.cos (angles32 rowOf (ix2 N l)) := by
  unfold val_main_v70 val_main_v69 val_main_v68 val_main_v67 val_main_v66 val_main_v65 val_main_v64 val_main_v56 val_main_v55 val_main_v54 val_main_v53 val_main_v52 val_main_v51 val_main_v39
  pointwise [v50_eq]

theorem v96_at (b : Fin 4) (N : Fin 4096) (h : Fin 8) (l : Fin 32) : val_main_v96 (F := Ideal) x0 x1 x2 x3 x4 (ix4 b N h l)
    = val_main_v38 (F := Ideal) x0 x1 x2 x3 x4 (ix4 b N h ⟨64 + l.val, by omega⟩) * Ideal.cos (angles32 colOf (ix2 N l)) - val_main_v38 (F := Ideal) x0 x1 x2 x3 x4 (ix4 b N h ⟨64 + (32 + l.val), by omega⟩) * Ideal.sin (angles32 colOf (ix2 N l)) := by
  unfold val_main_v96 val_main_v95 val_main_v94 val_main_v93 val_main_v92 val_main_v91 val_main_v90 val_main_v89 val_main_v88 val_main_v87 val_main_v86 val_main_v85 val_main_v84 val_main_v72
  pointwise [v83_eq]

theorem v103_at (b : Fin 4) (N : Fin 4096) (h : Fin 8) (l : Fin 32) : val_main_v103 (F := Ideal) x0 x1 x2 x3 x4 (ix4 b N h l)
    = val_main_v38 (F := Ideal) x0 x1 x2 x3 x4 (ix4 b N h ⟨64 + l.val, by omega⟩) * Ideal.sin (angles32 colOf (ix2 N l)) + val_main_v38 (F := Ideal) x0 x1 x2 x3 x4 (ix4 b N h ⟨64 + (32 + l.val), by omega⟩) * Ideal.cos (angles32 colOf (ix2 N l)) := by
  unfold val_main_v103 val_main_v102 val_main_v101 val_main_v100 val_main_v99 val_main_v98 val_main_v97 val_main_v89 val_main_v88 val_main_v87 val_main_v86 val_main_v85 val_main_v84 val_main_v72
  pointwise [v83_eq]

theorem v133_at (b : Fin 4) (N : Fin 4096) (h : Fin 2) (l : Fin 32) : val_main_v133 (F := Ideal) x0 x1 x2 x3 x4 (ix4 b N h l)
    = val_main_v108 (F := Ideal) x0 x1 x2 x3 x4 (ix4 b N h ⟨l.val, by omega⟩) * Ideal.cos (angles32 rowOf (ix2 N l)) - val_main_v108 (F := Ideal) x0 x1 x2 x3 x4 (ix4 b N h ⟨32 + l.val, by omega⟩) * Ideal.sin (angles32 rowOf (ix2 N l)) := by
  unfold val_main_v133 val_main_v132 val_main_v131 val_main_v130 val_main_v129 val_main_v128 val_main_v127 val_main_v126 val_main_v125 val_main_v124 val_main_v123 val_main_v122 val_main_v121 val_main_v109
  pointwise [v120_eq]

theorem v140_at (b : Fin 4) (N : Fin 4096) (h : Fin 2) (l : Fin 32) : val_main_v140 (F := Ideal) x0 x1 x2 x3 x4 (ix4 b N h l)
    = val_main_v108 (F := Ideal) x0 x1 x2 x3 x4 (ix4 b N h ⟨l.val, by omega⟩) * Ideal.sin (angles32 rowOf (ix2 N l)) + val_main_v108 (F := Ideal) x0 x1 x2 x3 x4 (ix4 b N h ⟨32 + l.val, by omega⟩) * Ideal.cos (angles32 rowOf (ix2 N l)) := by
  unfold val_main_v140 val_main_v139 val_main_v138 val_main_v137 val_main_v136 val_main_v135 val_main_v134 val_main_v126 val_main_v125 val_main_v124 val_main_v123 val_main_v122 val_main_v121 val_main_v109
  pointwise [v120_eq]

theorem v166_at (b : Fin 4) (N : Fin 4096) (h : Fin 2) (l : Fin 32) : val_main_v166 (F := Ideal) x0 x1 x2 x3 x4 (ix4 b N h l)
    = val_main_v108 (F := Ideal) x0 x1 x2 x3 x4 (ix4 b N h ⟨64 + l.val, by omega⟩) * Ideal.cos (angles32 colOf (ix2 N l)) - val_main_v108 (F := Ideal) x0 x1 x2 x3 x4 (ix4 b N h ⟨64 + (32 + l.val), by omega⟩) * Ideal.sin (angles32 colOf (ix2 N l)) := by
  unfold val_main_v166 val_main_v165 val_main_v164 val_main_v163 val_main_v162 val_main_v161 val_main_v160 val_main_v159 val_main_v158 val_main_v157 val_main_v156 val_main_v155 val_main_v154 val_main_v142
  pointwise [v153_eq]

theorem v173_at (b : Fin 4) (N : Fin 4096) (h : Fin 2) (l : Fin 32) : val_main_v173 (F := Ideal) x0 x1 x2 x3 x4 (ix4 b N h l)
    = val_main_v108 (F := Ideal) x0 x1 x2 x3 x4 (ix4 b N h ⟨64 + l.val, by omega⟩) * Ideal.sin (angles32 colOf (ix2 N l)) + val_main_v108 (F := Ideal) x0 x1 x2 x3 x4 (ix4 b N h ⟨64 + (32 + l.val), by omega⟩) * Ideal.cos (angles32 colOf (ix2 N l)) := by
  unfold val_main_v173 val_main_v172 val_main_v171 val_main_v170 val_main_v169 val_main_v168 val_main_v167 val_main_v159 val_main_v158 val_main_v157 val_main_v156 val_main_v155 val_main_v154 val_main_v142
  pointwise [v153_eq]

theorem v202_at (b : Fin 4) (N : Fin 4096) (l : Fin 16) : val_main_v202 (F := Ideal) x0 x1 x2 x3 x5 (ix4 b N 0 l)
    = val_main_v177 (F := Ideal) x0 x1 x2 x3 x5 (ix4 b N 0 ⟨l.val, by omega⟩) * Ideal.cos (angles16 rowOf (ix2 N l)) - val_main_v177 (F := Ideal) x0 x1 x2 x3 x5 (ix4 b N 0 ⟨16 + l.val, by omega⟩) * Ideal.sin (angles16 rowOf (ix2 N l)) := by
  unfold val_main_v202 val_main_v201 val_main_v200 val_main_v199 val_main_v198 val_main_v197 val_main_v196 val_main_v195 val_main_v194 val_main_v193 val_main_v192 val_main_v191 val_main_v190 val_main_v178
  pointwise [v189_eq]

theorem v209_at (b : Fin 4) (N : Fin 4096) (l : Fin 16) : val_main_v209 (F := Ideal) x0 x1 x2 x3 x5 (ix4 b N 0 l)
    = val_main_v177 (F := Ideal) x0 x1 x2 x3 x5 (ix4 b N 0 ⟨l.val, by omega⟩) * Ideal.sin (angles16 rowOf (ix2 N l)) + val_main_v177 (F := Ideal) x0 x1 x2 x3 x5 (ix4 b N 0 ⟨16 + l.val, by omega⟩) * Ideal.cos (angles16 rowOf (ix2 N l)) := by
  unfold val_main_v209 val_main_v208 val_main_v207 val_main_v206 val_main_v205 val_main_v204 val_main_v203 val_main_v195 val_main_v194 val_main_v193 val_main_v192 val_main_v191 val_main_v190 val_main_v178
  pointwise [v189_eq]

theorem v235_at (b : Fin 4) (N : Fin 4096) (l : Fin 16) : val_main_v235 (F := Ideal) x0 x1 x2 x3 x5 (ix4 b N 0 l)
    = val_main_v177 (F := Ideal) x0 x1 x2 x3 x5 (ix4 b N 0 ⟨32 + l.val, by omega⟩) * Ideal.cos (angles16 colOf (ix2 N l)) - val_main_v177 (F := Ideal) x0 x1 x2 x3 x5 (ix4 b N 0 ⟨32 + (16 + l.val), by omega⟩) * Ideal.sin (angles16 colOf (ix2 N l)) := by
  unfold val_main_v235 val_main_v234 val_main_v233 val_main_v232 val_main_v231 val_main_v230 val_main_v229 val_main_v228 val_main_v227 val_main_v226 val_main_v225 val_main_v224 val_main_v223 val_main_v211
  pointwise [v222_eq]

theorem v242_at (b : Fin 4) (N : Fin 4096) (l : Fin 16) : val_main_v242 (F := Ideal) x0 x1 x2 x3 x5 (ix4 b N 0 l)
    = val_main_v177 (F := Ideal) x0 x1 x2 x3 x5 (ix4 b N 0 ⟨32 + l.val, by omega⟩) * Ideal.sin (angles16 colOf (ix2 N l)) + val_main_v177 (F := Ideal) x0 x1 x2 x3 x5 (ix4 b N 0 ⟨32 + (16 + l.val), by omega⟩) * Ideal.cos (angles16 colOf (ix2 N l)) := by
  unfold val_main_v242 val_main_v241 val_main_v240 val_main_v239 val_main_v238 val_main_v237 val_main_v236 val_main_v228 val_main_v227 val_main_v226 val_main_v225 val_main_v224 val_main_v223 val_main_v211
  pointwise [v222_eq]

/-! The rope's four quarters as the joined halves read them. -/

theorem turn_eq {n : Nat} (u : Fin 128 → EReal) (a : Fin n → EReal) {x x' y y' : Fin 128} {k k' : Fin n}
    (hx : x.val = x'.val) (hy : y.val = y'.val) (hk : k.val = k'.val) :
    u x * Ideal.cos (a k) - u y * Ideal.sin (a k) = u x' * Ideal.cos (a k') - u y' * Ideal.sin (a k') := by
  rw [Fin.ext hx, Fin.ext hy, Fin.ext hk]
theorem turn_eq' {n : Nat} (u : Fin 128 → EReal) (a : Fin n → EReal) {x x' y y' : Fin 128} {k k' : Fin n}
    (hx : x.val = x'.val) (hy : y.val = y'.val) (hk : k.val = k'.val) :
    u x * Ideal.sin (a k) + u y * Ideal.cos (a k) = u x' * Ideal.sin (a k') + u y' * Ideal.cos (a k') := by
  rw [Fin.ext hx, Fin.ext hy, Fin.ext hk]
theorem rope_quarters32 (u : Fin 128 → EReal) (a b : Fin 32 → EReal) (l : Fin 128) :
    (if h : l.val < 64 then
      if k : l.val < 32 then u ⟨l.val, by omega⟩ * Ideal.cos (a ⟨l.val, k⟩) - u ⟨32 + l.val, by omega⟩ * Ideal.sin (a ⟨l.val, k⟩)
      else u ⟨l.val - 32, by omega⟩ * Ideal.sin (a ⟨l.val - 32, by omega⟩) + u ⟨32 + (l.val - 32), by omega⟩ * Ideal.cos (a ⟨l.val - 32, by omega⟩)
    else
      if k : l.val - 64 < 32 then u ⟨64 + (l.val - 64), by omega⟩ * Ideal.cos (b ⟨l.val - 64, k⟩) - u ⟨64 + (32 + (l.val - 64)), by omega⟩ * Ideal.sin (b ⟨l.val - 64, k⟩)
      else u ⟨64 + (l.val - 64 - 32), by omega⟩ * Ideal.sin (b ⟨l.val - 64 - 32, by omega⟩) + u ⟨64 + (32 + (l.val - 64 - 32)), by omega⟩ * Ideal.cos (b ⟨l.val - 64 - 32, by omega⟩))
      = rope 32 u a b l := by
  unfold rope
  by_cases h : l.val < 64
  · by_cases k : l.val < 32
    · rw [dif_pos h, dif_pos k, dif_pos k]
      exact turn_eq _ a rfl (show 32 + l.val = (l.val + 32) % 128 by omega) rfl
    · rw [dif_pos h, dif_neg k, dif_neg k, dif_pos (show l.val - 32 < 32 by omega)]
      exact turn_eq' _ a rfl (show 32 + (l.val - 32) = l.val by omega) rfl
  · have k1 : ¬ l.val < 32 := by omega
    have k2 : ¬ l.val - 32 < 32 := by omega
    by_cases k : l.val - 64 < 32
    · rw [dif_neg h, dif_pos k, dif_neg k1, dif_neg k2, dif_pos (show l.val - 32 - 32 < 32 by omega)]
      exact turn_eq _ b (show 64 + (l.val - 64) = l.val by omega)
        (show 64 + (32 + (l.val - 64)) = (l.val + 32) % 128 by omega) (show l.val - 64 = l.val - 32 - 32 by omega)
    · rw [dif_neg h, dif_neg k, dif_neg k1, dif_neg k2, dif_neg (show ¬ l.val - 32 - 32 < 32 by omega),
        dif_pos (show l.val - 32 - 32 - 32 < 32 by omega)]
      exact turn_eq' _ b (show 64 + (l.val - 64 - 32) = l.val - 32 by omega)
        (show 64 + (32 + (l.val - 64 - 32)) = l.val by omega) (show l.val - 64 - 32 = l.val - 32 - 32 - 32 by omega)
theorem rope_quarters16 (u : Fin 64 → EReal) (a b : Fin 16 → EReal) (l : Fin 64) :
    (if h : l.val < 32 then
      if k : l.val < 16 then u ⟨l.val, by omega⟩ * Ideal.cos (a ⟨l.val, k⟩) - u ⟨16 + l.val, by omega⟩ * Ideal.sin (a ⟨l.val, k⟩)
      else u ⟨l.val - 16, by omega⟩ * Ideal.sin (a ⟨l.val - 16, by omega⟩) + u ⟨16 + (l.val - 16), by omega⟩ * Ideal.cos (a ⟨l.val - 16, by omega⟩)
    else
      if k : l.val - 32 < 16 then u ⟨32 + (l.val - 32), by omega⟩ * Ideal.cos (b ⟨l.val - 32, k⟩) - u ⟨32 + (16 + (l.val - 32)), by omega⟩ * Ideal.sin (b ⟨l.val - 32, k⟩)
      else u ⟨32 + (l.val - 32 - 16), by omega⟩ * Ideal.sin (b ⟨l.val - 32 - 16, by omega⟩) + u ⟨32 + (16 + (l.val - 32 - 16)), by omega⟩ * Ideal.cos (b ⟨l.val - 32 - 16, by omega⟩))
      = rope 16 (keyLane u) a b ⟨l.val, by omega⟩ := by
  have hl : l.val < 64 := l.isLt
  have e : ∀ (i : Nat) (h : i < 64), u ⟨i, h⟩ = keyLane u ⟨i, by omega⟩ := fun i h => by unfold keyLane; rw [dif_pos h]
  simp only [e]
  unfold rope
  by_cases h : l.val < 32
  · by_cases k : l.val < 16
    · rw [dif_pos h, dif_pos k, dif_pos k]
      exact turn_eq _ a rfl (show 16 + l.val = (l.val + 16) % 128 by omega) rfl
    · rw [dif_pos h, dif_neg k, dif_neg k, dif_pos (show l.val - 16 < 16 by omega)]
      exact turn_eq' _ a rfl (show 16 + (l.val - 16) = l.val by omega) rfl
  · have k1 : ¬ l.val < 16 := by omega
    have k2 : ¬ l.val - 16 < 16 := by omega
    by_cases k : l.val - 32 < 16
    · rw [dif_neg h, dif_pos k, dif_neg k1, dif_neg k2, dif_pos (show l.val - 16 - 16 < 16 by omega)]
      exact turn_eq _ b (show 32 + (l.val - 32) = l.val by omega)
        (show 32 + (16 + (l.val - 32)) = (l.val + 16) % 128 by omega) (show l.val - 32 = l.val - 16 - 16 by omega)
    · rw [dif_neg h, dif_neg k, dif_neg k1, dif_neg k2, dif_neg (show ¬ l.val - 16 - 16 < 16 by omega),
        dif_pos (show l.val - 16 - 16 - 16 < 16 by omega)]
      exact turn_eq' _ b (show 32 + (l.val - 32 - 16) = l.val - 16 by omega)
        (show 32 + (16 + (l.val - 32 - 16)) = l.val by omega) (show l.val - 32 - 16 = l.val - 16 - 16 - 16 by omega)

theorem v105_at (b : Fin 4) (N : Fin 4096) (h : Fin 8) (l : Fin 128) : val_main_v105 (F := Ideal) x0 x1 x2 x3 x4 (ix4 b N h l)
    = rope 32 (fun i => val_main_v38 (F := Ideal) x0 x1 x2 x3 x4 (ix4 b N h i)) (fun k => angles32 rowOf (ix2 N k)) (fun k => angles32 colOf (ix2 N k)) l := by
  unfold val_main_v105 val_main_v71 val_main_v104
  pointwise [v63_at, v70_at, v96_at, v103_at]
  exact rope_quarters32 (fun i => val_main_v38 (F := Ideal) x0 x1 x2 x3 x4 (ix4 b N h i)) (fun k => angles32 rowOf (ix2 N k)) (fun k => angles32 colOf (ix2 N k)) l

theorem v175_at (b : Fin 4) (N : Fin 4096) (h : Fin 2) (l : Fin 128) : val_main_v175 (F := Ideal) x0 x1 x2 x3 x4 (ix4 b N h l)
    = rope 32 (fun i => val_main_v108 (F := Ideal) x0 x1 x2 x3 x4 (ix4 b N h i)) (fun k => angles32 rowOf (ix2 N k)) (fun k => angles32 colOf (ix2 N k)) l := by
  unfold val_main_v175 val_main_v141 val_main_v174
  pointwise [v133_at, v140_at, v166_at, v173_at]
  exact rope_quarters32 (fun i => val_main_v108 (F := Ideal) x0 x1 x2 x3 x4 (ix4 b N h i)) (fun k => angles32 rowOf (ix2 N k)) (fun k => angles32 colOf (ix2 N k)) l

theorem v244_at (b : Fin 4) (N : Fin 4096) (l : Fin 64) : val_main_v244 (F := Ideal) x0 x1 x2 x3 x5 (ix4 b N 0 l)
    = rope 16 (keyLane fun i => val_main_v177 (F := Ideal) x0 x1 x2 x3 x5 (ix4 b N 0 i)) (fun k => angles16 rowOf (ix2 N k)) (fun k => angles16 colOf (ix2 N k)) ⟨l.val, by omega⟩ := by
  unfold val_main_v244 val_main_v210 val_main_v243
  pointwise [v202_at, v209_at, v235_at, v242_at]
  exact rope_quarters16 (fun i => val_main_v177 (F := Ideal) x0 x1 x2 x3 x5 (ix4 b N 0 i)) (fun k => angles16 rowOf (ix2 N k)) (fun k => angles16 colOf (ix2 N k)) l

/-! The heads and the key's row. -/

theorem v38_at (b : Fin 4) (N : Fin 4096) (h : Fin 8) (i : Fin 128) : val_main_v38 (F := Ideal) x0 x1 x2 x3 x4 (ix4 b N h i)
    = val_main_v26 (F := Ideal) x0 x1 x2 x3 x4 (ix3 b N ⟨h.val * 128 + i.val, by omega⟩) := by
  unfold val_main_v38
  refine (shapeCast_apply _ _ _ (ix3 b N (⟨h.val * 128 + i.val, by omega⟩ : Fin 1024)) ?_).trans ?_
  · rw [Shape.rowMajor_val_three, Shape.rowMajor_val_four]
    show (b.val * 4096 + N.val) * 1024 + (h.val * 128 + i.val) = ((b.val * 4096 + N.val) * 8 + h.val) * 128 + i.val
    omega
  · unfold val_main_v37; pointwise

theorem v108_at (b : Fin 4) (N : Fin 4096) (h : Fin 2) (i : Fin 128) : val_main_v108 (F := Ideal) x0 x1 x2 x3 x4 (ix4 b N h i)
    = val_main_v26 (F := Ideal) x0 x1 x2 x3 x4 (ix3 b N ⟨12288 + (h.val * 128 + i.val), by omega⟩) := by
  unfold val_main_v108
  refine (shapeCast_apply _ _ _ (ix3 b N (⟨h.val * 128 + i.val, by omega⟩ : Fin 256)) ?_).trans ?_
  · rw [Shape.rowMajor_val_three, Shape.rowMajor_val_four]
    show (b.val * 4096 + N.val) * 256 + (h.val * 128 + i.val) = ((b.val * 4096 + N.val) * 2 + h.val) * 128 + i.val
    omega
  · unfold val_main_v107; pointwise

theorem v177_at (b : Fin 4) (N : Fin 4096) (l : Fin 64) : val_main_v177 (F := Ideal) x0 x1 x2 x3 x5 (ix4 b N 0 l)
    = val_main_v29 (F := Ideal) x0 x1 x2 x3 x5 (ix3 b N l) := by
  unfold val_main_v177; pointwise

theorem v106_at (R : Fin 16384) (j : Fin 1024) : val_main_v106 (F := Ideal) x0 x1 x2 x3 x4 (ix3 (batch R) (place R) j)
    = headOf (pre x0 x1 x2 x3 x4 R) (rowTurn32 R) (colTurn32 R) ⟨j.val, by omega⟩ := by
  unfold val_main_v106
  refine (shapeCast_apply _ _ _ (ix4 (batch R) (place R) (⟨j.val / 128, by omega⟩ : Fin 8) (⟨j.val % 128, by omega⟩ : Fin 128)) ?_).trans ?_
  · rw [Shape.rowMajor_val_three, Shape.rowMajor_val_four]
    show ((R.val / 4096 * 4096 + R.val % 4096) * 8 + j.val / 128) * 128 + j.val % 128 = (R.val / 4096 * 4096 + R.val % 4096) * 1024 + j.val
    omega
  · rw [v105_at]
    unfold headOf
    exact congrArg (fun u => rope 32 u (rowTurn32 R) (colTurn32 R) ⟨j.val % 128, by omega⟩)
      (funext fun i => (v38_at x0 x1 x2 x3 x4 _ _ _ i).trans (v26_at x0 x1 x2 x3 x4 R _))

theorem v176_at (R : Fin 16384) (j : Fin 256) : val_main_v176 (F := Ideal) x0 x1 x2 x3 x4 (ix3 (batch R) (place R) j)
    = headOf (pre x0 x1 x2 x3 x4 R) (rowTurn32 R) (colTurn32 R) ⟨12288 + j.val, by omega⟩ := by
  unfold val_main_v176
  refine (shapeCast_apply _ _ _ (ix4 (batch R) (place R) (⟨j.val / 128, by omega⟩ : Fin 2) (⟨j.val % 128, by omega⟩ : Fin 128)) ?_).trans ?_
  · rw [Shape.rowMajor_val_three, Shape.rowMajor_val_four]
    show ((R.val / 4096 * 4096 + R.val % 4096) * 2 + j.val / 128) * 128 + j.val % 128 = (R.val / 4096 * 4096 + R.val % 4096) * 256 + j.val
    omega
  · rw [v175_at]
    unfold headOf
    have e : (⟨(12288 + j.val) % 128, by omega⟩ : Fin 128) = ⟨j.val % 128, by omega⟩ := Fin.ext (show (12288 + j.val) % 128 = j.val % 128 by omega)
    rw [e]
    exact congrArg (fun u => rope 32 u (rowTurn32 R) (colTurn32 R) ⟨j.val % 128, by omega⟩)
      (funext fun i => ((v108_at x0 x1 x2 x3 x4 _ _ _ i).trans (v26_at x0 x1 x2 x3 x4 R _)).trans
        (congrArg (pre x0 x1 x2 x3 x4 R) (Fin.ext (show 12288 + (j.val / 128 * 128 + i.val) = (12288 + j.val) / 128 * 128 + i.val by omega))))

theorem v245_at (R : Fin 16384) (l : Fin 64) : val_main_v245 (F := Ideal) x0 x1 x2 x3 x5 (ix3 (batch R) (place R) l)
    = rope 16 (keyLane (preKey x0 x1 x2 x3 x5 R)) (rowTurn16 R) (colTurn16 R) ⟨l.val, by omega⟩ := by
  unfold val_main_v245
  refine (shapeCast_apply _ _ _ (ix4 (batch R) (place R) (0 : Fin 1) l) ?_).trans ?_
  · rw [Shape.rowMajor_val_three, Shape.rowMajor_val_four]
    show ((R.val / 4096 * 4096 + R.val % 4096) * 1 + 0) * 64 + l.val = (R.val / 4096 * 4096 + R.val % 4096) * 64 + l.val
    omega
  · rw [v244_at]
    exact congrArg (fun u => rope 16 (keyLane u) (rowTurn16 R) (colTurn16 R) ⟨l.val, by omega⟩)
      (funext fun i => (v177_at x0 x1 x2 x3 x5 _ _ i).trans (v29_at x0 x1 x2 x3 x5 R i))

end Cert.Proof.ProjRef

end
-- ==== Proof.ProjRefJoin.lean ====
/- The reference input projection's results, element by element: the elements the kernel's arrays hold (`proj_at`, `key_at`). -/
module

public import proofs.«01_k».proof.Proof.ProjRef

@[expose] public section

noncomputable section

namespace Cert.Proof.ProjRef

open Cert.InProjRefIdeal Cert.InProjRefIdeal.Gen Cert.InProjRefIdeal.Read Idealize.ShloMosaic Idealize.ShloMosaic.TcCoe Idealize.SL.Sem
open Idealize.ShloMosaic.Pointwise Cert.Proof.Join Cert.Proof.JoinRef Cert.Proof.Proj

variable (x0 : FVec Ideal S16384x2048 .f32) (x1 : FVec Ideal S1x2048 .f32) (x2 x3 : FVec Ideal S8x1x2048 .f32)
  (x4 : FVec Ideal S2x13824x2048 .bf16) (x5 : FVec Ideal S2x13888x2048 .f32)

theorem bits_128 : Ideal.ofBits .f32 0x43000000#32 = ((128 : ℝ) : EReal) := by
  simp [Ideal.ofBits, Ideal.ieee, -EReal.coe_mul]; norm_num
theorem bits_2 : Ideal.ofBits .f32 0x40000000#32 = ((2 : ℝ) : EReal) := by
  simp [Ideal.ofBits, Ideal.ieee, -EReal.coe_mul]; norm_num
theorem bits_1 : Ideal.ofBits .f32 0x3F800000#32 = ((1 : ℝ) : EReal) := by
  simp [Ideal.ofBits, Ideal.ieee, -EReal.coe_mul]; norm_num

theorem queryScale_eq : queryScale = (((Real.sqrt 128 * Real.log 2)⁻¹ : ℝ) : EReal) :=
  IdealRules.named_const.ideal_named_scalar _ _ _ _ rfl

/-- The factor as the reference computes it is the kernel's named constant. -/
theorem v249_at (i : S_.Idx) : val_main_v249 (F := Ideal) i = queryScale := by
  have hs : Real.sqrt 128 * Real.log 2 ≠ 0 :=
    mul_ne_zero (Real.sqrt_pos.mpr (by norm_num)).ne' (Real.log_pos (by norm_num)).ne'
  rw [val_main_v249_apply, val_main_v248_apply, val_main_v246_apply, val_main_v247_apply, val_main_cst_15_apply, val_main_cst_16_apply,
    val_main_cst_17_apply, queryScale_eq]
  simp only [Ideal.hostDivf_def, Ideal.hostUnary_sqrt_def, Ideal.hostUnary_log_def, Ideal.mulf_def, Ideal.ofBits_def, bits_128, bits_2, bits_1,
    Ideal.sqrt_coe, Ideal.log_coe, show ¬(128 : ℝ) < 0 from by norm_num, show ¬(2 : ℝ) ≤ 0 from by norm_num, ↓reduceIte]
  rw [← EReal.coe_mul, Ideal.div_coe hs, ← EReal.coe_mul, one_mul, one_div]

theorem v251_at (R : Fin 16384) (j : Fin 1024) : val_main_v251 (F := Ideal) x0 x1 x2 x3 x4 (ix3 (batch R) (place R) j)
    = headOf (pre x0 x1 x2 x3 x4 R) (rowTurn32 R) (colTurn32 R) ⟨j.val, by omega⟩ * queryScale := by
  rw [val_main_v251_apply, val_main_v250_apply, v249_at, v106_at]
  rfl

/-! Four arrays joined along the last axis, read in each. -/

section Four

variable {α : Type} {n1 n2 n3 n4 n : Nat} (y1 : (Shape.mk 3 ![4, 4096, n1]).Idx → α) (y2 : (Shape.mk 3 ![4, 4096, n2]).Idx → α)
  (y3 : (Shape.mk 3 ![4, 4096, n3]).Idx → α) (y4 : (Shape.mk 3 ![4, 4096, n4]).Idx → α)
  (h : Shape.Concatenates [Shape.mk 3 ![4, 4096, n1], Shape.mk 3 ![4, 4096, n2], Shape.mk 3 ![4, 4096, n3], Shape.mk 3 ![4, 4096, n4]] (Shape.mk 3 ![4, 4096, n]) 2)
  (b : Fin 4) (N : Fin 4096) (L : Fin n)

theorem first_of (i : Fin n1) (e : 0 + i.val = L.val) :
    concatenate (Shape.mk 3 ![4, 4096, n]) 2 [⟨Shape.mk 3 ![4, 4096, n1], y1⟩, ⟨Shape.mk 3 ![4, 4096, n2], y2⟩, ⟨Shape.mk 3 ![4, 4096, n3], y3⟩, ⟨Shape.mk 3 ![4, 4096, n4], y4⟩] h (ix3 b N L)
      = y1 (ix3 b N i) :=
  concatenate_apply_piece (t := Shape.mk 3 ![4, 4096, n]) 2 [⟨Shape.mk 3 ![4, 4096, n1], y1⟩, ⟨Shape.mk 3 ![4, 4096, n2], y2⟩, ⟨Shape.mk 3 ![4, 4096, n3], y3⟩, ⟨Shape.mk 3 ![4, 4096, n4], y4⟩] h (ix3 b N L) 0 (by show 0 < 4; decide) _ y1 rfl rfl (0) rfl (ix3 b N i)
    (fun a ha => by match a with | ⟨0, _⟩ => rfl | ⟨1, _⟩ => rfl | ⟨2, _⟩ => exact absurd rfl ha) e

theorem second_of (i : Fin n2) (e : n1 + 0 + i.val = L.val) :
    concatenate (Shape.mk 3 ![4, 4096, n]) 2 [⟨Shape.mk 3 ![4, 4096, n1], y1⟩, ⟨Shape.mk 3 ![4, 4096, n2], y2⟩, ⟨Shape.mk 3 ![4, 4096, n3], y3⟩, ⟨Shape.mk 3 ![4, 4096, n4], y4⟩] h (ix3 b N L)
      = y2 (ix3 b N i) :=
  concatenate_apply_piece (t := Shape.mk 3 ![4, 4096, n]) 2 [⟨Shape.mk 3 ![4, 4096, n1], y1⟩, ⟨Shape.mk 3 ![4, 4096, n2], y2⟩, ⟨Shape.mk 3 ![4, 4096, n3], y3⟩, ⟨Shape.mk 3 ![4, 4096, n4], y4⟩] h (ix3 b N L) 1 (by show 1 < 4; decide) _ y2 rfl rfl (n1 + 0) rfl (ix3 b N i)
    (fun a ha => by match a with | ⟨0, _⟩ => rfl | ⟨1, _⟩ => rfl | ⟨2, _⟩ => exact absurd rfl ha) e

theorem third_of (i : Fin n3) (e : n1 + (n2 + 0) + i.val = L.val) :
    concatenate (Shape.mk 3 ![4, 4096, n]) 2 [⟨Shape.mk 3 ![4, 4096, n1], y1⟩, ⟨Shape.mk 3 ![4, 4096, n2], y2⟩, ⟨Shape.mk 3 ![4, 4096, n3], y3⟩, ⟨Shape.mk 3 ![4, 4096, n4], y4⟩] h (ix3 b N L)
      = y3 (ix3 b N i) :=
  concatenate_apply_piece (t := Shape.mk 3 ![4, 4096, n]) 2 [⟨Shape.mk 3 ![4, 4096, n1], y1⟩, ⟨Shape.mk 3 ![4, 4096, n2], y2⟩, ⟨Shape.mk 3 ![4, 4096, n3], y3⟩, ⟨Shape.mk 3 ![4, 4096, n4], y4⟩] h (ix3 b N L) 2 (by show 2 < 4; decide) _ y3 rfl rfl (n1 + (n2 + 0)) rfl (ix3 b N i)
    (fun a ha => by match a with | ⟨0, _⟩ => rfl | ⟨1, _⟩ => rfl | ⟨2, _⟩ => exact absurd rfl ha) e

theorem fourth_of (i : Fin n4) (e : n1 + (n2 + (n3 + 0)) + i.val = L.val) :
    concatenate (Shape.mk 3 ![4, 4096, n]) 2 [⟨Shape.mk 3 ![4, 4096, n1], y1⟩, ⟨Shape.mk 3 ![4, 4096, n2], y2⟩, ⟨Shape.mk 3 ![4, 4096, n3], y3⟩, ⟨Shape.mk 3 ![4, 4096, n4], y4⟩] h (ix3 b N L)
      = y4 (ix3 b N i) :=
  concatenate_apply_piece (t := Shape.mk 3 ![4, 4096, n]) 2 [⟨Shape.mk 3 ![4, 4096, n1], y1⟩, ⟨Shape.mk 3 ![4, 4096, n2], y2⟩, ⟨Shape.mk 3 ![4, 4096, n3], y3⟩, ⟨Shape.mk 3 ![4, 4096, n4], y4⟩] h (ix3 b N L) 3 (by show 3 < 4; decide) _ y4 rfl rfl (n1 + (n2 + (n3 + 0))) rfl (ix3 b N i)
    (fun a ha => by match a with | ⟨0, _⟩ => rfl | ⟨1, _⟩ => rfl | ⟨2, _⟩ => exact absurd rfl ha) e

end Four

/-- A slice of the last axis read at a lane is the array at the lane after the offset. -/
theorem read_after {n k o : Nat} (x : (Shape.mk 3 ![4, 4096, n]).Idx → EReal)
    (h : (Shape.mk 3 ![4, 4096, n]).Slices ![0, 0, o] (Shape.mk 3 ![4, 4096, k])) (b : Fin 4) (N : Fin 4096) (i : Fin k) {L : Fin n} (e : o + i.val = L.val) :
    extractStridedSlice (Shape.mk 3 ![4, 4096, k]) ![0, 0, o] x h (ix3 b N i) = x (ix3 b N L) := by
  unfold extractStridedSlice
  refine congrArg x (funext fun a => Fin.ext ?_)
  match a with
  | ⟨0, _⟩ => exact Nat.zero_add _
  | ⟨1, _⟩ => exact Nat.zero_add _
  | ⟨2, _⟩ => exact e

theorem v254_at (R : Fin 16384) (L : Fin 13824) : val_main_v254 (F := Ideal) x0 x1 x2 x3 x4 (ix3 (batch R) (place R) L)
    = projCell (pre x0 x1 x2 x3 x4 R) (rowTurn32 R) (colTurn32 R) L := by
  unfold val_main_v254 projCell
  by_cases h1 : L.val < 1024
  · rw [if_pos h1]
    refine (first_of (val_main_v251 (F := Ideal) x0 x1 x2 x3 x4) (val_main_v252 (F := Ideal) x0 x1 x2 x3 x4) (val_main_v176 (F := Ideal) x0 x1 x2 x3 x4) (val_main_v253 (F := Ideal) x0 x1 x2 x3 x4) _ _ _ L ⟨L.val, h1⟩ (by show 0 + L.val = L.val; omega)).trans ?_
    exact v251_at x0 x1 x2 x3 x4 R ⟨L.val, h1⟩
  · rw [if_neg h1]
    by_cases h2 : L.val < 12288
    · rw [if_neg (show ¬ (12288 ≤ L.val ∧ L.val < 12544) by omega)]
      refine (second_of (val_main_v251 (F := Ideal) x0 x1 x2 x3 x4) (val_main_v252 (F := Ideal) x0 x1 x2 x3 x4) (val_main_v176 (F := Ideal) x0 x1 x2 x3 x4) (val_main_v253 (F := Ideal) x0 x1 x2 x3 x4) _ _ _ L ⟨L.val - 1024, by omega⟩ (by show 1024 + 0 + (L.val - 1024) = L.val; omega)).trans ?_
      refine Eq.trans ?_ (v26_at x0 x1 x2 x3 x4 R L)
      exact read_after _ _ _ _ _ (show 1024 + (L.val - 1024) = L.val by omega)
    · by_cases h3 : L.val < 12544
      · rw [if_pos (show 12288 ≤ L.val ∧ L.val < 12544 by omega)]
        refine (third_of (val_main_v251 (F := Ideal) x0 x1 x2 x3 x4) (val_main_v252 (F := Ideal) x0 x1 x2 x3 x4) (val_main_v176 (F := Ideal) x0 x1 x2 x3 x4) (val_main_v253 (F := Ideal) x0 x1 x2 x3 x4) _ _ _ L ⟨L.val - 12288, by omega⟩ (by show 1024 + (11264 + 0) + (L.val - 12288) = L.val; omega)).trans ?_
        refine (v176_at x0 x1 x2 x3 x4 R ⟨L.val - 12288, by omega⟩).trans ?_
        exact congrArg (headOf (pre x0 x1 x2 x3 x4 R) (rowTurn32 R) (colTurn32 R)) (Fin.ext (show 12288 + (L.val - 12288) = L.val by omega))
      · rw [if_neg (show ¬ (12288 ≤ L.val ∧ L.val < 12544) by omega)]
        refine (fourth_of (val_main_v251 (F := Ideal) x0 x1 x2 x3 x4) (val_main_v252 (F := Ideal) x0 x1 x2 x3 x4) (val_main_v176 (F := Ideal) x0 x1 x2 x3 x4) (val_main_v253 (F := Ideal) x0 x1 x2 x3 x4) _ _ _ L ⟨L.val - 12544, by omega⟩ (by show 1024 + (11264 + (256 + 0)) + (L.val - 12544) = L.val; omega)).trans ?_
        refine Eq.trans ?_ (v26_at x0 x1 x2 x3 x4 R L)
        exact read_after _ _ _ _ _ (show 12544 + (L.val - 12544) = L.val by omega)

theorem v256_at (R : Fin 16384) (l : Fin 128) : val_main_v256 (F := Ideal) x0 x1 x2 x3 x5 (ix3 (batch R) (place R) l)
    = rope 16 (keyLane (preKey x0 x1 x2 x3 x5 R)) (rowTurn16 R) (colTurn16 R) l := by
  unfold val_main_v256 val_main_v255 val_main_cst_18
  pointwise [v245_at]
  by_cases h : l.val < 64
  · rw [dif_pos h]
  · rw [dif_neg h]; unfold rope; rw [dif_neg (by omega), dif_neg (by omega), dif_neg (by omega), dif_neg (by omega)]

/-- The reference's projection, element by element. -/
theorem proj_at (R : Fin 16384) (L : Fin 13824) : val_main_v258 (F := Ideal) x0 x1 x2 x3 x4 (ix2 R L)
    = projCell (pre x0 x1 x2 x3 x4 R) (rowTurn32 R) (colTurn32 R) L := by
  refine Eq.trans (b := val_main_v257 (F := Ideal) x0 x1 x2 x3 x4 (ix2 R L)) rfl ?_
  unfold val_main_v257
  refine (shapeCast_apply _ _ _ (ix3 (batch R) (place R) L) ?_).trans (v254_at x0 x1 x2 x3 x4 R L)
  rw [Shape.rowMajor_val_two, Shape.rowMajor_val_three]
  show (R.val / 4096 * 4096 + R.val % 4096) * 13824 + L.val = R.val * 13824 + L.val
  omega

/-- The reference's turned rope key, element by element. -/
theorem key_at (R : Fin 16384) (l : Fin 128) : val_main_v259 (F := Ideal) x0 x1 x2 x3 x5 (ix2 R l)
    = rope 16 (keyLane (preKey x0 x1 x2 x3 x5 R)) (rowTurn16 R) (colTurn16 R) l := by
  unfold val_main_v259
  refine (shapeCast_apply _ _ _ (ix3 (batch R) (place R) l) ?_).trans (v256_at x0 x1 x2 x3 x5 R l)
  rw [Shape.rowMajor_val_two, Shape.rowMajor_val_three]
  show (R.val / 4096 * 4096 + R.val % 4096) * 128 + l.val = R.val * 128 + l.val
  omega

end Cert.Proof.ProjRef

end
-- ==== Proof.ProjClaim.lean ====
/- The algebraic claim of the input projection: both programs run, and their results are equal over the ideal values. -/
module

public import proofs.«01_k».proof.Defs
public import proofs.«01_k».proof.Proof.ProjRefJoin
public import proofs.«01_k».proof.Proof.Gen.InProjRefIdeal
public import proofs.«01_k».proof.Proof.Gen.InProjRefIdeal.Run

@[expose] public section

noncomputable section

namespace Cert.Proof.Proj

open Cert.InProjIdeal Cert.InProjIdeal.Gen Idealize.ShloMosaic Idealize.ShloMosaic.TcCoe Idealize.SL.Sem Idealize.ShloMosaic.Pointwise
open Idealize.ShloMosaic.StableHlo

variable (m : (ℓ : Loc nD τ sig) → Buf (Elt Ideal) ℓ)

/-- The kernel's projection is the reference's. -/
theorem proj_eq (c : Dev nD) : (dats m 0 c).arrAt 8 cfg0.N
    = Cert.InProjRefIdeal.Read.val_main_v258 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  rw [final_proj]
  funext i
  obtain ⟨R, L, rfl⟩ : ∃ (R : Fin 16384) (L : Fin 13824), i = ix2 R L :=
    ⟨i 0, i 1, funext fun a => by match a with | ⟨0, _⟩ => rfl | ⟨1, _⟩ => rfl⟩
  refine Eq.trans ?_ (Cert.Proof.ProjRef.proj_at _ _ _ _ _ R L).symm
  show projCell (pre m c R) (rowTurn32 R) (colTurn32 R) L = _
  refine congrArg (fun p => projCell p (rowTurn32 R) (colTurn32 R) L) (funext fun L => ?_)
  unfold pre
  rw [V_main_arg0, V_main_arg1, V_main_arg2, V_main_arg3, V_main_arg4]
  rfl

/-- The kernel's turned rope key is the reference's. -/
theorem key_eq (c : Dev nD) : (dats m 0 c).arrAt 9 cfg0.N
    = Cert.InProjRefIdeal.Read.val_main_v259 (F := Ideal) (m ((c : Thread nD τ).loc main_arg0)) (m ((c : Thread nD τ).loc main_arg1))
        (m ((c : Thread nD τ).loc main_arg2)) (m ((c : Thread nD τ).loc main_arg3)) (m ((c : Thread nD τ).loc main_arg5)) := by
  rw [final_key]
  funext i
  obtain ⟨R, l, rfl⟩ : ∃ (R : Fin 16384) (l : Fin 128), i = ix2 R l :=
    ⟨i 0, i 1, funext fun a => by match a with | ⟨0, _⟩ => rfl | ⟨1, _⟩ => rfl⟩
  refine Eq.trans ?_ (Cert.Proof.ProjRef.key_at _ _ _ _ _ R l).symm
  show rope 16 (keyLane (preKey m c R)) (rowTurn16 R) (colTurn16 R) l = _
  refine congrArg (fun p => rope 16 (keyLane p) (rowTurn16 R) (colTurn16 R) l) (funext fun l => ?_)
  unfold preKey
  rw [V_main_arg0, V_main_arg1, V_main_arg2, V_main_arg3, V_main_arg5]
  rfl

/-- The kernel's run leaves its two arrays at the proof data's. -/
theorem arrays (g : Dev nD → PrngReg) : θ_run defs (onTc (τ := τ) main) ⟨m, fun _ => 0, g⟩ (fun r => ∀ c : Dev nD,
    r.2.mem ((c.tc : Thread nD τ).loc main_v86_0) = (dats m 0 c).arrAt 8 cfg0.N
    ∧ r.2.mem ((c.tc : Thread nD τ).loc main_v86_1) = (dats m 0 c).arrAt 9 cfg0.N) :=
  (θ_run defs _ _).mono (fun _ h c => ⟨(h.1 c).1 8, (h.1 c).1 9⟩) (run m g)

theorem projection : algebraic_InProjIdeal_InProjRefIdeal := by
  intro m g m' g' _ hin
  refine ⟨fun c => (dats m 0 c).arrAt 8 cfg0.N, fun c => (dats m 0 c).arrAt 9 cfg0.N,
    (θ_run defs _ _).mono (fun _ h c => ⟨(h.1 c).1, (h.1 c).2, h.2.1 c⟩) (θ_run_and (arrays m g) (framed m g)),
    (θ_run Cert.InProjRefIdeal.defs _ _).mono (fun r h c => ⟨?_, ?_, (h c).2.2⟩) (Cert.InProjRefIdeal.Value.run m' g')⟩
  · have e := hin c
    have f0 : launchContents m' c (Proc.devRef .tc Cert.InProjRefIdeal.main_arg0) = m ((c : Thread nD τ).loc main_arg0) := e.1
    have f1 : launchContents m' c (Proc.devRef .tc Cert.InProjRefIdeal.main_arg1) = m ((c : Thread nD τ).loc main_arg1) := e.2.1
    have f2 : launchContents m' c (Proc.devRef .tc Cert.InProjRefIdeal.main_arg2) = m ((c : Thread nD τ).loc main_arg2) := e.2.2.1
    have f3 : launchContents m' c (Proc.devRef .tc Cert.InProjRefIdeal.main_arg3) = m ((c : Thread nD τ).loc main_arg3) := e.2.2.2.1
    have f4 : launchContents m' c (Proc.devRef .tc Cert.InProjRefIdeal.main_arg4) = m ((c : Thread nD τ).loc main_arg4) := e.2.2.2.2.1
    refine (h c).1.trans ((Cert.InProjRefIdeal.Read.val_main_v258_eq (launchContents m' c)).trans ?_)
    rw [f0, f1, f2, f3, f4]
    exact (proj_eq m c).symm
  · have e := hin c
    have f0 : launchContents m' c (Proc.devRef .tc Cert.InProjRefIdeal.main_arg0) = m ((c : Thread nD τ).loc main_arg0) := e.1
    have f1 : launchContents m' c (Proc.devRef .tc Cert.InProjRefIdeal.main_arg1) = m ((c : Thread nD τ).loc main_arg1) := e.2.1
    have f2 : launchContents m' c (Proc.devRef .tc Cert.InProjRefIdeal.main_arg2) = m ((c : Thread nD τ).loc main_arg2) := e.2.2.1
    have f3 : launchContents m' c (Proc.devRef .tc Cert.InProjRefIdeal.main_arg3) = m ((c : Thread nD τ).loc main_arg3) := e.2.2.2.1
    have f5 : launchContents m' c (Proc.devRef .tc Cert.InProjRefIdeal.main_arg5) = m ((c : Thread nD τ).loc main_arg5) := e.2.2.2.2.2
    refine (h c).2.1.trans ((Cert.InProjRefIdeal.Read.val_main_v259_eq (launchContents m' c)).trans ?_)
    rw [f0, f1, f2, f3, f5]
    exact (key_eq m c).symm

end Cert.Proof.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Pre_finite_keys
public import proofs.«01_k».proof.Proof.AttnClaim
public import proofs.«01_k».proof.Proof.MergeClaim
public import proofs.«01_k».proof.Proof.Gen.InProj
public import proofs.«01_k».proof.Proof.Gen.InProjIdeal
public import proofs.«01_k».proof.Proof.Gen.InProjRefIdeal
public import proofs.«01_k».proof.Proof.ProjWordFrame
public import proofs.«01_k».proof.Proof.ProjClaim
public import Idealize.ShloMosaic.Adequacy
public import Idealize.ShloMosaic.Init
public import proofs.«01_k».proof.Proof.Gen.KernelIdeal.Value
public import proofs.«01_k».proof.Proof.Gen.MergeIdeal.Value
public import proofs.«01_k».proof.Proof.Gen.ReferenceIdeal.Run
public import proofs.«01_k».proof.Proof.Gen.ReferenceIdeal.Read
public import proofs.«01_k».proof.Proof.Gen.MergeRefIdeal.Run
public import proofs.«01_k».proof.Proof.Gen.MergeRefIdeal.Read

@[expose] public section

noncomputable section

namespace Cert.Proof

open Idealize.ShloMosaic Idealize.SL.Sem

/-- The reference attention is a list of host operations: it leaves its arguments and has no semaphores. -/
theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run m ρ)

/-- So is the reference of the merge. -/
theorem frame_mergeRef : Cert.quiescent_MergeRefIdeal := fun m ρ _ =>
  (θ_run Cert.MergeRefIdeal.defs _ _).mono
    (fun r h => ⟨fun c => (h c).2, Idealize.ShloMosaic.sem_eq_zero_of_no_sems (by decide) r.2⟩) (Cert.MergeRefIdeal.Value.run m ρ)

/-- And the reference of the input projection. -/
theorem frame_inProjRef : Cert.quiescent_InProjRefIdeal := fun m ρ _ =>
  (θ_run Cert.InProjRefIdeal.defs _ _).mono
    (fun r h => ⟨fun c => (h c).2.2, Idealize.ShloMosaic.sem_eq_zero_of_no_sems (by decide) r.2⟩) (Cert.InProjRefIdeal.Value.run m ρ)

theorem claim : Cert.Claim := ⟨Cert.Kernel.Gen.facts, Cert.KernelIdeal.Gen.facts, Cert.ReferenceIdeal.Gen.facts,
  Cert.InProj.Gen.facts, Cert.InProjIdeal.Gen.facts, Cert.InProjRefIdeal.Gen.facts,
  Cert.Merge.Gen.facts, Cert.MergeIdeal.Gen.facts, Cert.MergeRefIdeal.Gen.facts, Cert.Pre_finite_keys.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  fun m ρ _ => ProjWord.framed m ρ, fun m ρ _ => Proj.framed m ρ, frame_inProjRef,
  fun m ρ _ => Cert.Merge.Gen.frame m ρ, fun m ρ _ => Cert.MergeIdeal.Gen.frame m ρ, frame_mergeRef,
  trivial, Attn.attention,
  IdealRules.named_const.statement Cert.InProjIdeal.κ "q_scale" .f32 0x3E0293EE#32 ((((Real.sqrt 128) * (Real.log 2))⁻¹ : ℝ) : EReal) rfl,
  Proj.projection, trivial, Join.join⟩

end Cert.Proof

end
